-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_ODx (m : (ℓ : Loc Cert.ODx.nD Cert.ODx.τ Cert.ODx.sig) → Buf (Elt Bits) ℓ) : Prop :=
  True

def Pre_ODxIdeal (m : (ℓ : Loc Cert.ODxIdeal.nD Cert.ODxIdeal.τ Cert.ODxIdeal.sig) → Buf (Elt Ideal) ℓ) : Prop :=
  True

def Pre_ODxRefIdeal (m : (ℓ : Loc Cert.ODxRefIdeal.nD Cert.ODxRefIdeal.τ Cert.ODxRefIdeal.sig) → Buf (Elt Ideal) ℓ) : Prop :=
  True

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxRefIdeal (m : (ℓ : Loc Cert.QDxRefIdeal.nD Cert.QDxRefIdeal.τ Cert.QDxRefIdeal.sig) → Buf (Elt Ideal) ℓ) : Prop :=
  True

def Pre_KeyDx (m : (ℓ : Loc Cert.KeyDx.nD Cert.KeyDx.τ Cert.KeyDx.sig) → Buf (Elt Bits) ℓ) : Prop :=
  True

def Pre_KeyDxIdeal (m : (ℓ : Loc Cert.KeyDxIdeal.nD Cert.KeyDxIdeal.τ Cert.KeyDxIdeal.sig) → Buf (Elt Ideal) ℓ) : Prop :=
  True

def Pre_KeyDxRefIdeal (m : (ℓ : Loc Cert.KeyDxRefIdeal.nD Cert.KeyDxRefIdeal.τ Cert.KeyDxRefIdeal.sig) → Buf (Elt Ideal) ℓ) : Prop :=
  True

def Pre_ValueDx (m : (ℓ : Loc Cert.ValueDx.nD Cert.ValueDx.τ Cert.ValueDx.sig) → Buf (Elt Bits) ℓ) : Prop :=
  True

def Pre_ValueDxIdeal (m : (ℓ : Loc Cert.ValueDxIdeal.nD Cert.ValueDxIdeal.τ Cert.ValueDxIdeal.sig) → Buf (Elt Ideal) ℓ) : Prop :=
  True

def Pre_ValueDxRefIdeal (m : (ℓ : Loc Cert.ValueDxRefIdeal.nD Cert.ValueDxRefIdeal.τ Cert.ValueDxRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_DownDxTop (m : (ℓ : Loc Cert.DownDxTop.nD Cert.DownDxTop.τ Cert.DownDxTop.sig) → Buf (Elt Bits) ℓ) : Prop :=
  True

def Pre_DownDxTopIdeal (m : (ℓ : Loc Cert.DownDxTopIdeal.nD Cert.DownDxTopIdeal.τ Cert.DownDxTopIdeal.sig) → Buf (Elt Ideal) ℓ) : Prop :=
  True

def Pre_DownDxTopRefIdeal (m : (ℓ : Loc Cert.DownDxTopRefIdeal.nD Cert.DownDxTopRefIdeal.τ Cert.DownDxTopRefIdeal.sig) → Buf (Elt Ideal) ℓ) : Prop :=
  True

def Pre_SiluBwd (m : (ℓ : Loc Cert.SiluBwd.nD Cert.SiluBwd.τ Cert.SiluBwd.sig) → Buf (Elt Bits) ℓ) : Prop :=
  True

def Pre_SiluBwdIdeal (m : (ℓ : Loc Cert.SiluBwdIdeal.nD Cert.SiluBwdIdeal.τ Cert.SiluBwdIdeal.sig) → Buf (Elt Ideal) ℓ) : Prop :=
  True

def Pre_SiluBwdIdeal_finite [hPre_finite : Cert.Pre_finite.Facts] (m : (ℓ : Loc Cert.SiluBwdIdeal.nD Cert.SiluBwdIdeal.τ Cert.SiluBwdIdeal.sig) → Buf (Elt Ideal) ℓ) : Prop :=
  ∀ c : Dev Cert.SiluBwdIdeal.nD,
    (Cert.Pre_finite.fn (F := Ideal) (m ((c.tc : Thread Cert.SiluBwdIdeal.nD Cert.SiluBwdIdeal.τ).loc Cert.SiluBwdIdeal.main_arg0)) (m ((c.tc : Thread Cert.SiluBwdIdeal.nD Cert.SiluBwdIdeal.τ).loc Cert.SiluBwdIdeal.main_arg1)) (m ((c.tc : Thread Cert.SiluBwdIdeal.nD Cert.SiluBwdIdeal.τ).loc Cert.SiluBwdIdeal.main_arg2)) (m ((c.tc : Thread Cert.SiluBwdIdeal.nD Cert.SiluBwdIdeal.τ).loc Cert.SiluBwdIdeal.main_arg3))) = (fun _ => 1#1)

def Pre_SiluBwdRefIdeal (m : (ℓ : Loc Cert.SiluBwdRefIdeal.nD Cert.SiluBwdRefIdeal.τ Cert.SiluBwdRefIdeal.sig) → Buf (Elt Ideal) ℓ) : Prop :=
  True

def Pre_SiluBwdRefIdeal_finite [hPre_finite : Cert.Pre_finite.Facts] (m : (ℓ : Loc Cert.SiluBwdRefIdeal.nD Cert.SiluBwdRefIdeal.τ Cert.SiluBwdRefIdeal.sig) → Buf (Elt Ideal) ℓ) : Prop :=
  ∀ c : Dev Cert.SiluBwdRefIdeal.nD,
    (Cert.Pre_finite.fn (F := Ideal) (m ((c.tc : Thread Cert.SiluBwdRefIdeal.nD Cert.SiluBwdRefIdeal.τ).loc Cert.SiluBwdRefIdeal.main_arg0)) (m ((c.tc : Thread Cert.SiluBwdRefIdeal.nD Cert.SiluBwdRefIdeal.τ).loc Cert.SiluBwdRefIdeal.main_arg1)) (m ((c.tc : Thread Cert.SiluBwdRefIdeal.nD Cert.SiluBwdRefIdeal.τ).loc Cert.SiluBwdRefIdeal.main_arg2)) (m ((c.tc : Thread Cert.SiluBwdRefIdeal.nD Cert.SiluBwdRefIdeal.τ).loc Cert.SiluBwdRefIdeal.main_arg3))) = (fun _ => 1#1)

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluRefIdeal (m : (ℓ : Loc Cert.SiluRefIdeal.nD Cert.SiluRefIdeal.τ Cert.SiluRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def Pre_NormTwo (m : (ℓ : Loc Cert.NormTwo.nD Cert.NormTwo.τ Cert.NormTwo.sig) → Buf (Elt Bits) ℓ) : Prop :=
  True

def Pre_NormTwoIdeal (m : (ℓ : Loc Cert.NormTwoIdeal.nD Cert.NormTwoIdeal.τ Cert.NormTwoIdeal.sig) → Buf (Elt Ideal) ℓ) : Prop :=
  True

def Pre_NormTwoRefIdeal (m : (ℓ : Loc Cert.NormTwoRefIdeal.nD Cert.NormTwoRefIdeal.τ Cert.NormTwoRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormBwdTwo (m : (ℓ : Loc Cert.NormBwdTwo.nD Cert.NormBwdTwo.τ Cert.NormBwdTwo.sig) → Buf (Elt Bits) ℓ) : Prop :=
  True

def Pre_NormBwdTwoIdeal (m : (ℓ : Loc Cert.NormBwdTwoIdeal.nD Cert.NormBwdTwoIdeal.τ Cert.NormBwdTwoIdeal.sig) → Buf (Elt Ideal) ℓ) : Prop :=
  True

def Pre_NormBwdTwoRefIdeal (m : (ℓ : Loc Cert.NormBwdTwoRefIdeal.nD Cert.NormBwdTwoRefIdeal.τ Cert.NormBwdTwoRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1))
      ∧ r.2.sem = fun _ => 0)

def quiescent_ODx [hODx : Cert.ODx.Facts] : Prop :=
  ∀ (m : (ℓ : Loc Cert.ODx.nD Cert.ODx.τ Cert.ODx.sig) → Buf (Elt Bits) ℓ) (g : Dev Cert.ODx.nD → PrngReg), Pre_ODx m →
    θ_run (Cert.ODx.defs (F := Bits)) (onTc (τ := Cert.ODx.τ) (Cert.ODx.main (F := Bits))) ⟨m, fun _ => 0, g⟩ (fun r => (∀ c : Dev Cert.ODx.nD,
      r.2.mem ((c.tc : Thread Cert.ODx.nD Cert.ODx.τ).loc Cert.ODx.main_arg0) = m ((c.tc : Thread Cert.ODx.nD Cert.ODx.τ).loc Cert.ODx.main_arg0)
      ∧ r.2.mem ((c.tc : Thread Cert.ODx.nD Cert.ODx.τ).loc Cert.ODx.main_arg1) = m ((c.tc : Thread Cert.ODx.nD Cert.ODx.τ).loc Cert.ODx.main_arg1)
      ∧ r.2.mem ((c.tc : Thread Cert.ODx.nD Cert.ODx.τ).loc Cert.ODx.main_arg2) = m ((c.tc : Thread Cert.ODx.nD Cert.ODx.τ).loc Cert.ODx.main_arg2))
      ∧ r.2.sem = fun _ => 0)

def quiescent_ODxIdeal [hODxIdeal : Cert.ODxIdeal.Facts] : Prop :=
  ∀ (m : (ℓ : Loc Cert.ODxIdeal.nD Cert.ODxIdeal.τ Cert.ODxIdeal.sig) → Buf (Elt Ideal) ℓ) (g : Dev Cert.ODxIdeal.nD → PrngReg), Pre_ODxIdeal m →
    θ_run (Cert.ODxIdeal.defs (F := Ideal)) (onTc (τ := Cert.ODxIdeal.τ) (Cert.ODxIdeal.main (F := Ideal))) ⟨m, fun _ => 0, g⟩ (fun r => (∀ c : Dev Cert.ODxIdeal.nD,
      r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
      ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1)
      ∧ r.2.mem ((c.tc : Thread Cert.ODxIdeal.nD Cert.ODxIdeal.τ).loc Cert.ODxIdeal.main_arg2) = m ((c.tc : Thread Cert.ODxIdeal.nD Cert.ODxIdeal.τ).loc Cert.ODxIdeal.main_arg2))
      ∧ r.2.sem = fun _ => 0)

def quiescent_ODxRefIdeal [hODxRefIdeal : Cert.ODxRefIdeal.Facts] : Prop :=
  ∀ (m : (ℓ : Loc Cert.ODxRefIdeal.nD Cert.ODxRefIdeal.τ Cert.ODxRefIdeal.sig) → Buf (Elt Ideal) ℓ) (g : Dev Cert.ODxRefIdeal.nD → PrngReg), Pre_ODxRefIdeal m →
    θ_run (Cert.ODxRefIdeal.defs (F := Ideal)) (onTc (τ := Cert.ODxRefIdeal.τ) (Cert.ODxRefIdeal.main (F := Ideal))) ⟨m, fun _ => 0, g⟩ (fun r => (∀ c : Dev Cert.ODxRefIdeal.nD,
      r.2.mem ((c.tc : Thread Cert.ODxRefIdeal.nD Cert.ODxRefIdeal.τ).loc Cert.ODxRefIdeal.main_arg0) = m ((c.tc : Thread Cert.ODxRefIdeal.nD Cert.ODxRefIdeal.τ).loc Cert.ODxRefIdeal.main_arg0)
      ∧ r.2.mem ((c.tc : Thread Cert.ODxRefIdeal.nD Cert.ODxRefIdeal.τ).loc Cert.ODxRefIdeal.main_arg1) = m ((c.tc : Thread Cert.ODxRefIdeal.nD Cert.ODxRefIdeal.τ).loc Cert.ODxRefIdeal.main_arg1)
      ∧ r.2.mem ((c.tc : Thread Cert.ODxRefIdeal.nD Cert.ODxRefIdeal.τ).loc Cert.ODxRefIdeal.main_arg2) = m ((c.tc : Thread Cert.ODxRefIdeal.nD Cert.ODxRefIdeal.τ).loc Cert.ODxRefIdeal.main_arg2))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ r.2.sem = fun _ => 0)

def quiescent_QDxRefIdeal [hQDxRefIdeal : Cert.QDxRefIdeal.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1))
      ∧ r.2.sem = fun _ => 0)

def quiescent_KeyDx [hKeyDx : Cert.KeyDx.Facts] : Prop :=
  ∀ (m : (ℓ : Loc Cert.KeyDx.nD Cert.KeyDx.τ Cert.KeyDx.sig) → Buf (Elt Bits) ℓ) (g : Dev Cert.KeyDx.nD → PrngReg), Pre_KeyDx m →
    θ_run (Cert.KeyDx.defs (F := Bits)) (onTc (τ := Cert.KeyDx.τ) (Cert.KeyDx.main (F := Bits))) ⟨m, fun _ => 0, g⟩ (fun r => (∀ c : Dev Cert.KeyDx.nD,
      r.2.mem ((c.tc : Thread Cert.KeyDx.nD Cert.KeyDx.τ).loc Cert.KeyDx.main_arg0) = m ((c.tc : Thread Cert.KeyDx.nD Cert.KeyDx.τ).loc Cert.KeyDx.main_arg0)
      ∧ r.2.mem ((c.tc : Thread Cert.KeyDx.nD Cert.KeyDx.τ).loc Cert.KeyDx.main_arg1) = m ((c.tc : Thread Cert.KeyDx.nD Cert.KeyDx.τ).loc Cert.KeyDx.main_arg1))
      ∧ r.2.sem = fun _ => 0)

def quiescent_KeyDxIdeal [hKeyDxIdeal : Cert.KeyDxIdeal.Facts] : Prop :=
  ∀ (m : (ℓ : Loc Cert.KeyDxIdeal.nD Cert.KeyDxIdeal.τ Cert.KeyDxIdeal.sig) → Buf (Elt Ideal) ℓ) (g : Dev Cert.KeyDxIdeal.nD → PrngReg), Pre_KeyDxIdeal m →
    θ_run (Cert.KeyDxIdeal.defs (F := Ideal)) (onTc (τ := Cert.KeyDxIdeal.τ) (Cert.KeyDxIdeal.main (F := Ideal))) ⟨m, fun _ => 0, g⟩ (fun r => (∀ c : Dev Cert.KeyDxIdeal.nD,
      r.2.mem ((c.tc : Thread Cert.KeyDxIdeal.nD Cert.KeyDxIdeal.τ).loc Cert.KeyDxIdeal.main_arg0) = m ((c.tc : Thread Cert.KeyDxIdeal.nD Cert.KeyDxIdeal.τ).loc Cert.KeyDxIdeal.main_arg0)
      ∧ r.2.mem ((c.tc : Thread Cert.KeyDxIdeal.nD Cert.KeyDxIdeal.τ).loc Cert.KeyDxIdeal.main_arg1) = m ((c.tc : Thread Cert.KeyDxIdeal.nD Cert.KeyDxIdeal.τ).loc Cert.KeyDxIdeal.main_arg1))
      ∧ r.2.sem = fun _ => 0)

def quiescent_KeyDxRefIdeal [hKeyDxRefIdeal : Cert.KeyDxRefIdeal.Facts] : Prop :=
  ∀ (m : (ℓ : Loc Cert.KeyDxRefIdeal.nD Cert.KeyDxRefIdeal.τ Cert.KeyDxRefIdeal.sig) → Buf (Elt Ideal) ℓ) (g : Dev Cert.KeyDxRefIdeal.nD → PrngReg), Pre_KeyDxRefIdeal m →
    θ_run (Cert.KeyDxRefIdeal.defs (F := Ideal)) (onTc (τ := Cert.KeyDxRefIdeal.τ) (Cert.KeyDxRefIdeal.main (F := Ideal))) ⟨m, fun _ => 0, g⟩ (fun r => (∀ c : Dev Cert.KeyDxRefIdeal.nD,
      r.2.mem ((c.tc : Thread Cert.KeyDxRefIdeal.nD Cert.KeyDxRefIdeal.τ).loc Cert.KeyDxRefIdeal.main_arg0) = m ((c.tc : Thread Cert.KeyDxRefIdeal.nD Cert.KeyDxRefIdeal.τ).loc Cert.KeyDxRefIdeal.main_arg0)
      ∧ r.2.mem ((c.tc : Thread Cert.KeyDxRefIdeal.nD Cert.KeyDxRefIdeal.τ).loc Cert.KeyDxRefIdeal.main_arg1) = m ((c.tc : Thread Cert.KeyDxRefIdeal.nD Cert.KeyDxRefIdeal.τ).loc Cert.KeyDxRefIdeal.main_arg1))
      ∧ r.2.sem = fun _ => 0)

def quiescent_ValueDx [hValueDx : Cert.ValueDx.Facts] : Prop :=
  ∀ (m : (ℓ : Loc Cert.ValueDx.nD Cert.ValueDx.τ Cert.ValueDx.sig) → Buf (Elt Bits) ℓ) (g : Dev Cert.ValueDx.nD → PrngReg), Pre_ValueDx m →
    θ_run (Cert.ValueDx.defs (F := Bits)) (onTc (τ := Cert.ValueDx.τ) (Cert.ValueDx.main (F := Bits))) ⟨m, fun _ => 0, g⟩ (fun r => (∀ c : Dev Cert.ValueDx.nD,
      r.2.mem ((c.tc : Thread Cert.ValueDx.nD Cert.ValueDx.τ).loc Cert.ValueDx.main_arg0) = m ((c.tc : Thread Cert.ValueDx.nD Cert.ValueDx.τ).loc Cert.ValueDx.main_arg0)
      ∧ r.2.mem ((c.tc : Thread Cert.ValueDx.nD Cert.ValueDx.τ).loc Cert.ValueDx.main_arg1) = m ((c.tc : Thread Cert.ValueDx.nD Cert.ValueDx.τ).loc Cert.ValueDx.main_arg1)
      ∧ r.2.mem ((c.tc : Thread Cert.ValueDx.nD Cert.ValueDx.τ).loc Cert.ValueDx.main_arg2) = m ((c.tc : Thread Cert.ValueDx.nD Cert.ValueDx.τ).loc Cert.ValueDx.main_arg2))
      ∧ r.2.sem = fun _ => 0)

def quiescent_ValueDxIdeal [hValueDxIdeal : Cert.ValueDxIdeal.Facts] : Prop :=
  ∀ (m : (ℓ : Loc Cert.ValueDxIdeal.nD Cert.ValueDxIdeal.τ Cert.ValueDxIdeal.sig) → Buf (Elt Ideal) ℓ) (g : Dev Cert.ValueDxIdeal.nD → PrngReg), Pre_ValueDxIdeal m →
    θ_run (Cert.ValueDxIdeal.defs (F := Ideal)) (onTc (τ := Cert.ValueDxIdeal.τ) (Cert.ValueDxIdeal.main (F := Ideal))) ⟨m, fun _ => 0, g⟩ (fun r => (∀ c : Dev Cert.ValueDxIdeal.nD,
      r.2.mem ((c.tc : Thread Cert.ValueDxIdeal.nD Cert.ValueDxIdeal.τ).loc Cert.ValueDxIdeal.main_arg0) = m ((c.tc : Thread Cert.ValueDxIdeal.nD Cert.ValueDxIdeal.τ).loc Cert.ValueDxIdeal.main_arg0)
      ∧ r.2.mem ((c.tc : Thread Cert.ValueDxIdeal.nD Cert.ValueDxIdeal.τ).loc Cert.ValueDxIdeal.main_arg1) = m ((c.tc : Thread Cert.ValueDxIdeal.nD Cert.ValueDxIdeal.τ).loc Cert.ValueDxIdeal.main_arg1)
      ∧ r.2.mem ((c.tc : Thread Cert.ValueDxIdeal.nD Cert.ValueDxIdeal.τ).loc Cert.ValueDxIdeal.main_arg2) = m ((c.tc : Thread Cert.ValueDxIdeal.nD Cert.ValueDxIdeal.τ).loc Cert.ValueDxIdeal.main_arg2))
      ∧ r.2.sem = fun _ => 0)

def quiescent_ValueDxRefIdeal [hValueDxRefIdeal : Cert.ValueDxRefIdeal.Facts] : Prop :=
  ∀ (m : (ℓ : Loc Cert.ValueDxRefIdeal.nD Cert.ValueDxRefIdeal.τ Cert.ValueDxRefIdeal.sig) → Buf (Elt Ideal) ℓ) (g : Dev Cert.ValueDxRefIdeal.nD → PrngReg), Pre_ValueDxRefIdeal m →
    θ_run (Cert.ValueDxRefIdeal.defs (F := Ideal)) (onTc (τ := Cert.ValueDxRefIdeal.τ) (Cert.ValueDxRefIdeal.main (F := Ideal))) ⟨m, fun _ => 0, g⟩ (fun r => (∀ c : Dev Cert.ValueDxRefIdeal.nD,
      r.2.mem ((c.tc : Thread Cert.ValueDxRefIdeal.nD Cert.ValueDxRefIdeal.τ).loc Cert.ValueDxRefIdeal.main_arg0) = m ((c.tc : Thread Cert.ValueDxRefIdeal.nD Cert.ValueDxRefIdeal.τ).loc Cert.ValueDxRefIdeal.main_arg0)
      ∧ r.2.mem ((c.tc : Thread Cert.ValueDxRefIdeal.nD Cert.ValueDxRefIdeal.τ).loc Cert.ValueDxRefIdeal.main_arg1) = m ((c.tc : Thread Cert.ValueDxRefIdeal.nD Cert.ValueDxRefIdeal.τ).loc Cert.ValueDxRefIdeal.main_arg1)
      ∧ r.2.mem ((c.tc : Thread Cert.ValueDxRefIdeal.nD Cert.ValueDxRefIdeal.τ).loc Cert.ValueDxRefIdeal.main_arg2) = m ((c.tc : Thread Cert.ValueDxRefIdeal.nD Cert.ValueDxRefIdeal.τ).loc Cert.ValueDxRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1))
      ∧ r.2.sem = fun _ => 0)

def quiescent_DownDxTop [hDownDxTop : Cert.DownDxTop.Facts] : Prop :=
  ∀ (m : (ℓ : Loc Cert.DownDxTop.nD Cert.DownDxTop.τ Cert.DownDxTop.sig) → Buf (Elt Bits) ℓ) (g : Dev Cert.DownDxTop.nD → PrngReg), Pre_DownDxTop m →
    θ_run (Cert.DownDxTop.defs (F := Bits)) (onTc (τ := Cert.DownDxTop.τ) (Cert.DownDxTop.main (F := Bits))) ⟨m, fun _ => 0, g⟩ (fun r => (∀ c : Dev Cert.DownDxTop.nD,
      r.2.mem ((c.tc : Thread Cert.DownDxTop.nD Cert.DownDxTop.τ).loc Cert.DownDxTop.main_arg0) = m ((c.tc : Thread Cert.DownDxTop.nD Cert.DownDxTop.τ).loc Cert.DownDxTop.main_arg0)
      ∧ r.2.mem ((c.tc : Thread Cert.DownDxTop.nD Cert.DownDxTop.τ).loc Cert.DownDxTop.main_arg1) = m ((c.tc : Thread Cert.DownDxTop.nD Cert.DownDxTop.τ).loc Cert.DownDxTop.main_arg1))
      ∧ r.2.sem = fun _ => 0)

def quiescent_DownDxTopIdeal [hDownDxTopIdeal : Cert.DownDxTopIdeal.Facts] : Prop :=
  ∀ (m : (ℓ : Loc Cert.DownDxTopIdeal.nD Cert.DownDxTopIdeal.τ Cert.DownDxTopIdeal.sig) → Buf (Elt Ideal) ℓ) (g : Dev Cert.DownDxTopIdeal.nD → PrngReg), Pre_DownDxTopIdeal m →
    θ_run (Cert.DownDxTopIdeal.defs (F := Ideal)) (onTc (τ := Cert.DownDxTopIdeal.τ) (Cert.DownDxTopIdeal.main (F := Ideal))) ⟨m, fun _ => 0, g⟩ (fun r => (∀ c : Dev Cert.DownDxTopIdeal.nD,
      r.2.mem ((c.tc : Thread Cert.DownDxTopIdeal.nD Cert.DownDxTopIdeal.τ).loc Cert.DownDxTopIdeal.main_arg0) = m ((c.tc : Thread Cert.DownDxTopIdeal.nD Cert.DownDxTopIdeal.τ).loc Cert.DownDxTopIdeal.main_arg0)
      ∧ r.2.mem ((c.tc : Thread Cert.DownDxTopIdeal.nD Cert.DownDxTopIdeal.τ).loc Cert.DownDxTopIdeal.main_arg1) = m ((c.tc : Thread Cert.DownDxTopIdeal.nD Cert.DownDxTopIdeal.τ).loc Cert.DownDxTopIdeal.main_arg1))
      ∧ r.2.sem = fun _ => 0)

def quiescent_DownDxTopRefIdeal [hDownDxTopRefIdeal : Cert.DownDxTopRefIdeal.Facts] : Prop :=
  ∀ (m : (ℓ : Loc Cert.DownDxTopRefIdeal.nD Cert.DownDxTopRefIdeal.τ Cert.DownDxTopRefIdeal.sig) → Buf (Elt Ideal) ℓ) (g : Dev Cert.DownDxTopRefIdeal.nD → PrngReg), Pre_DownDxTopRefIdeal m →
    θ_run (Cert.DownDxTopRefIdeal.defs (F := Ideal)) (onTc (τ := Cert.DownDxTopRefIdeal.τ) (Cert.DownDxTopRefIdeal.main (F := Ideal))) ⟨m, fun _ => 0, g⟩ (fun r => (∀ c : Dev Cert.DownDxTopRefIdeal.nD,
      r.2.mem ((c.tc : Thread Cert.DownDxTopRefIdeal.nD Cert.DownDxTopRefIdeal.τ).loc Cert.DownDxTopRefIdeal.main_arg0) = m ((c.tc : Thread Cert.DownDxTopRefIdeal.nD Cert.DownDxTopRefIdeal.τ).loc Cert.DownDxTopRefIdeal.main_arg0)
      ∧ r.2.mem ((c.tc : Thread Cert.DownDxTopRefIdeal.nD Cert.DownDxTopRefIdeal.τ).loc Cert.DownDxTopRefIdeal.main_arg1) = m ((c.tc : Thread Cert.DownDxTopRefIdeal.nD Cert.DownDxTopRefIdeal.τ).loc Cert.DownDxTopRefIdeal.main_arg1))
      ∧ r.2.sem = fun _ => 0)

def quiescent_SiluBwd [hSiluBwd : Cert.SiluBwd.Facts] : Prop :=
  ∀ (m : (ℓ : Loc Cert.SiluBwd.nD Cert.SiluBwd.τ Cert.SiluBwd.sig) → Buf (Elt Bits) ℓ) (g : Dev Cert.SiluBwd.nD → PrngReg), Pre_SiluBwd m →
    θ_run (Cert.SiluBwd.defs (F := Bits)) (onTc (τ := Cert.SiluBwd.τ) (Cert.SiluBwd.main (F := Bits))) ⟨m, fun _ => 0, g⟩ (fun r => (∀ c : Dev Cert.SiluBwd.nD,
      r.2.mem ((c.tc : Thread Cert.SiluBwd.nD Cert.SiluBwd.τ).loc Cert.SiluBwd.main_arg0) = m ((c.tc : Thread Cert.SiluBwd.nD Cert.SiluBwd.τ).loc Cert.SiluBwd.main_arg0)
      ∧ r.2.mem ((c.tc : Thread Cert.SiluBwd.nD Cert.SiluBwd.τ).loc Cert.SiluBwd.main_arg1) = m ((c.tc : Thread Cert.SiluBwd.nD Cert.SiluBwd.τ).loc Cert.SiluBwd.main_arg1)
      ∧ r.2.mem ((c.tc : Thread Cert.SiluBwd.nD Cert.SiluBwd.τ).loc Cert.SiluBwd.main_arg2) = m ((c.tc : Thread Cert.SiluBwd.nD Cert.SiluBwd.τ).loc Cert.SiluBwd.main_arg2)
      ∧ r.2.mem ((c.tc : Thread Cert.SiluBwd.nD Cert.SiluBwd.τ).loc Cert.SiluBwd.main_arg3) = m ((c.tc : Thread Cert.SiluBwd.nD Cert.SiluBwd.τ).loc Cert.SiluBwd.main_arg3))
      ∧ r.2.sem = fun _ => 0)

def quiescent_SiluBwdIdeal [hSiluBwdIdeal : Cert.SiluBwdIdeal.Facts] : Prop :=
  ∀ (m : (ℓ : Loc Cert.SiluBwdIdeal.nD Cert.SiluBwdIdeal.τ Cert.SiluBwdIdeal.sig) → Buf (Elt Ideal) ℓ) (g : Dev Cert.SiluBwdIdeal.nD → PrngReg), Pre_SiluBwdIdeal m →
    θ_run (Cert.SiluBwdIdeal.defs (F := Ideal)) (onTc (τ := Cert.SiluBwdIdeal.τ) (Cert.SiluBwdIdeal.main (F := Ideal))) ⟨m, fun _ => 0, g⟩ (fun r => (∀ c : Dev Cert.SiluBwdIdeal.nD,
      r.2.mem ((c.tc : Thread Cert.SiluBwdIdeal.nD Cert.SiluBwdIdeal.τ).loc Cert.SiluBwdIdeal.main_arg0) = m ((c.tc : Thread Cert.SiluBwdIdeal.nD Cert.SiluBwdIdeal.τ).loc Cert.SiluBwdIdeal.main_arg0)
      ∧ r.2.mem ((c.tc : Thread Cert.SiluBwdIdeal.nD Cert.SiluBwdIdeal.τ).loc Cert.SiluBwdIdeal.main_arg1) = m ((c.tc : Thread Cert.SiluBwdIdeal.nD Cert.SiluBwdIdeal.τ).loc Cert.SiluBwdIdeal.main_arg1)
      ∧ r.2.mem ((c.tc : Thread Cert.SiluBwdIdeal.nD Cert.SiluBwdIdeal.τ).loc Cert.SiluBwdIdeal.main_arg2) = m ((c.tc : Thread Cert.SiluBwdIdeal.nD Cert.SiluBwdIdeal.τ).loc Cert.SiluBwdIdeal.main_arg2)
      ∧ r.2.mem ((c.tc : Thread Cert.SiluBwdIdeal.nD Cert.SiluBwdIdeal.τ).loc Cert.SiluBwdIdeal.main_arg3) = m ((c.tc : Thread Cert.SiluBwdIdeal.nD Cert.SiluBwdIdeal.τ).loc Cert.SiluBwdIdeal.main_arg3))
      ∧ r.2.sem = fun _ => 0)

def quiescent_SiluBwdIdeal_pre_finite [hSiluBwdIdeal : Cert.SiluBwdIdeal.Facts] [hPre_finite : Cert.Pre_finite.Facts] : Prop :=
  ∀ (m : (ℓ : Loc Cert.SiluBwdIdeal.nD Cert.SiluBwdIdeal.τ Cert.SiluBwdIdeal.sig) → Buf (Elt Ideal) ℓ) (g : Dev Cert.SiluBwdIdeal.nD → PrngReg), Pre_SiluBwdIdeal_finite m →
    θ_run (Cert.SiluBwdIdeal.defs (F := Ideal)) (onTc (τ := Cert.SiluBwdIdeal.τ) (Cert.SiluBwdIdeal.main (F := Ideal))) ⟨m, fun _ => 0, g⟩ (fun r => (∀ c : Dev Cert.SiluBwdIdeal.nD,
      r.2.mem ((c.tc : Thread Cert.SiluBwdIdeal.nD Cert.SiluBwdIdeal.τ).loc Cert.SiluBwdIdeal.main_arg0) = m ((c.tc : Thread Cert.SiluBwdIdeal.nD Cert.SiluBwdIdeal.τ).loc Cert.SiluBwdIdeal.main_arg0)
      ∧ r.2.mem ((c.tc : Thread Cert.SiluBwdIdeal.nD Cert.SiluBwdIdeal.τ).loc Cert.SiluBwdIdeal.main_arg1) = m ((c.tc : Thread Cert.SiluBwdIdeal.nD Cert.SiluBwdIdeal.τ).loc Cert.SiluBwdIdeal.main_arg1)
      ∧ r.2.mem ((c.tc : Thread Cert.SiluBwdIdeal.nD Cert.SiluBwdIdeal.τ).loc Cert.SiluBwdIdeal.main_arg2) = m ((c.tc : Thread Cert.SiluBwdIdeal.nD Cert.SiluBwdIdeal.τ).loc Cert.SiluBwdIdeal.main_arg2)
      ∧ r.2.mem ((c.tc : Thread Cert.SiluBwdIdeal.nD Cert.SiluBwdIdeal.τ).loc Cert.SiluBwdIdeal.main_arg3) = m ((c.tc : Thread Cert.SiluBwdIdeal.nD Cert.SiluBwdIdeal.τ).loc Cert.SiluBwdIdeal.main_arg3))
      ∧ r.2.sem = fun _ => 0)

def quiescent_SiluBwdRefIdeal [hSiluBwdRefIdeal : Cert.SiluBwdRefIdeal.Facts] : Prop :=
  ∀ (m : (ℓ : Loc Cert.SiluBwdRefIdeal.nD Cert.SiluBwdRefIdeal.τ Cert.SiluBwdRefIdeal.sig) → Buf (Elt Ideal) ℓ) (g : Dev Cert.SiluBwdRefIdeal.nD → PrngReg), Pre_SiluBwdRefIdeal m →
    θ_run (Cert.SiluBwdRefIdeal.defs (F := Ideal)) (onTc (τ := Cert.SiluBwdRefIdeal.τ) (Cert.SiluBwdRefIdeal.main (F := Ideal))) ⟨m, fun _ => 0, g⟩ (fun r => (∀ c : Dev Cert.SiluBwdRefIdeal.nD,
      r.2.mem ((c.tc : Thread Cert.SiluBwdRefIdeal.nD Cert.SiluBwdRefIdeal.τ).loc Cert.SiluBwdRefIdeal.main_arg0) = m ((c.tc : Thread Cert.SiluBwdRefIdeal.nD Cert.SiluBwdRefIdeal.τ).loc Cert.SiluBwdRefIdeal.main_arg0)
      ∧ r.2.mem ((c.tc : Thread Cert.SiluBwdRefIdeal.nD Cert.SiluBwdRefIdeal.τ).loc Cert.SiluBwdRefIdeal.main_arg1) = m ((c.tc : Thread Cert.SiluBwdRefIdeal.nD Cert.SiluBwdRefIdeal.τ).loc Cert.SiluBwdRefIdeal.main_arg1)
      ∧ r.2.mem ((c.tc : Thread Cert.SiluBwdRefIdeal.nD Cert.SiluBwdRefIdeal.τ).loc Cert.SiluBwdRefIdeal.main_arg2) = m ((c.tc : Thread Cert.SiluBwdRefIdeal.nD Cert.SiluBwdRefIdeal.τ).loc Cert.SiluBwdRefIdeal.main_arg2)
      ∧ r.2.mem ((c.tc : Thread Cert.SiluBwdRefIdeal.nD Cert.SiluBwdRefIdeal.τ).loc Cert.SiluBwdRefIdeal.main_arg3) = m ((c.tc : Thread Cert.SiluBwdRefIdeal.nD Cert.SiluBwdRefIdeal.τ).loc Cert.SiluBwdRefIdeal.main_arg3))
      ∧ r.2.sem = fun _ => 0)

def quiescent_SiluBwdRefIdeal_pre_finite [hSiluBwdRefIdeal : Cert.SiluBwdRefIdeal.Facts] [hPre_finite : Cert.Pre_finite.Facts] : Prop :=
  ∀ (m : (ℓ : Loc Cert.SiluBwdRefIdeal.nD Cert.SiluBwdRefIdeal.τ Cert.SiluBwdRefIdeal.sig) → Buf (Elt Ideal) ℓ) (g : Dev Cert.SiluBwdRefIdeal.nD → PrngReg), Pre_SiluBwdRefIdeal_finite m →
    θ_run (Cert.SiluBwdRefIdeal.defs (F := Ideal)) (onTc (τ := Cert.SiluBwdRefIdeal.τ) (Cert.SiluBwdRefIdeal.main (F := Ideal))) ⟨m, fun _ => 0, g⟩ (fun r => (∀ c : Dev Cert.SiluBwdRefIdeal.nD,
      r.2.mem ((c.tc : Thread Cert.SiluBwdRefIdeal.nD Cert.SiluBwdRefIdeal.τ).loc Cert.SiluBwdRefIdeal.main_arg0) = m ((c.tc : Thread Cert.SiluBwdRefIdeal.nD Cert.SiluBwdRefIdeal.τ).loc Cert.SiluBwdRefIdeal.main_arg0)
      ∧ r.2.mem ((c.tc : Thread Cert.SiluBwdRefIdeal.nD Cert.SiluBwdRefIdeal.τ).loc Cert.SiluBwdRefIdeal.main_arg1) = m ((c.tc : Thread Cert.SiluBwdRefIdeal.nD Cert.SiluBwdRefIdeal.τ).loc Cert.SiluBwdRefIdeal.main_arg1)
      ∧ r.2.mem ((c.tc : Thread Cert.SiluBwdRefIdeal.nD Cert.SiluBwdRefIdeal.τ).loc Cert.SiluBwdRefIdeal.main_arg2) = m ((c.tc : Thread Cert.SiluBwdRefIdeal.nD Cert.SiluBwdRefIdeal.τ).loc Cert.SiluBwdRefIdeal.main_arg2)
      ∧ r.2.mem ((c.tc : Thread Cert.SiluBwdRefIdeal.nD Cert.SiluBwdRefIdeal.τ).loc Cert.SiluBwdRefIdeal.main_arg3) = m ((c.tc : Thread Cert.SiluBwdRefIdeal.nD Cert.SiluBwdRefIdeal.τ).loc Cert.SiluBwdRefIdeal.main_arg3))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0)
      ∧ r.2.mem ((c.tc : Thread Cert.Silu.nD Cert.Silu.τ).loc Cert.Silu.main_arg1) = m ((c.tc : Thread Cert.Silu.nD Cert.Silu.τ).loc Cert.Silu.main_arg1)
      ∧ r.2.mem ((c.tc : Thread Cert.Silu.nD Cert.Silu.τ).loc Cert.Silu.main_arg2) = m ((c.tc : Thread Cert.Silu.nD Cert.Silu.τ).loc Cert.Silu.main_arg2))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
      ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0)
      ∧ r.2.mem ((c.tc : Thread Cert.SiluRefIdeal.nD Cert.SiluRefIdeal.τ).loc Cert.SiluRefIdeal.main_arg1) = m ((c.tc : Thread Cert.SiluRefIdeal.nD Cert.SiluRefIdeal.τ).loc Cert.SiluRefIdeal.main_arg1)
      ∧ r.2.mem ((c.tc : Thread Cert.SiluRefIdeal.nD Cert.SiluRefIdeal.τ).loc Cert.SiluRefIdeal.main_arg2) = m ((c.tc : Thread Cert.SiluRefIdeal.nD Cert.SiluRefIdeal.τ).loc Cert.SiluRefIdeal.main_arg2))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1)
      ∧ r.2.mem ((c.tc : Thread Cert.NormFirst.nD Cert.NormFirst.τ).loc Cert.NormFirst.main_arg2) = m ((c.tc : Thread Cert.NormFirst.nD Cert.NormFirst.τ).loc Cert.NormFirst.main_arg2))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2))
      ∧ r.2.sem = fun _ => 0)

def quiescent_NormTwo [hNormTwo : Cert.NormTwo.Facts] : Prop :=
  ∀ (m : (ℓ : Loc Cert.NormTwo.nD Cert.NormTwo.τ Cert.NormTwo.sig) → Buf (Elt Bits) ℓ) (g : Dev Cert.NormTwo.nD → PrngReg), Pre_NormTwo m →
    θ_run (Cert.NormTwo.defs (F := Bits)) (onTc (τ := Cert.NormTwo.τ) (Cert.NormTwo.main (F := Bits))) ⟨m, fun _ => 0, g⟩ (fun r => (∀ c : Dev Cert.NormTwo.nD,
      r.2.mem ((c.tc : Thread Cert.NormTwo.nD Cert.NormTwo.τ).loc Cert.NormTwo.main_arg0) = m ((c.tc : Thread Cert.NormTwo.nD Cert.NormTwo.τ).loc Cert.NormTwo.main_arg0)
      ∧ r.2.mem ((c.tc : Thread Cert.NormTwo.nD Cert.NormTwo.τ).loc Cert.NormTwo.main_arg1) = m ((c.tc : Thread Cert.NormTwo.nD Cert.NormTwo.τ).loc Cert.NormTwo.main_arg1)
      ∧ r.2.mem ((c.tc : Thread Cert.NormTwo.nD Cert.NormTwo.τ).loc Cert.NormTwo.main_arg2) = m ((c.tc : Thread Cert.NormTwo.nD Cert.NormTwo.τ).loc Cert.NormTwo.main_arg2))
      ∧ r.2.sem = fun _ => 0)

def quiescent_NormTwoIdeal [hNormTwoIdeal : Cert.NormTwoIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg), Pre_NormTwoIdeal m →
    θ_run (Cert.NormTwoIdeal.defs (F := Ideal)) (onTc (τ := Cert.NormTwoIdeal.τ) (Cert.NormTwoIdeal.main (F := Ideal))) ⟨m, fun _ => 0, g⟩ (fun r => (∀ c : Dev Cert.NormTwoIdeal.nD,
      r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
      ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
      ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2))
      ∧ r.2.sem = fun _ => 0)

def quiescent_NormTwoRefIdeal [hNormTwoRefIdeal : Cert.NormTwoRefIdeal.Facts] : Prop :=
  ∀ (m : (ℓ : Loc Cert.NormTwoRefIdeal.nD Cert.NormTwoRefIdeal.τ Cert.NormTwoRefIdeal.sig) → Buf (Elt Ideal) ℓ) (g : Dev Cert.NormTwoRefIdeal.nD → PrngReg), Pre_NormTwoRefIdeal m →
    θ_run (Cert.NormTwoRefIdeal.defs (F := Ideal)) (onTc (τ := Cert.NormTwoRefIdeal.τ) (Cert.NormTwoRefIdeal.main (F := Ideal))) ⟨m, fun _ => 0, g⟩ (fun r => (∀ c : Dev Cert.NormTwoRefIdeal.nD,
      r.2.mem ((c.tc : Thread Cert.NormTwoRefIdeal.nD Cert.NormTwoRefIdeal.τ).loc Cert.NormTwoRefIdeal.main_arg0) = m ((c.tc : Thread Cert.NormTwoRefIdeal.nD Cert.NormTwoRefIdeal.τ).loc Cert.NormTwoRefIdeal.main_arg0)
      ∧ r.2.mem ((c.tc : Thread Cert.NormTwoRefIdeal.nD Cert.NormTwoRefIdeal.τ).loc Cert.NormTwoRefIdeal.main_arg1) = m ((c.tc : Thread Cert.NormTwoRefIdeal.nD Cert.NormTwoRefIdeal.τ).loc Cert.NormTwoRefIdeal.main_arg1)
      ∧ r.2.mem ((c.tc : Thread Cert.NormTwoRefIdeal.nD Cert.NormTwoRefIdeal.τ).loc Cert.NormTwoRefIdeal.main_arg2) = m ((c.tc : Thread Cert.NormTwoRefIdeal.nD Cert.NormTwoRefIdeal.τ).loc Cert.NormTwoRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormBwdTwo [hNormBwdTwo : Cert.NormBwdTwo.Facts] : Prop :=
  ∀ (m : (ℓ : Loc Cert.NormBwdTwo.nD Cert.NormBwdTwo.τ Cert.NormBwdTwo.sig) → Buf (Elt Bits) ℓ) (g : Dev Cert.NormBwdTwo.nD → PrngReg), Pre_NormBwdTwo m →
    θ_run (Cert.NormBwdTwo.defs (F := Bits)) (onTc (τ := Cert.NormBwdTwo.τ) (Cert.NormBwdTwo.main (F := Bits))) ⟨m, fun _ => 0, g⟩ (fun r => (∀ c : Dev Cert.NormBwdTwo.nD,
      r.2.mem ((c.tc : Thread Cert.NormBwdTwo.nD Cert.NormBwdTwo.τ).loc Cert.NormBwdTwo.main_arg0) = m ((c.tc : Thread Cert.NormBwdTwo.nD Cert.NormBwdTwo.τ).loc Cert.NormBwdTwo.main_arg0)
      ∧ r.2.mem ((c.tc : Thread Cert.NormBwdTwo.nD Cert.NormBwdTwo.τ).loc Cert.NormBwdTwo.main_arg1) = m ((c.tc : Thread Cert.NormBwdTwo.nD Cert.NormBwdTwo.τ).loc Cert.NormBwdTwo.main_arg1)
      ∧ r.2.mem ((c.tc : Thread Cert.NormBwdTwo.nD Cert.NormBwdTwo.τ).loc Cert.NormBwdTwo.main_arg2) = m ((c.tc : Thread Cert.NormBwdTwo.nD Cert.NormBwdTwo.τ).loc Cert.NormBwdTwo.main_arg2)
      ∧ r.2.mem ((c.tc : Thread Cert.NormBwdTwo.nD Cert.NormBwdTwo.τ).loc Cert.NormBwdTwo.main_arg3) = m ((c.tc : Thread Cert.NormBwdTwo.nD Cert.NormBwdTwo.τ).loc Cert.NormBwdTwo.main_arg3)
      ∧ r.2.mem ((c.tc : Thread Cert.NormBwdTwo.nD Cert.NormBwdTwo.τ).loc Cert.NormBwdTwo.main_arg4) = m ((c.tc : Thread Cert.NormBwdTwo.nD Cert.NormBwdTwo.τ).loc Cert.NormBwdTwo.main_arg4)
      ∧ r.2.mem ((c.tc : Thread Cert.NormBwdTwo.nD Cert.NormBwdTwo.τ).loc Cert.NormBwdTwo.main_arg5) = m ((c.tc : Thread Cert.NormBwdTwo.nD Cert.NormBwdTwo.τ).loc Cert.NormBwdTwo.main_arg5))
      ∧ r.2.sem = fun _ => 0)

def quiescent_NormBwdTwoIdeal [hNormBwdTwoIdeal : Cert.NormBwdTwoIdeal.Facts] : Prop :=
  ∀ (m : (ℓ : Loc Cert.NormBwdTwoIdeal.nD Cert.NormBwdTwoIdeal.τ Cert.NormBwdTwoIdeal.sig) → Buf (Elt Ideal) ℓ) (g : Dev Cert.NormBwdTwoIdeal.nD → PrngReg), Pre_NormBwdTwoIdeal m →
    θ_run (Cert.NormBwdTwoIdeal.defs (F := Ideal)) (onTc (τ := Cert.NormBwdTwoIdeal.τ) (Cert.NormBwdTwoIdeal.main (F := Ideal))) ⟨m, fun _ => 0, g⟩ (fun r => (∀ c : Dev Cert.NormBwdTwoIdeal.nD,
      r.2.mem ((c.tc : Thread Cert.NormBwdTwoIdeal.nD Cert.NormBwdTwoIdeal.τ).loc Cert.NormBwdTwoIdeal.main_arg0) = m ((c.tc : Thread Cert.NormBwdTwoIdeal.nD Cert.NormBwdTwoIdeal.τ).loc Cert.NormBwdTwoIdeal.main_arg0)
      ∧ r.2.mem ((c.tc : Thread Cert.NormBwdTwoIdeal.nD Cert.NormBwdTwoIdeal.τ).loc Cert.NormBwdTwoIdeal.main_arg1) = m ((c.tc : Thread Cert.NormBwdTwoIdeal.nD Cert.NormBwdTwoIdeal.τ).loc Cert.NormBwdTwoIdeal.main_arg1)
      ∧ r.2.mem ((c.tc : Thread Cert.NormBwdTwoIdeal.nD Cert.NormBwdTwoIdeal.τ).loc Cert.NormBwdTwoIdeal.main_arg2) = m ((c.tc : Thread Cert.NormBwdTwoIdeal.nD Cert.NormBwdTwoIdeal.τ).loc Cert.NormBwdTwoIdeal.main_arg2)
      ∧ r.2.mem ((c.tc : Thread Cert.NormBwdTwoIdeal.nD Cert.NormBwdTwoIdeal.τ).loc Cert.NormBwdTwoIdeal.main_arg3) = m ((c.tc : Thread Cert.NormBwdTwoIdeal.nD Cert.NormBwdTwoIdeal.τ).loc Cert.NormBwdTwoIdeal.main_arg3)
      ∧ r.2.mem ((c.tc : Thread Cert.NormBwdTwoIdeal.nD Cert.NormBwdTwoIdeal.τ).loc Cert.NormBwdTwoIdeal.main_arg4) = m ((c.tc : Thread Cert.NormBwdTwoIdeal.nD Cert.NormBwdTwoIdeal.τ).loc Cert.NormBwdTwoIdeal.main_arg4)
      ∧ r.2.mem ((c.tc : Thread Cert.NormBwdTwoIdeal.nD Cert.NormBwdTwoIdeal.τ).loc Cert.NormBwdTwoIdeal.main_arg5) = m ((c.tc : Thread Cert.NormBwdTwoIdeal.nD Cert.NormBwdTwoIdeal.τ).loc Cert.NormBwdTwoIdeal.main_arg5))
      ∧ r.2.sem = fun _ => 0)

def quiescent_NormBwdTwoRefIdeal [hNormBwdTwoRefIdeal : Cert.NormBwdTwoRefIdeal.Facts] : Prop :=
  ∀ (m : (ℓ : Loc Cert.NormBwdTwoRefIdeal.nD Cert.NormBwdTwoRefIdeal.τ Cert.NormBwdTwoRefIdeal.sig) → Buf (Elt Ideal) ℓ) (g : Dev Cert.NormBwdTwoRefIdeal.nD → PrngReg), Pre_NormBwdTwoRefIdeal m →
    θ_run (Cert.NormBwdTwoRefIdeal.defs (F := Ideal)) (onTc (τ := Cert.NormBwdTwoRefIdeal.τ) (Cert.NormBwdTwoRefIdeal.main (F := Ideal))) ⟨m, fun _ => 0, g⟩ (fun r => (∀ c : Dev Cert.NormBwdTwoRefIdeal.nD,
      r.2.mem ((c.tc : Thread Cert.NormBwdTwoRefIdeal.nD Cert.NormBwdTwoRefIdeal.τ).loc Cert.NormBwdTwoRefIdeal.main_arg0) = m ((c.tc : Thread Cert.NormBwdTwoRefIdeal.nD Cert.NormBwdTwoRefIdeal.τ).loc Cert.NormBwdTwoRefIdeal.main_arg0)
      ∧ r.2.mem ((c.tc : Thread Cert.NormBwdTwoRefIdeal.nD Cert.NormBwdTwoRefIdeal.τ).loc Cert.NormBwdTwoRefIdeal.main_arg1) = m ((c.tc : Thread Cert.NormBwdTwoRefIdeal.nD Cert.NormBwdTwoRefIdeal.τ).loc Cert.NormBwdTwoRefIdeal.main_arg1)
      ∧ r.2.mem ((c.tc : Thread Cert.NormBwdTwoRefIdeal.nD Cert.NormBwdTwoRefIdeal.τ).loc Cert.NormBwdTwoRefIdeal.main_arg2) = m ((c.tc : Thread Cert.NormBwdTwoRefIdeal.nD Cert.NormBwdTwoRefIdeal.τ).loc Cert.NormBwdTwoRefIdeal.main_arg2)
      ∧ r.2.mem ((c.tc : Thread Cert.NormBwdTwoRefIdeal.nD Cert.NormBwdTwoRefIdeal.τ).loc Cert.NormBwdTwoRefIdeal.main_arg3) = m ((c.tc : Thread Cert.NormBwdTwoRefIdeal.nD Cert.NormBwdTwoRefIdeal.τ).loc Cert.NormBwdTwoRefIdeal.main_arg3)
      ∧ r.2.mem ((c.tc : Thread Cert.NormBwdTwoRefIdeal.nD Cert.NormBwdTwoRefIdeal.τ).loc Cert.NormBwdTwoRefIdeal.main_arg4) = m ((c.tc : Thread Cert.NormBwdTwoRefIdeal.nD Cert.NormBwdTwoRefIdeal.τ).loc Cert.NormBwdTwoRefIdeal.main_arg4)
      ∧ r.2.mem ((c.tc : Thread Cert.NormBwdTwoRefIdeal.nD Cert.NormBwdTwoRefIdeal.τ).loc Cert.NormBwdTwoRefIdeal.main_arg5) = m ((c.tc : Thread Cert.NormBwdTwoRefIdeal.nD Cert.NormBwdTwoRefIdeal.τ).loc Cert.NormBwdTwoRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0_0)) (v1 : (c : Dev Cert.UpDwIdeal.nD) → Buf (Elt Ideal) ((c.tc : Thread Cert.UpDwIdeal.nD Cert.UpDwIdeal.τ).loc Cert.UpDwIdeal.main_v0_1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0_0) = v0 c
          ∧ r.2.mem ((c.tc : Thread Cert.UpDwIdeal.nD Cert.UpDwIdeal.τ).loc Cert.UpDwIdeal.main_v0_1) = v1 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_v6) = v1 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0_0)) (v1 : (c : Dev Cert.DownDwIdeal.nD) → Buf (Elt Ideal) ((c.tc : Thread Cert.DownDwIdeal.nD Cert.DownDwIdeal.τ).loc Cert.DownDwIdeal.main_v0_1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0_0) = v0 c
          ∧ r.2.mem ((c.tc : Thread Cert.DownDwIdeal.nD Cert.DownDwIdeal.τ).loc Cert.DownDwIdeal.main_v0_1) = v1 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_v6) = v1 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0_0)) (v1 : (c : Dev Cert.InDwIdeal.nD) → Buf (Elt Ideal) ((c.tc : Thread Cert.InDwIdeal.nD Cert.InDwIdeal.τ).loc Cert.InDwIdeal.main_v0_1)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0_0) = v0 c
          ∧ r.2.mem ((c.tc : Thread Cert.InDwIdeal.nD Cert.InDwIdeal.τ).loc Cert.InDwIdeal.main_v0_1) = v1 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_v6) = v1 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0_0)) (v1 : (c : Dev Cert.SquareDwIdeal.nD) → Buf (Elt Ideal) ((c.tc : Thread Cert.SquareDwIdeal.nD Cert.SquareDwIdeal.τ).loc Cert.SquareDwIdeal.main_v0_1)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0_0) = v0 c
          ∧ r.2.mem ((c.tc : Thread Cert.SquareDwIdeal.nD Cert.SquareDwIdeal.τ).loc Cert.SquareDwIdeal.main_v0_1) = v1 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v5) = v0 c
          ∧ r.2.mem ((c.tc : Thread Cert.SquareDwRefIdeal.nD Cert.SquareDwRefIdeal.τ).loc Cert.SquareDwRefIdeal.main_v6) = v1 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1))

def preserves_ODx_ODxIdeal : Prop :=
  True

def algebraic_ODxIdeal_ODxRefIdeal [hODxIdeal : Cert.ODxIdeal.Facts] [hODxRefIdeal : Cert.ODxRefIdeal.Facts] : Prop :=
  ∀ (m : (ℓ : Loc Cert.ODxIdeal.nD Cert.ODxIdeal.τ Cert.ODxIdeal.sig) → Buf (Elt Ideal) ℓ) (g : Dev Cert.ODxIdeal.nD → PrngReg)
    (m' : (ℓ : Loc Cert.ODxRefIdeal.nD Cert.ODxRefIdeal.τ Cert.ODxRefIdeal.sig) → Buf (Elt Ideal) ℓ) (g' : Dev Cert.ODxRefIdeal.nD → PrngReg), Pre_ODxIdeal m →
    (∀ c : Dev Cert.ODxIdeal.nD,
      m' ((c.tc : Thread Cert.ODxRefIdeal.nD Cert.ODxRefIdeal.τ).loc Cert.ODxRefIdeal.main_arg0) = m ((c.tc : Thread Cert.ODxIdeal.nD Cert.ODxIdeal.τ).loc Cert.ODxIdeal.main_arg0)
      ∧ m' ((c.tc : Thread Cert.ODxRefIdeal.nD Cert.ODxRefIdeal.τ).loc Cert.ODxRefIdeal.main_arg1) = m ((c.tc : Thread Cert.ODxIdeal.nD Cert.ODxIdeal.τ).loc Cert.ODxIdeal.main_arg1)
      ∧ m' ((c.tc : Thread Cert.ODxRefIdeal.nD Cert.ODxRefIdeal.τ).loc Cert.ODxRefIdeal.main_arg2) = m ((c.tc : Thread Cert.ODxIdeal.nD Cert.ODxIdeal.τ).loc Cert.ODxIdeal.main_arg2)) →
    ∃ (v0 : (c : Dev Cert.ODxIdeal.nD) → Buf (Elt Ideal) ((c.tc : Thread Cert.ODxIdeal.nD Cert.ODxIdeal.τ).loc Cert.ODxIdeal.main_v0)),
      θ_run (Cert.ODxIdeal.defs (F := Ideal)) (onTc (τ := Cert.ODxIdeal.τ) (Cert.ODxIdeal.main (F := Ideal))) ⟨m, fun _ => 0, g⟩ (fun r => ∀ c : Dev Cert.ODxIdeal.nD,
          r.2.mem ((c.tc : Thread Cert.ODxIdeal.nD Cert.ODxIdeal.τ).loc Cert.ODxIdeal.main_v0) = v0 c
          ∧ r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
          ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1)
          ∧ r.2.mem ((c.tc : Thread Cert.ODxIdeal.nD Cert.ODxIdeal.τ).loc Cert.ODxIdeal.main_arg2) = m ((c.tc : Thread Cert.ODxIdeal.nD Cert.ODxIdeal.τ).loc Cert.ODxIdeal.main_arg2))
      ∧ θ_run (Cert.ODxRefIdeal.defs (F := Ideal)) (onTc (τ := Cert.ODxRefIdeal.τ) (Cert.ODxRefIdeal.main (F := Ideal))) ⟨m', fun _ => 0, g'⟩ (fun r => ∀ c : Dev Cert.ODxRefIdeal.nD,
          r.2.mem ((c.tc : Thread Cert.ODxRefIdeal.nD Cert.ODxRefIdeal.τ).loc Cert.ODxRefIdeal.main_v4) = v0 c
          ∧ r.2.mem ((c.tc : Thread Cert.ODxRefIdeal.nD Cert.ODxRefIdeal.τ).loc Cert.ODxRefIdeal.main_arg0) = m' ((c.tc : Thread Cert.ODxRefIdeal.nD Cert.ODxRefIdeal.τ).loc Cert.ODxRefIdeal.main_arg0)
          ∧ r.2.mem ((c.tc : Thread Cert.ODxRefIdeal.nD Cert.ODxRefIdeal.τ).loc Cert.ODxRefIdeal.main_arg1) = m' ((c.tc : Thread Cert.ODxRefIdeal.nD Cert.ODxRefIdeal.τ).loc Cert.ODxRefIdeal.main_arg1)
          ∧ r.2.mem ((c.tc : Thread Cert.ODxRefIdeal.nD Cert.ODxRefIdeal.τ).loc Cert.ODxRefIdeal.main_arg2) = m' ((c.tc : Thread Cert.ODxRefIdeal.nD Cert.ODxRefIdeal.τ).loc Cert.ODxRefIdeal.main_arg2))

def preserves_QDx_QDxIdeal : Prop :=
  True

def algebraic_QDxIdeal_QDxRefIdeal [hQDxIdeal : Cert.QDxIdeal.Facts] [hQDxRefIdeal : Cert.QDxRefIdeal.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxRefIdeal.nD Cert.QDxRefIdeal.τ Cert.QDxRefIdeal.sig) → Buf (Elt Ideal) ℓ) (g' : Dev Cert.QDxRefIdeal.nD → PrngReg), Pre_QDxIdeal m →
    (∀ c : Dev Cert.QDxIdeal.nD,
      m' ((c.tc : Thread Cert.QDxRefIdeal.nD Cert.QDxRefIdeal.τ).loc Cert.QDxRefIdeal.main_arg0) = m ((c.tc : Thread Cert.QDxIdeal.nD Cert.QDxIdeal.τ).loc Cert.QDxIdeal.main_arg0)
      ∧ m' ((c.tc : Thread Cert.QDxRefIdeal.nD Cert.QDxRefIdeal.τ).loc Cert.QDxRefIdeal.main_arg1) = m ((c.tc : Thread Cert.QDxIdeal.nD Cert.QDxIdeal.τ).loc Cert.QDxIdeal.main_arg1)) →
    ∃ (v0 : (c : Dev Cert.QDxIdeal.nD) → Buf (Elt Ideal) ((c.tc : Thread Cert.QDxIdeal.nD Cert.QDxIdeal.τ).loc Cert.QDxIdeal.main_v0)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v0) = v0 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ θ_run (Cert.QDxRefIdeal.defs (F := Ideal)) (onTc (τ := Cert.QDxRefIdeal.τ) (Cert.QDxRefIdeal.main (F := Ideal))) ⟨m', fun _ => 0, g'⟩ (fun r => ∀ c : Dev Cert.QDxRefIdeal.nD,
          r.2.mem ((c.tc : Thread Cert.QDxRefIdeal.nD Cert.QDxRefIdeal.τ).loc Cert.QDxRefIdeal.main_v5) = v0 c
          ∧ r.2.mem ((c.tc : Thread Cert.QDxRefIdeal.nD Cert.QDxRefIdeal.τ).loc Cert.QDxRefIdeal.main_arg0) = m' ((c.tc : Thread Cert.QDxRefIdeal.nD Cert.QDxRefIdeal.τ).loc Cert.QDxRefIdeal.main_arg0)
          ∧ r.2.mem ((c.tc : Thread Cert.QDxRefIdeal.nD Cert.QDxRefIdeal.τ).loc Cert.QDxRefIdeal.main_arg1) = m' ((c.tc : Thread Cert.QDxRefIdeal.nD Cert.QDxRefIdeal.τ).loc Cert.QDxRefIdeal.main_arg1))

def preserves_KeyDx_KeyDxIdeal : Prop :=
  True

def algebraic_KeyDxIdeal_KeyDxRefIdeal [hKeyDxIdeal : Cert.KeyDxIdeal.Facts] [hKeyDxRefIdeal : Cert.KeyDxRefIdeal.Facts] : Prop :=
  ∀ (m : (ℓ : Loc Cert.KeyDxIdeal.nD Cert.KeyDxIdeal.τ Cert.KeyDxIdeal.sig) → Buf (Elt Ideal) ℓ) (g : Dev Cert.KeyDxIdeal.nD → PrngReg)
    (m' : (ℓ : Loc Cert.KeyDxRefIdeal.nD Cert.KeyDxRefIdeal.τ Cert.KeyDxRefIdeal.sig) → Buf (Elt Ideal) ℓ) (g' : Dev Cert.KeyDxRefIdeal.nD → PrngReg), Pre_KeyDxIdeal m →
    (∀ c : Dev Cert.KeyDxIdeal.nD,
      m' ((c.tc : Thread Cert.KeyDxRefIdeal.nD Cert.KeyDxRefIdeal.τ).loc Cert.KeyDxRefIdeal.main_arg0) = m ((c.tc : Thread Cert.KeyDxIdeal.nD Cert.KeyDxIdeal.τ).loc Cert.KeyDxIdeal.main_arg0)
      ∧ m' ((c.tc : Thread Cert.KeyDxRefIdeal.nD Cert.KeyDxRefIdeal.τ).loc Cert.KeyDxRefIdeal.main_arg1) = m ((c.tc : Thread Cert.KeyDxIdeal.nD Cert.KeyDxIdeal.τ).loc Cert.KeyDxIdeal.main_arg1)) →
    ∃ (v0 : (c : Dev Cert.KeyDxIdeal.nD) → Buf (Elt Ideal) ((c.tc : Thread Cert.KeyDxIdeal.nD Cert.KeyDxIdeal.τ).loc Cert.KeyDxIdeal.main_v0)),
      θ_run (Cert.KeyDxIdeal.defs (F := Ideal)) (onTc (τ := Cert.KeyDxIdeal.τ) (Cert.KeyDxIdeal.main (F := Ideal))) ⟨m, fun _ => 0, g⟩ (fun r => ∀ c : Dev Cert.KeyDxIdeal.nD,
          r.2.mem ((c.tc : Thread Cert.KeyDxIdeal.nD Cert.KeyDxIdeal.τ).loc Cert.KeyDxIdeal.main_v0) = v0 c
          ∧ r.2.mem ((c.tc : Thread Cert.KeyDxIdeal.nD Cert.KeyDxIdeal.τ).loc Cert.KeyDxIdeal.main_arg0) = m ((c.tc : Thread Cert.KeyDxIdeal.nD Cert.KeyDxIdeal.τ).loc Cert.KeyDxIdeal.main_arg0)
          ∧ r.2.mem ((c.tc : Thread Cert.KeyDxIdeal.nD Cert.KeyDxIdeal.τ).loc Cert.KeyDxIdeal.main_arg1) = m ((c.tc : Thread Cert.KeyDxIdeal.nD Cert.KeyDxIdeal.τ).loc Cert.KeyDxIdeal.main_arg1))
      ∧ θ_run (Cert.KeyDxRefIdeal.defs (F := Ideal)) (onTc (τ := Cert.KeyDxRefIdeal.τ) (Cert.KeyDxRefIdeal.main (F := Ideal))) ⟨m', fun _ => 0, g'⟩ (fun r => ∀ c : Dev Cert.KeyDxRefIdeal.nD,
          r.2.mem ((c.tc : Thread Cert.KeyDxRefIdeal.nD Cert.KeyDxRefIdeal.τ).loc Cert.KeyDxRefIdeal.main_v8) = v0 c
          ∧ r.2.mem ((c.tc : Thread Cert.KeyDxRefIdeal.nD Cert.KeyDxRefIdeal.τ).loc Cert.KeyDxRefIdeal.main_arg0) = m' ((c.tc : Thread Cert.KeyDxRefIdeal.nD Cert.KeyDxRefIdeal.τ).loc Cert.KeyDxRefIdeal.main_arg0)
          ∧ r.2.mem ((c.tc : Thread Cert.KeyDxRefIdeal.nD Cert.KeyDxRefIdeal.τ).loc Cert.KeyDxRefIdeal.main_arg1) = m' ((c.tc : Thread Cert.KeyDxRefIdeal.nD Cert.KeyDxRefIdeal.τ).loc Cert.KeyDxRefIdeal.main_arg1))

def preserves_ValueDx_ValueDxIdeal : Prop :=
  True

def algebraic_ValueDxIdeal_ValueDxRefIdeal [hValueDxIdeal : Cert.ValueDxIdeal.Facts] [hValueDxRefIdeal : Cert.ValueDxRefIdeal.Facts] : Prop :=
  ∀ (m : (ℓ : Loc Cert.ValueDxIdeal.nD Cert.ValueDxIdeal.τ Cert.ValueDxIdeal.sig) → Buf (Elt Ideal) ℓ) (g : Dev Cert.ValueDxIdeal.nD → PrngReg)
    (m' : (ℓ : Loc Cert.ValueDxRefIdeal.nD Cert.ValueDxRefIdeal.τ Cert.ValueDxRefIdeal.sig) → Buf (Elt Ideal) ℓ) (g' : Dev Cert.ValueDxRefIdeal.nD → PrngReg), Pre_ValueDxIdeal m →
    (∀ c : Dev Cert.ValueDxIdeal.nD,
      m' ((c.tc : Thread Cert.ValueDxRefIdeal.nD Cert.ValueDxRefIdeal.τ).loc Cert.ValueDxRefIdeal.main_arg0) = m ((c.tc : Thread Cert.ValueDxIdeal.nD Cert.ValueDxIdeal.τ).loc Cert.ValueDxIdeal.main_arg0)
      ∧ m' ((c.tc : Thread Cert.ValueDxRefIdeal.nD Cert.ValueDxRefIdeal.τ).loc Cert.ValueDxRefIdeal.main_arg1) = m ((c.tc : Thread Cert.ValueDxIdeal.nD Cert.ValueDxIdeal.τ).loc Cert.ValueDxIdeal.main_arg1)
      ∧ m' ((c.tc : Thread Cert.ValueDxRefIdeal.nD Cert.ValueDxRefIdeal.τ).loc Cert.ValueDxRefIdeal.main_arg2) = m ((c.tc : Thread Cert.ValueDxIdeal.nD Cert.ValueDxIdeal.τ).loc Cert.ValueDxIdeal.main_arg2)) →
    ∃ (v0 : (c : Dev Cert.ValueDxIdeal.nD) → Buf (Elt Ideal) ((c.tc : Thread Cert.ValueDxIdeal.nD Cert.ValueDxIdeal.τ).loc Cert.ValueDxIdeal.main_v0)),
      θ_run (Cert.ValueDxIdeal.defs (F := Ideal)) (onTc (τ := Cert.ValueDxIdeal.τ) (Cert.ValueDxIdeal.main (F := Ideal))) ⟨m, fun _ => 0, g⟩ (fun r => ∀ c : Dev Cert.ValueDxIdeal.nD,
          r.2.mem ((c.tc : Thread Cert.ValueDxIdeal.nD Cert.ValueDxIdeal.τ).loc Cert.ValueDxIdeal.main_v0) = v0 c
          ∧ r.2.mem ((c.tc : Thread Cert.ValueDxIdeal.nD Cert.ValueDxIdeal.τ).loc Cert.ValueDxIdeal.main_arg0) = m ((c.tc : Thread Cert.ValueDxIdeal.nD Cert.ValueDxIdeal.τ).loc Cert.ValueDxIdeal.main_arg0)
          ∧ r.2.mem ((c.tc : Thread Cert.ValueDxIdeal.nD Cert.ValueDxIdeal.τ).loc Cert.ValueDxIdeal.main_arg1) = m ((c.tc : Thread Cert.ValueDxIdeal.nD Cert.ValueDxIdeal.τ).loc Cert.ValueDxIdeal.main_arg1)
          ∧ r.2.mem ((c.tc : Thread Cert.ValueDxIdeal.nD Cert.ValueDxIdeal.τ).loc Cert.ValueDxIdeal.main_arg2) = m ((c.tc : Thread Cert.ValueDxIdeal.nD Cert.ValueDxIdeal.τ).loc Cert.ValueDxIdeal.main_arg2))
      ∧ θ_run (Cert.ValueDxRefIdeal.defs (F := Ideal)) (onTc (τ := Cert.ValueDxRefIdeal.τ) (Cert.ValueDxRefIdeal.main (F := Ideal))) ⟨m', fun _ => 0, g'⟩ (fun r => ∀ c : Dev Cert.ValueDxRefIdeal.nD,
          r.2.mem ((c.tc : Thread Cert.ValueDxRefIdeal.nD Cert.ValueDxRefIdeal.τ).loc Cert.ValueDxRefIdeal.main_v10) = v0 c
          ∧ r.2.mem ((c.tc : Thread Cert.ValueDxRefIdeal.nD Cert.ValueDxRefIdeal.τ).loc Cert.ValueDxRefIdeal.main_arg0) = m' ((c.tc : Thread Cert.ValueDxRefIdeal.nD Cert.ValueDxRefIdeal.τ).loc Cert.ValueDxRefIdeal.main_arg0)
          ∧ r.2.mem ((c.tc : Thread Cert.ValueDxRefIdeal.nD Cert.ValueDxRefIdeal.τ).loc Cert.ValueDxRefIdeal.main_arg1) = m' ((c.tc : Thread Cert.ValueDxRefIdeal.nD Cert.ValueDxRefIdeal.τ).loc Cert.ValueDxRefIdeal.main_arg1)
          ∧ r.2.mem ((c.tc : Thread Cert.ValueDxRefIdeal.nD Cert.ValueDxRefIdeal.τ).loc Cert.ValueDxRefIdeal.main_arg2) = m' ((c.tc : Thread Cert.ValueDxRefIdeal.nD Cert.ValueDxRefIdeal.τ).loc Cert.ValueDxRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)) →
    ∃ (v0 : (c : Dev Cert.QIdeal.nD) → Buf (Elt Ideal) ((c.tc : Thread Cert.QIdeal.nD Cert.QIdeal.τ).loc Cert.QIdeal.main_v0)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v0) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v2) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1))

def preserves_DownDxTop_DownDxTopIdeal : Prop :=
  True

def algebraic_DownDxTopIdeal_DownDxTopRefIdeal [hDownDxTopIdeal : Cert.DownDxTopIdeal.Facts] [hDownDxTopRefIdeal : Cert.DownDxTopRefIdeal.Facts] : Prop :=
  ∀ (m : (ℓ : Loc Cert.DownDxTopIdeal.nD Cert.DownDxTopIdeal.τ Cert.DownDxTopIdeal.sig) → Buf (Elt Ideal) ℓ) (g : Dev Cert.DownDxTopIdeal.nD → PrngReg)
    (m' : (ℓ : Loc Cert.DownDxTopRefIdeal.nD Cert.DownDxTopRefIdeal.τ Cert.DownDxTopRefIdeal.sig) → Buf (Elt Ideal) ℓ) (g' : Dev Cert.DownDxTopRefIdeal.nD → PrngReg), Pre_DownDxTopIdeal m →
    (∀ c : Dev Cert.DownDxTopIdeal.nD,
      m' ((c.tc : Thread Cert.DownDxTopRefIdeal.nD Cert.DownDxTopRefIdeal.τ).loc Cert.DownDxTopRefIdeal.main_arg0) = m ((c.tc : Thread Cert.DownDxTopIdeal.nD Cert.DownDxTopIdeal.τ).loc Cert.DownDxTopIdeal.main_arg0)
      ∧ m' ((c.tc : Thread Cert.DownDxTopRefIdeal.nD Cert.DownDxTopRefIdeal.τ).loc Cert.DownDxTopRefIdeal.main_arg1) = m ((c.tc : Thread Cert.DownDxTopIdeal.nD Cert.DownDxTopIdeal.τ).loc Cert.DownDxTopIdeal.main_arg1)) →
    ∃ (v0 : (c : Dev Cert.DownDxTopIdeal.nD) → Buf (Elt Ideal) ((c.tc : Thread Cert.DownDxTopIdeal.nD Cert.DownDxTopIdeal.τ).loc Cert.DownDxTopIdeal.main_v0)),
      θ_run (Cert.DownDxTopIdeal.defs (F := Ideal)) (onTc (τ := Cert.DownDxTopIdeal.τ) (Cert.DownDxTopIdeal.main (F := Ideal))) ⟨m, fun _ => 0, g⟩ (fun r => ∀ c : Dev Cert.DownDxTopIdeal.nD,
          r.2.mem ((c.tc : Thread Cert.DownDxTopIdeal.nD Cert.DownDxTopIdeal.τ).loc Cert.DownDxTopIdeal.main_v0) = v0 c
          ∧ r.2.mem ((c.tc : Thread Cert.DownDxTopIdeal.nD Cert.DownDxTopIdeal.τ).loc Cert.DownDxTopIdeal.main_arg0) = m ((c.tc : Thread Cert.DownDxTopIdeal.nD Cert.DownDxTopIdeal.τ).loc Cert.DownDxTopIdeal.main_arg0)
          ∧ r.2.mem ((c.tc : Thread Cert.DownDxTopIdeal.nD Cert.DownDxTopIdeal.τ).loc Cert.DownDxTopIdeal.main_arg1) = m ((c.tc : Thread Cert.DownDxTopIdeal.nD Cert.DownDxTopIdeal.τ).loc Cert.DownDxTopIdeal.main_arg1))
      ∧ θ_run (Cert.DownDxTopRefIdeal.defs (F := Ideal)) (onTc (τ := Cert.DownDxTopRefIdeal.τ) (Cert.DownDxTopRefIdeal.main (F := Ideal))) ⟨m', fun _ => 0, g'⟩ (fun r => ∀ c : Dev Cert.DownDxTopRefIdeal.nD,
          r.2.mem ((c.tc : Thread Cert.DownDxTopRefIdeal.nD Cert.DownDxTopRefIdeal.τ).loc Cert.DownDxTopRefIdeal.main_v5) = v0 c
          ∧ r.2.mem ((c.tc : Thread Cert.DownDxTopRefIdeal.nD Cert.DownDxTopRefIdeal.τ).loc Cert.DownDxTopRefIdeal.main_arg0) = m' ((c.tc : Thread Cert.DownDxTopRefIdeal.nD Cert.DownDxTopRefIdeal.τ).loc Cert.DownDxTopRefIdeal.main_arg0)
          ∧ r.2.mem ((c.tc : Thread Cert.DownDxTopRefIdeal.nD Cert.DownDxTopRefIdeal.τ).loc Cert.DownDxTopRefIdeal.main_arg1) = m' ((c.tc : Thread Cert.DownDxTopRefIdeal.nD Cert.DownDxTopRefIdeal.τ).loc Cert.DownDxTopRefIdeal.main_arg1))

def preserves_SiluBwd_SiluBwdIdeal : Prop :=
  True

def algebraic_SiluBwdIdeal_SiluBwdRefIdeal_pre_finite [hSiluBwdIdeal : Cert.SiluBwdIdeal.Facts] [hSiluBwdRefIdeal : Cert.SiluBwdRefIdeal.Facts] [hPre_finite : Cert.Pre_finite.Facts] : Prop :=
  ∀ (m : (ℓ : Loc Cert.SiluBwdIdeal.nD Cert.SiluBwdIdeal.τ Cert.SiluBwdIdeal.sig) → Buf (Elt Ideal) ℓ) (g : Dev Cert.SiluBwdIdeal.nD → PrngReg)
    (m' : (ℓ : Loc Cert.SiluBwdRefIdeal.nD Cert.SiluBwdRefIdeal.τ Cert.SiluBwdRefIdeal.sig) → Buf (Elt Ideal) ℓ) (g' : Dev Cert.SiluBwdRefIdeal.nD → PrngReg), Pre_SiluBwdIdeal_finite m →
    (∀ c : Dev Cert.SiluBwdIdeal.nD,
      m' ((c.tc : Thread Cert.SiluBwdRefIdeal.nD Cert.SiluBwdRefIdeal.τ).loc Cert.SiluBwdRefIdeal.main_arg0) = m ((c.tc : Thread Cert.SiluBwdIdeal.nD Cert.SiluBwdIdeal.τ).loc Cert.SiluBwdIdeal.main_arg0)
      ∧ m' ((c.tc : Thread Cert.SiluBwdRefIdeal.nD Cert.SiluBwdRefIdeal.τ).loc Cert.SiluBwdRefIdeal.main_arg1) = m ((c.tc : Thread Cert.SiluBwdIdeal.nD Cert.SiluBwdIdeal.τ).loc Cert.SiluBwdIdeal.main_arg1)
      ∧ m' ((c.tc : Thread Cert.SiluBwdRefIdeal.nD Cert.SiluBwdRefIdeal.τ).loc Cert.SiluBwdRefIdeal.main_arg2) = m ((c.tc : Thread Cert.SiluBwdIdeal.nD Cert.SiluBwdIdeal.τ).loc Cert.SiluBwdIdeal.main_arg2)
      ∧ m' ((c.tc : Thread Cert.SiluBwdRefIdeal.nD Cert.SiluBwdRefIdeal.τ).loc Cert.SiluBwdRefIdeal.main_arg3) = m ((c.tc : Thread Cert.SiluBwdIdeal.nD Cert.SiluBwdIdeal.τ).loc Cert.SiluBwdIdeal.main_arg3)) →
    ∃ (v0 : (c : Dev Cert.SiluBwdIdeal.nD) → Buf (Elt Ideal) ((c.tc : Thread Cert.SiluBwdIdeal.nD Cert.SiluBwdIdeal.τ).loc Cert.SiluBwdIdeal.main_v0_0)) (v1 : (c : Dev Cert.SiluBwdIdeal.nD) → Buf (Elt Ideal) ((c.tc : Thread Cert.SiluBwdIdeal.nD Cert.SiluBwdIdeal.τ).loc Cert.SiluBwdIdeal.main_v0_1)) (v2 : (c : Dev Cert.SiluBwdIdeal.nD) → Buf (Elt Ideal) ((c.tc : Thread Cert.SiluBwdIdeal.nD Cert.SiluBwdIdeal.τ).loc Cert.SiluBwdIdeal.main_v0_2)),
      θ_run (Cert.SiluBwdIdeal.defs (F := Ideal)) (onTc (τ := Cert.SiluBwdIdeal.τ) (Cert.SiluBwdIdeal.main (F := Ideal))) ⟨m, fun _ => 0, g⟩ (fun r => ∀ c : Dev Cert.SiluBwdIdeal.nD,
          r.2.mem ((c.tc : Thread Cert.SiluBwdIdeal.nD Cert.SiluBwdIdeal.τ).loc Cert.SiluBwdIdeal.main_v0_0) = v0 c
          ∧ r.2.mem ((c.tc : Thread Cert.SiluBwdIdeal.nD Cert.SiluBwdIdeal.τ).loc Cert.SiluBwdIdeal.main_v0_1) = v1 c
          ∧ r.2.mem ((c.tc : Thread Cert.SiluBwdIdeal.nD Cert.SiluBwdIdeal.τ).loc Cert.SiluBwdIdeal.main_v0_2) = v2 c
          ∧ r.2.mem ((c.tc : Thread Cert.SiluBwdIdeal.nD Cert.SiluBwdIdeal.τ).loc Cert.SiluBwdIdeal.main_arg0) = m ((c.tc : Thread Cert.SiluBwdIdeal.nD Cert.SiluBwdIdeal.τ).loc Cert.SiluBwdIdeal.main_arg0)
          ∧ r.2.mem ((c.tc : Thread Cert.SiluBwdIdeal.nD Cert.SiluBwdIdeal.τ).loc Cert.SiluBwdIdeal.main_arg1) = m ((c.tc : Thread Cert.SiluBwdIdeal.nD Cert.SiluBwdIdeal.τ).loc Cert.SiluBwdIdeal.main_arg1)
          ∧ r.2.mem ((c.tc : Thread Cert.SiluBwdIdeal.nD Cert.SiluBwdIdeal.τ).loc Cert.SiluBwdIdeal.main_arg2) = m ((c.tc : Thread Cert.SiluBwdIdeal.nD Cert.SiluBwdIdeal.τ).loc Cert.SiluBwdIdeal.main_arg2)
          ∧ r.2.mem ((c.tc : Thread Cert.SiluBwdIdeal.nD Cert.SiluBwdIdeal.τ).loc Cert.SiluBwdIdeal.main_arg3) = m ((c.tc : Thread Cert.SiluBwdIdeal.nD Cert.SiluBwdIdeal.τ).loc Cert.SiluBwdIdeal.main_arg3))
      ∧ θ_run (Cert.SiluBwdRefIdeal.defs (F := Ideal)) (onTc (τ := Cert.SiluBwdRefIdeal.τ) (Cert.SiluBwdRefIdeal.main (F := Ideal))) ⟨m', fun _ => 0, g'⟩ (fun r => ∀ c : Dev Cert.SiluBwdRefIdeal.nD,
          r.2.mem ((c.tc : Thread Cert.SiluBwdRefIdeal.nD Cert.SiluBwdRefIdeal.τ).loc Cert.SiluBwdRefIdeal.main_v78) = v0 c
          ∧ r.2.mem ((c.tc : Thread Cert.SiluBwdRefIdeal.nD Cert.SiluBwdRefIdeal.τ).loc Cert.SiluBwdRefIdeal.main_v72) = v1 c
          ∧ r.2.mem ((c.tc : Thread Cert.SiluBwdRefIdeal.nD Cert.SiluBwdRefIdeal.τ).loc Cert.SiluBwdRefIdeal.main_v79) = v2 c
          ∧ r.2.mem ((c.tc : Thread Cert.SiluBwdRefIdeal.nD Cert.SiluBwdRefIdeal.τ).loc Cert.SiluBwdRefIdeal.main_arg0) = m' ((c.tc : Thread Cert.SiluBwdRefIdeal.nD Cert.SiluBwdRefIdeal.τ).loc Cert.SiluBwdRefIdeal.main_arg0)
          ∧ r.2.mem ((c.tc : Thread Cert.SiluBwdRefIdeal.nD Cert.SiluBwdRefIdeal.τ).loc Cert.SiluBwdRefIdeal.main_arg1) = m' ((c.tc : Thread Cert.SiluBwdRefIdeal.nD Cert.SiluBwdRefIdeal.τ).loc Cert.SiluBwdRefIdeal.main_arg1)
          ∧ r.2.mem ((c.tc : Thread Cert.SiluBwdRefIdeal.nD Cert.SiluBwdRefIdeal.τ).loc Cert.SiluBwdRefIdeal.main_arg2) = m' ((c.tc : Thread Cert.SiluBwdRefIdeal.nD Cert.SiluBwdRefIdeal.τ).loc Cert.SiluBwdRefIdeal.main_arg2)
          ∧ r.2.mem ((c.tc : Thread Cert.SiluBwdRefIdeal.nD Cert.SiluBwdRefIdeal.τ).loc Cert.SiluBwdRefIdeal.main_arg3) = m' ((c.tc : Thread Cert.SiluBwdRefIdeal.nD Cert.SiluBwdRefIdeal.τ).loc Cert.SiluBwdRefIdeal.main_arg3))

def preserves_Silu_SiluIdeal : Prop :=
  True

def algebraic_SiluIdeal_SiluRefIdeal [hSiluIdeal : Cert.SiluIdeal.Facts] [hSiluRefIdeal : Cert.SiluRefIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluIdeal m →
    (∀ c : Dev Cert.SiluIdeal.nD,
      m' ((c.tc : Thread Cert.SiluRefIdeal.nD Cert.SiluRefIdeal.τ).loc Cert.SiluRefIdeal.main_arg0) = m ((c.tc : Thread Cert.SiluIdeal.nD Cert.SiluIdeal.τ).loc Cert.SiluIdeal.main_arg0)
      ∧ m' ((c.tc : Thread Cert.SiluRefIdeal.nD Cert.SiluRefIdeal.τ).loc Cert.SiluRefIdeal.main_arg1) = m ((c.tc : Thread Cert.SiluIdeal.nD Cert.SiluIdeal.τ).loc Cert.SiluIdeal.main_arg1)
      ∧ m' ((c.tc : Thread Cert.SiluRefIdeal.nD Cert.SiluRefIdeal.τ).loc Cert.SiluRefIdeal.main_arg2) = m ((c.tc : Thread Cert.SiluIdeal.nD Cert.SiluIdeal.τ).loc Cert.SiluIdeal.main_arg2)) →
    ∃ (v0 : (c : Dev Cert.SiluIdeal.nD) → Buf (Elt Ideal) ((c.tc : Thread Cert.SiluIdeal.nD Cert.SiluIdeal.τ).loc Cert.SiluIdeal.main_v0_0)) (v1 : (c : Dev Cert.SiluIdeal.nD) → Buf (Elt Ideal) ((c.tc : Thread Cert.SiluIdeal.nD Cert.SiluIdeal.τ).loc Cert.SiluIdeal.main_v0_1)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0_0) = v0 c
          ∧ r.2.mem ((c.tc : Thread Cert.SiluIdeal.nD Cert.SiluIdeal.τ).loc Cert.SiluIdeal.main_v0_1) = v1 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
          ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
          ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v29) = v0 c
          ∧ r.2.mem ((c.tc : Thread Cert.SiluRefIdeal.nD Cert.SiluRefIdeal.τ).loc Cert.SiluRefIdeal.main_v35) = v1 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0)
          ∧ r.2.mem ((c.tc : Thread Cert.SiluRefIdeal.nD Cert.SiluRefIdeal.τ).loc Cert.SiluRefIdeal.main_arg1) = m' ((c.tc : Thread Cert.SiluRefIdeal.nD Cert.SiluRefIdeal.τ).loc Cert.SiluRefIdeal.main_arg1)
          ∧ r.2.mem ((c.tc : Thread Cert.SiluRefIdeal.nD Cert.SiluRefIdeal.τ).loc Cert.SiluRefIdeal.main_arg2) = m' ((c.tc : Thread Cert.SiluRefIdeal.nD Cert.SiluRefIdeal.τ).loc Cert.SiluRefIdeal.main_arg2))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v30) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)
      ∧ m' ((c.tc : Thread Cert.NormFirstRefIdeal.nD Cert.NormFirstRefIdeal.τ).loc Cert.NormFirstRefIdeal.main_arg2) = m ((c.tc : Thread Cert.NormFirstIdeal.nD Cert.NormFirstIdeal.τ).loc Cert.NormFirstIdeal.main_arg2)) →
    ∃ (v0 : (c : Dev Cert.NormFirstIdeal.nD) → Buf (Elt Ideal) ((c.tc : Thread Cert.NormFirstIdeal.nD Cert.NormFirstIdeal.τ).loc Cert.NormFirstIdeal.main_v0)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v0) = v0 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
          ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v12) = v0 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1)
          ∧ r.2.mem ((c.tc : Thread Cert.NormFirstRefIdeal.nD Cert.NormFirstRefIdeal.τ).loc Cert.NormFirstRefIdeal.main_arg2) = m' ((c.tc : Thread Cert.NormFirstRefIdeal.nD Cert.NormFirstRefIdeal.τ).loc Cert.NormFirstRefIdeal.main_arg2))

def preserves_NormTwo_NormTwoIdeal : Prop :=
  True

def algebraic_NormTwoIdeal_NormTwoRefIdeal [hNormTwoIdeal : Cert.NormTwoIdeal.Facts] [hNormTwoRefIdeal : Cert.NormTwoRefIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg)
    (m' : (ℓ : Loc Cert.NormTwoRefIdeal.nD Cert.NormTwoRefIdeal.τ Cert.NormTwoRefIdeal.sig) → Buf (Elt Ideal) ℓ) (g' : Dev Cert.NormTwoRefIdeal.nD → PrngReg), Pre_NormTwoIdeal m →
    (∀ c : Dev Cert.NormTwoIdeal.nD,
      m' ((c.tc : Thread Cert.NormTwoRefIdeal.nD Cert.NormTwoRefIdeal.τ).loc Cert.NormTwoRefIdeal.main_arg0) = m ((c.tc : Thread Cert.NormTwoIdeal.nD Cert.NormTwoIdeal.τ).loc Cert.NormTwoIdeal.main_arg0)
      ∧ m' ((c.tc : Thread Cert.NormTwoRefIdeal.nD Cert.NormTwoRefIdeal.τ).loc Cert.NormTwoRefIdeal.main_arg1) = m ((c.tc : Thread Cert.NormTwoIdeal.nD Cert.NormTwoIdeal.τ).loc Cert.NormTwoIdeal.main_arg1)
      ∧ m' ((c.tc : Thread Cert.NormTwoRefIdeal.nD Cert.NormTwoRefIdeal.τ).loc Cert.NormTwoRefIdeal.main_arg2) = m ((c.tc : Thread Cert.NormTwoIdeal.nD Cert.NormTwoIdeal.τ).loc Cert.NormTwoIdeal.main_arg2)) →
    ∃ (v0 : (c : Dev Cert.NormTwoIdeal.nD) → Buf (Elt Ideal) ((c.tc : Thread Cert.NormTwoIdeal.nD Cert.NormTwoIdeal.τ).loc Cert.NormTwoIdeal.main_v0_0)) (v1 : (c : Dev Cert.NormTwoIdeal.nD) → Buf (Elt Ideal) ((c.tc : Thread Cert.NormTwoIdeal.nD Cert.NormTwoIdeal.τ).loc Cert.NormTwoIdeal.main_v0_1)),
      θ_run (Cert.NormTwoIdeal.defs (F := Ideal)) (onTc (τ := Cert.NormTwoIdeal.τ) (Cert.NormTwoIdeal.main (F := Ideal))) ⟨m, fun _ => 0, g⟩ (fun r => ∀ c : Dev Cert.NormTwoIdeal.nD,
          r.2.mem ((c.tc : Thread Cert.NormTwoIdeal.nD Cert.NormTwoIdeal.τ).loc Cert.NormTwoIdeal.main_v0_0) = v0 c
          ∧ r.2.mem ((c.tc : Thread Cert.NormTwoIdeal.nD Cert.NormTwoIdeal.τ).loc Cert.NormTwoIdeal.main_v0_1) = v1 c
          ∧ r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
          ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
          ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2))
      ∧ θ_run (Cert.NormTwoRefIdeal.defs (F := Ideal)) (onTc (τ := Cert.NormTwoRefIdeal.τ) (Cert.NormTwoRefIdeal.main (F := Ideal))) ⟨m', fun _ => 0, g'⟩ (fun r => ∀ c : Dev Cert.NormTwoRefIdeal.nD,
          r.2.mem ((c.tc : Thread Cert.NormTwoRefIdeal.nD Cert.NormTwoRefIdeal.τ).loc Cert.NormTwoRefIdeal.main_v12) = v0 c
          ∧ r.2.mem ((c.tc : Thread Cert.NormTwoRefIdeal.nD Cert.NormTwoRefIdeal.τ).loc Cert.NormTwoRefIdeal.main_v25) = v1 c
          ∧ r.2.mem ((c.tc : Thread Cert.NormTwoRefIdeal.nD Cert.NormTwoRefIdeal.τ).loc Cert.NormTwoRefIdeal.main_arg0) = m' ((c.tc : Thread Cert.NormTwoRefIdeal.nD Cert.NormTwoRefIdeal.τ).loc Cert.NormTwoRefIdeal.main_arg0)
          ∧ r.2.mem ((c.tc : Thread Cert.NormTwoRefIdeal.nD Cert.NormTwoRefIdeal.τ).loc Cert.NormTwoRefIdeal.main_arg1) = m' ((c.tc : Thread Cert.NormTwoRefIdeal.nD Cert.NormTwoRefIdeal.τ).loc Cert.NormTwoRefIdeal.main_arg1)
          ∧ r.2.mem ((c.tc : Thread Cert.NormTwoRefIdeal.nD Cert.NormTwoRefIdeal.τ).loc Cert.NormTwoRefIdeal.main_arg2) = m' ((c.tc : Thread Cert.NormTwoRefIdeal.nD Cert.NormTwoRefIdeal.τ).loc Cert.NormTwoRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v35) = v0 c
          ∧ r.2.mem ((c.tc : Thread Cert.NormBwdRefIdeal.nD Cert.NormBwdRefIdeal.τ).loc Cert.NormBwdRefIdeal.main_v36) = v1 c
          ∧ r.2.mem ((c.tc : Thread Cert.NormBwdRefIdeal.nD Cert.NormBwdRefIdeal.τ).loc Cert.NormBwdRefIdeal.main_v18) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormBwdTwo_NormBwdTwoIdeal : Prop :=
  True

def algebraic_NormBwdTwoIdeal_NormBwdTwoRefIdeal [hNormBwdTwoIdeal : Cert.NormBwdTwoIdeal.Facts] [hNormBwdTwoRefIdeal : Cert.NormBwdTwoRefIdeal.Facts] : Prop :=
  ∀ (m : (ℓ : Loc Cert.NormBwdTwoIdeal.nD Cert.NormBwdTwoIdeal.τ Cert.NormBwdTwoIdeal.sig) → Buf (Elt Ideal) ℓ) (g : Dev Cert.NormBwdTwoIdeal.nD → PrngReg)
    (m' : (ℓ : Loc Cert.NormBwdTwoRefIdeal.nD Cert.NormBwdTwoRefIdeal.τ Cert.NormBwdTwoRefIdeal.sig) → Buf (Elt Ideal) ℓ) (g' : Dev Cert.NormBwdTwoRefIdeal.nD → PrngReg), Pre_NormBwdTwoIdeal m →
    (∀ c : Dev Cert.NormBwdTwoIdeal.nD,
      m' ((c.tc : Thread Cert.NormBwdTwoRefIdeal.nD Cert.NormBwdTwoRefIdeal.τ).loc Cert.NormBwdTwoRefIdeal.main_arg0) = m ((c.tc : Thread Cert.NormBwdTwoIdeal.nD Cert.NormBwdTwoIdeal.τ).loc Cert.NormBwdTwoIdeal.main_arg0)
      ∧ m' ((c.tc : Thread Cert.NormBwdTwoRefIdeal.nD Cert.NormBwdTwoRefIdeal.τ).loc Cert.NormBwdTwoRefIdeal.main_arg1) = m ((c.tc : Thread Cert.NormBwdTwoIdeal.nD Cert.NormBwdTwoIdeal.τ).loc Cert.NormBwdTwoIdeal.main_arg1)
      ∧ m' ((c.tc : Thread Cert.NormBwdTwoRefIdeal.nD Cert.NormBwdTwoRefIdeal.τ).loc Cert.NormBwdTwoRefIdeal.main_arg2) = m ((c.tc : Thread Cert.NormBwdTwoIdeal.nD Cert.NormBwdTwoIdeal.τ).loc Cert.NormBwdTwoIdeal.main_arg2)
      ∧ m' ((c.tc : Thread Cert.NormBwdTwoRefIdeal.nD Cert.NormBwdTwoRefIdeal.τ).loc Cert.NormBwdTwoRefIdeal.main_arg3) = m ((c.tc : Thread Cert.NormBwdTwoIdeal.nD Cert.NormBwdTwoIdeal.τ).loc Cert.NormBwdTwoIdeal.main_arg3)
      ∧ m' ((c.tc : Thread Cert.NormBwdTwoRefIdeal.nD Cert.NormBwdTwoRefIdeal.τ).loc Cert.NormBwdTwoRefIdeal.main_arg4) = m ((c.tc : Thread Cert.NormBwdTwoIdeal.nD Cert.NormBwdTwoIdeal.τ).loc Cert.NormBwdTwoIdeal.main_arg4)
      ∧ m' ((c.tc : Thread Cert.NormBwdTwoRefIdeal.nD Cert.NormBwdTwoRefIdeal.τ).loc Cert.NormBwdTwoRefIdeal.main_arg5) = m ((c.tc : Thread Cert.NormBwdTwoIdeal.nD Cert.NormBwdTwoIdeal.τ).loc Cert.NormBwdTwoIdeal.main_arg5)) →
    ∃ (v0 : (c : Dev Cert.NormBwdTwoIdeal.nD) → Buf (Elt Ideal) ((c.tc : Thread Cert.NormBwdTwoIdeal.nD Cert.NormBwdTwoIdeal.τ).loc Cert.NormBwdTwoIdeal.main_v0_0)) (v1 : (c : Dev Cert.NormBwdTwoIdeal.nD) → Buf (Elt Ideal) ((c.tc : Thread Cert.NormBwdTwoIdeal.nD Cert.NormBwdTwoIdeal.τ).loc Cert.NormBwdTwoIdeal.main_v0_1)) (v2 : (c : Dev Cert.NormBwdTwoIdeal.nD) → Buf (Elt Ideal) ((c.tc : Thread Cert.NormBwdTwoIdeal.nD Cert.NormBwdTwoIdeal.τ).loc Cert.NormBwdTwoIdeal.main_v0_2)) (v3 : (c : Dev Cert.NormBwdTwoIdeal.nD) → Buf (Elt Ideal) ((c.tc : Thread Cert.NormBwdTwoIdeal.nD Cert.NormBwdTwoIdeal.τ).loc Cert.NormBwdTwoIdeal.main_v0_3)),
      θ_run (Cert.NormBwdTwoIdeal.defs (F := Ideal)) (onTc (τ := Cert.NormBwdTwoIdeal.τ) (Cert.NormBwdTwoIdeal.main (F := Ideal))) ⟨m, fun _ => 0, g⟩ (fun r => ∀ c : Dev Cert.NormBwdTwoIdeal.nD,
          r.2.mem ((c.tc : Thread Cert.NormBwdTwoIdeal.nD Cert.NormBwdTwoIdeal.τ).loc Cert.NormBwdTwoIdeal.main_v0_0) = v0 c
          ∧ r.2.mem ((c.tc : Thread Cert.NormBwdTwoIdeal.nD Cert.NormBwdTwoIdeal.τ).loc Cert.NormBwdTwoIdeal.main_v0_1) = v1 c
          ∧ r.2.mem ((c.tc : Thread Cert.NormBwdTwoIdeal.nD Cert.NormBwdTwoIdeal.τ).loc Cert.NormBwdTwoIdeal.main_v0_2) = v2 c
          ∧ r.2.mem ((c.tc : Thread Cert.NormBwdTwoIdeal.nD Cert.NormBwdTwoIdeal.τ).loc Cert.NormBwdTwoIdeal.main_v0_3) = v3 c
          ∧ r.2.mem ((c.tc : Thread Cert.NormBwdTwoIdeal.nD Cert.NormBwdTwoIdeal.τ).loc Cert.NormBwdTwoIdeal.main_arg0) = m ((c.tc : Thread Cert.NormBwdTwoIdeal.nD Cert.NormBwdTwoIdeal.τ).loc Cert.NormBwdTwoIdeal.main_arg0)
          ∧ r.2.mem ((c.tc : Thread Cert.NormBwdTwoIdeal.nD Cert.NormBwdTwoIdeal.τ).loc Cert.NormBwdTwoIdeal.main_arg1) = m ((c.tc : Thread Cert.NormBwdTwoIdeal.nD Cert.NormBwdTwoIdeal.τ).loc Cert.NormBwdTwoIdeal.main_arg1)
          ∧ r.2.mem ((c.tc : Thread Cert.NormBwdTwoIdeal.nD Cert.NormBwdTwoIdeal.τ).loc Cert.NormBwdTwoIdeal.main_arg2) = m ((c.tc : Thread Cert.NormBwdTwoIdeal.nD Cert.NormBwdTwoIdeal.τ).loc Cert.NormBwdTwoIdeal.main_arg2)
          ∧ r.2.mem ((c.tc : Thread Cert.NormBwdTwoIdeal.nD Cert.NormBwdTwoIdeal.τ).loc Cert.NormBwdTwoIdeal.main_arg3) = m ((c.tc : Thread Cert.NormBwdTwoIdeal.nD Cert.NormBwdTwoIdeal.τ).loc Cert.NormBwdTwoIdeal.main_arg3)
          ∧ r.2.mem ((c.tc : Thread Cert.NormBwdTwoIdeal.nD Cert.NormBwdTwoIdeal.τ).loc Cert.NormBwdTwoIdeal.main_arg4) = m ((c.tc : Thread Cert.NormBwdTwoIdeal.nD Cert.NormBwdTwoIdeal.τ).loc Cert.NormBwdTwoIdeal.main_arg4)
          ∧ r.2.mem ((c.tc : Thread Cert.NormBwdTwoIdeal.nD Cert.NormBwdTwoIdeal.τ).loc Cert.NormBwdTwoIdeal.main_arg5) = m ((c.tc : Thread Cert.NormBwdTwoIdeal.nD Cert.NormBwdTwoIdeal.τ).loc Cert.NormBwdTwoIdeal.main_arg5))
      ∧ θ_run (Cert.NormBwdTwoRefIdeal.defs (F := Ideal)) (onTc (τ := Cert.NormBwdTwoRefIdeal.τ) (Cert.NormBwdTwoRefIdeal.main (F := Ideal))) ⟨m', fun _ => 0, g'⟩ (fun r => ∀ c : Dev Cert.NormBwdTwoRefIdeal.nD,
          r.2.mem ((c.tc : Thread Cert.NormBwdTwoRefIdeal.nD Cert.NormBwdTwoRefIdeal.τ).loc Cert.NormBwdTwoRefIdeal.main_v71) = v0 c
          ∧ r.2.mem ((c.tc : Thread Cert.NormBwdTwoRefIdeal.nD Cert.NormBwdTwoRefIdeal.τ).loc Cert.NormBwdTwoRefIdeal.main_v72) = v1 c
          ∧ r.2.mem ((c.tc : Thread Cert.NormBwdTwoRefIdeal.nD Cert.NormBwdTwoRefIdeal.τ).loc Cert.NormBwdTwoRefIdeal.main_v18) = v2 c
          ∧ r.2.mem ((c.tc : Thread Cert.NormBwdTwoRefIdeal.nD Cert.NormBwdTwoRefIdeal.τ).loc Cert.NormBwdTwoRefIdeal.main_v53) = v3 c
          ∧ r.2.mem ((c.tc : Thread Cert.NormBwdTwoRefIdeal.nD Cert.NormBwdTwoRefIdeal.τ).loc Cert.NormBwdTwoRefIdeal.main_arg0) = m' ((c.tc : Thread Cert.NormBwdTwoRefIdeal.nD Cert.NormBwdTwoRefIdeal.τ).loc Cert.NormBwdTwoRefIdeal.main_arg0)
          ∧ r.2.mem ((c.tc : Thread Cert.NormBwdTwoRefIdeal.nD Cert.NormBwdTwoRefIdeal.τ).loc Cert.NormBwdTwoRefIdeal.main_arg1) = m' ((c.tc : Thread Cert.NormBwdTwoRefIdeal.nD Cert.NormBwdTwoRefIdeal.τ).loc Cert.NormBwdTwoRefIdeal.main_arg1)
          ∧ r.2.mem ((c.tc : Thread Cert.NormBwdTwoRefIdeal.nD Cert.NormBwdTwoRefIdeal.τ).loc Cert.NormBwdTwoRefIdeal.main_arg2) = m' ((c.tc : Thread Cert.NormBwdTwoRefIdeal.nD Cert.NormBwdTwoRefIdeal.τ).loc Cert.NormBwdTwoRefIdeal.main_arg2)
          ∧ r.2.mem ((c.tc : Thread Cert.NormBwdTwoRefIdeal.nD Cert.NormBwdTwoRefIdeal.τ).loc Cert.NormBwdTwoRefIdeal.main_arg3) = m' ((c.tc : Thread Cert.NormBwdTwoRefIdeal.nD Cert.NormBwdTwoRefIdeal.τ).loc Cert.NormBwdTwoRefIdeal.main_arg3)
          ∧ r.2.mem ((c.tc : Thread Cert.NormBwdTwoRefIdeal.nD Cert.NormBwdTwoRefIdeal.τ).loc Cert.NormBwdTwoRefIdeal.main_arg4) = m' ((c.tc : Thread Cert.NormBwdTwoRefIdeal.nD Cert.NormBwdTwoRefIdeal.τ).loc Cert.NormBwdTwoRefIdeal.main_arg4)
          ∧ r.2.mem ((c.tc : Thread Cert.NormBwdTwoRefIdeal.nD Cert.NormBwdTwoRefIdeal.τ).loc Cert.NormBwdTwoRefIdeal.main_arg5) = m' ((c.tc : Thread Cert.NormBwdTwoRefIdeal.nD Cert.NormBwdTwoRefIdeal.τ).loc Cert.NormBwdTwoRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v48) = v0 c
          ∧ r.2.mem ((c.tc : Thread Cert.LossRefIdeal.nD Cert.LossRefIdeal.τ).loc Cert.LossRefIdeal.main_v63) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_v65) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v0) = v0 c
          ∧ r.2.mem ((c.tc : Thread Cert.AdamKvRefIdeal.nD Cert.AdamKvRefIdeal.τ).loc Cert.AdamKvRefIdeal.main_v24) = v1 c
          ∧ r.2.mem ((c.tc : Thread Cert.AdamKvRefIdeal.nD Cert.AdamKvRefIdeal.τ).loc Cert.AdamKvRefIdeal.main_v5) = v2 c
          ∧ r.2.mem ((c.tc : Thread Cert.AdamKvRefIdeal.nD Cert.AdamKvRefIdeal.τ).loc Cert.AdamKvRefIdeal.main_v11) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v0) = v0 c
          ∧ r.2.mem ((c.tc : Thread Cert.AdamSquareRefIdeal.nD Cert.AdamSquareRefIdeal.τ).loc Cert.AdamSquareRefIdeal.main_v24) = v1 c
          ∧ r.2.mem ((c.tc : Thread Cert.AdamSquareRefIdeal.nD Cert.AdamSquareRefIdeal.τ).loc Cert.AdamSquareRefIdeal.main_v5) = v2 c
          ∧ r.2.mem ((c.tc : Thread Cert.AdamSquareRefIdeal.nD Cert.AdamSquareRefIdeal.τ).loc Cert.AdamSquareRefIdeal.main_v11) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v2) = v0 c
          ∧ r.2.mem ((c.tc : Thread Cert.AdamUpRefIdeal.nD Cert.AdamUpRefIdeal.τ).loc Cert.AdamUpRefIdeal.main_v26) = v1 c
          ∧ r.2.mem ((c.tc : Thread Cert.AdamUpRefIdeal.nD Cert.AdamUpRefIdeal.τ).loc Cert.AdamUpRefIdeal.main_v7) = v2 c
          ∧ r.2.mem ((c.tc : Thread Cert.AdamUpRefIdeal.nD Cert.AdamUpRefIdeal.τ).loc Cert.AdamUpRefIdeal.main_v13) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDx : Cert.OutDx.Facts) (hOutDxIdeal : Cert.OutDxIdeal.Facts) (hOutDxRefIdeal : Cert.OutDxRefIdeal.Facts) (hSquareDw : Cert.SquareDw.Facts) (hSquareDwIdeal : Cert.SquareDwIdeal.Facts) (hSquareDwRefIdeal : Cert.SquareDwRefIdeal.Facts) (hODx : Cert.ODx.Facts) (hODxIdeal : Cert.ODxIdeal.Facts) (hODxRefIdeal : Cert.ODxRefIdeal.Facts) (hQDx : Cert.QDx.Facts) (hQDxIdeal : Cert.QDxIdeal.Facts) (hQDxRefIdeal : Cert.QDxRefIdeal.Facts) (hKeyDx : Cert.KeyDx.Facts) (hKeyDxIdeal : Cert.KeyDxIdeal.Facts) (hKeyDxRefIdeal : Cert.KeyDxRefIdeal.Facts) (hValueDx : Cert.ValueDx.Facts) (hValueDxIdeal : Cert.ValueDxIdeal.Facts) (hValueDxRefIdeal : Cert.ValueDxRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hKv : Cert.Kv.Facts) (hKvIdeal : Cert.KvIdeal.Facts) (hKvRefIdeal : Cert.KvRefIdeal.Facts) (hQ : Cert.Q.Facts) (hQIdeal : Cert.QIdeal.Facts) (hQRefIdeal : Cert.QRefIdeal.Facts) (hDownDxTop : Cert.DownDxTop.Facts) (hDownDxTopIdeal : Cert.DownDxTopIdeal.Facts) (hDownDxTopRefIdeal : Cert.DownDxTopRefIdeal.Facts) (hSiluBwd : Cert.SiluBwd.Facts) (hSiluBwdIdeal : Cert.SiluBwdIdeal.Facts) (hSiluBwdRefIdeal : Cert.SiluBwdRefIdeal.Facts) (hSilu : Cert.Silu.Facts) (hSiluIdeal : Cert.SiluIdeal.Facts) (hSiluRefIdeal : Cert.SiluRefIdeal.Facts) (hGateFwd : Cert.GateFwd.Facts) (hGateFwdIdeal : Cert.GateFwdIdeal.Facts) (hGateFwdRefIdeal : Cert.GateFwdRefIdeal.Facts) (hNorm : Cert.Norm.Facts) (hNormIdeal : Cert.NormIdeal.Facts) (hNormRefIdeal : Cert.NormRefIdeal.Facts) (hNormFirst : Cert.NormFirst.Facts) (hNormFirstIdeal : Cert.NormFirstIdeal.Facts) (hNormFirstRefIdeal : Cert.NormFirstRefIdeal.Facts) (hNormTwo : Cert.NormTwo.Facts) (hNormTwoIdeal : Cert.NormTwoIdeal.Facts) (hNormTwoRefIdeal : Cert.NormTwoRefIdeal.Facts) (hNormBwd : Cert.NormBwd.Facts) (hNormBwdIdeal : Cert.NormBwdIdeal.Facts) (hNormBwdRefIdeal : Cert.NormBwdRefIdeal.Facts) (hNormBwdTwo : Cert.NormBwdTwo.Facts) (hNormBwdTwoIdeal : Cert.NormBwdTwoIdeal.Facts) (hNormBwdTwoRefIdeal : Cert.NormBwdTwoRefIdeal.Facts) (hLoss : Cert.Loss.Facts) (hLossIdeal : Cert.LossIdeal.Facts) (hLossRefIdeal : Cert.LossRefIdeal.Facts) (hAdamKv : Cert.AdamKv.Facts) (hAdamKvIdeal : Cert.AdamKvIdeal.Facts) (hAdamKvRefIdeal : Cert.AdamKvRefIdeal.Facts) (hAdamSquare : Cert.AdamSquare.Facts) (hAdamSquareIdeal : Cert.AdamSquareIdeal.Facts) (hAdamSquareRefIdeal : Cert.AdamSquareRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_ODx (hODx := hODx)
    ∧ quiescent_ODxIdeal (hODxIdeal := hODxIdeal)
    ∧ quiescent_ODxRefIdeal (hODxRefIdeal := hODxRefIdeal)
    ∧ quiescent_QDx (hQDx := hQDx)
    ∧ quiescent_QDxIdeal (hQDxIdeal := hQDxIdeal)
    ∧ quiescent_QDxRefIdeal (hQDxRefIdeal := hQDxRefIdeal)
    ∧ quiescent_KeyDx (hKeyDx := hKeyDx)
    ∧ quiescent_KeyDxIdeal (hKeyDxIdeal := hKeyDxIdeal)
    ∧ quiescent_KeyDxRefIdeal (hKeyDxRefIdeal := hKeyDxRefIdeal)
    ∧ quiescent_ValueDx (hValueDx := hValueDx)
    ∧ quiescent_ValueDxIdeal (hValueDxIdeal := hValueDxIdeal)
    ∧ quiescent_ValueDxRefIdeal (hValueDxRefIdeal := hValueDxRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Kv (hKv := hKv)
    ∧ quiescent_KvIdeal (hKvIdeal := hKvIdeal)
    ∧ quiescent_KvRefIdeal (hKvRefIdeal := hKvRefIdeal)
    ∧ quiescent_Q (hQ := hQ)
    ∧ quiescent_QIdeal (hQIdeal := hQIdeal)
    ∧ quiescent_QRefIdeal (hQRefIdeal := hQRefIdeal)
    ∧ quiescent_DownDxTop (hDownDxTop := hDownDxTop)
    ∧ quiescent_DownDxTopIdeal (hDownDxTopIdeal := hDownDxTopIdeal)
    ∧ quiescent_DownDxTopRefIdeal (hDownDxTopRefIdeal := hDownDxTopRefIdeal)
    ∧ quiescent_SiluBwd (hSiluBwd := hSiluBwd)
    ∧ quiescent_SiluBwdIdeal (hSiluBwdIdeal := hSiluBwdIdeal)
    ∧ quiescent_SiluBwdIdeal_pre_finite (hSiluBwdIdeal := hSiluBwdIdeal) (hPre_finite := hPre_finite)
    ∧ quiescent_SiluBwdRefIdeal (hSiluBwdRefIdeal := hSiluBwdRefIdeal)
    ∧ quiescent_SiluBwdRefIdeal_pre_finite (hSiluBwdRefIdeal := hSiluBwdRefIdeal) (hPre_finite := hPre_finite)
    ∧ quiescent_Silu (hSilu := hSilu)
    ∧ quiescent_SiluIdeal (hSiluIdeal := hSiluIdeal)
    ∧ quiescent_SiluRefIdeal (hSiluRefIdeal := hSiluRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_Norm (hNorm := hNorm)
    ∧ quiescent_NormIdeal (hNormIdeal := hNormIdeal)
    ∧ quiescent_NormRefIdeal (hNormRefIdeal := hNormRefIdeal)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ quiescent_NormTwo (hNormTwo := hNormTwo)
    ∧ quiescent_NormTwoIdeal (hNormTwoIdeal := hNormTwoIdeal)
    ∧ quiescent_NormTwoRefIdeal (hNormTwoRefIdeal := hNormTwoRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormBwdTwo (hNormBwdTwo := hNormBwdTwo)
    ∧ quiescent_NormBwdTwoIdeal (hNormBwdTwoIdeal := hNormBwdTwoIdeal)
    ∧ quiescent_NormBwdTwoRefIdeal (hNormBwdTwoRefIdeal := hNormBwdTwoRefIdeal)
    ∧ quiescent_Loss (hLoss := hLoss)
    ∧ quiescent_LossIdeal (hLossIdeal := hLossIdeal)
    ∧ quiescent_LossRefIdeal (hLossRefIdeal := hLossRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_Kernel_KernelIdeal
    ∧ algebraic_KernelIdeal_ReferenceIdeal (hKernelIdeal := hKernelIdeal) (hReferenceIdeal := hReferenceIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDx_OutDxIdeal
    ∧ algebraic_OutDxIdeal_OutDxRefIdeal (hOutDxIdeal := hOutDxIdeal) (hOutDxRefIdeal := hOutDxRefIdeal)
    ∧ preserves_SquareDw_SquareDwIdeal
    ∧ algebraic_SquareDwIdeal_SquareDwRefIdeal (hSquareDwIdeal := hSquareDwIdeal) (hSquareDwRefIdeal := hSquareDwRefIdeal)
    ∧ preserves_ODx_ODxIdeal
    ∧ algebraic_ODxIdeal_ODxRefIdeal (hODxIdeal := hODxIdeal) (hODxRefIdeal := hODxRefIdeal)
    ∧ preserves_QDx_QDxIdeal
    ∧ algebraic_QDxIdeal_QDxRefIdeal (hQDxIdeal := hQDxIdeal) (hQDxRefIdeal := hQDxRefIdeal)
    ∧ preserves_KeyDx_KeyDxIdeal
    ∧ algebraic_KeyDxIdeal_KeyDxRefIdeal (hKeyDxIdeal := hKeyDxIdeal) (hKeyDxRefIdeal := hKeyDxRefIdeal)
    ∧ preserves_ValueDx_ValueDxIdeal
    ∧ algebraic_ValueDxIdeal_ValueDxRefIdeal (hValueDxIdeal := hValueDxIdeal) (hValueDxRefIdeal := hValueDxRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Kv_KvIdeal
    ∧ algebraic_KvIdeal_KvRefIdeal (hKvIdeal := hKvIdeal) (hKvRefIdeal := hKvRefIdeal)
    ∧ preserves_Q_QIdeal
    ∧ algebraic_QIdeal_QRefIdeal (hQIdeal := hQIdeal) (hQRefIdeal := hQRefIdeal)
    ∧ preserves_DownDxTop_DownDxTopIdeal
    ∧ algebraic_DownDxTopIdeal_DownDxTopRefIdeal (hDownDxTopIdeal := hDownDxTopIdeal) (hDownDxTopRefIdeal := hDownDxTopRefIdeal)
    ∧ preserves_SiluBwd_SiluBwdIdeal
    ∧ algebraic_SiluBwdIdeal_SiluBwdRefIdeal_pre_finite (hSiluBwdIdeal := hSiluBwdIdeal) (hSiluBwdRefIdeal := hSiluBwdRefIdeal) (hPre_finite := hPre_finite)
    ∧ preserves_Silu_SiluIdeal
    ∧ algebraic_SiluIdeal_SiluRefIdeal (hSiluIdeal := hSiluIdeal) (hSiluRefIdeal := hSiluRefIdeal)
    ∧ preserves_GateFwd_GateFwdIdeal
    ∧ algebraic_GateFwdIdeal_GateFwdRefIdeal (hGateFwdIdeal := hGateFwdIdeal) (hGateFwdRefIdeal := hGateFwdRefIdeal)
    ∧ preserves_Norm_NormIdeal
    ∧ algebraic_NormIdeal_NormRefIdeal (hNormIdeal := hNormIdeal) (hNormRefIdeal := hNormRefIdeal)
    ∧ preserves_NormFirst_NormFirstIdeal
    ∧ algebraic_NormFirstIdeal_NormFirstRefIdeal (hNormFirstIdeal := hNormFirstIdeal) (hNormFirstRefIdeal := hNormFirstRefIdeal)
    ∧ preserves_NormTwo_NormTwoIdeal
    ∧ algebraic_NormTwoIdeal_NormTwoRefIdeal (hNormTwoIdeal := hNormTwoIdeal) (hNormTwoRefIdeal := hNormTwoRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormBwdTwo_NormBwdTwoIdeal
    ∧ algebraic_NormBwdTwoIdeal_NormBwdTwoRefIdeal (hNormBwdTwoIdeal := hNormBwdTwoIdeal) (hNormBwdTwoRefIdeal := hNormBwdTwoRefIdeal)
    ∧ preserves_Loss_LossIdeal
    ∧ algebraic_LossIdeal_LossRefIdeal (hLossIdeal := hLossIdeal) (hLossRefIdeal := hLossRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
-- ==== Pre_finite.lean ====
abbrev S8192x5632 : Shape := ⟨2, ![8192, 5632]⟩
abbrev S8192x2816 : Shape := ⟨2, ![8192, 2816]⟩
abbrev S3x5632 : Shape := ⟨2, ![3, 5632]⟩
abbrev S_ : Shape := ⟨0, ![]⟩

class Facts : Prop where
  slices_S8192x5632_S8192x2816_0_2816 : S8192x5632.Slices ![0, 2816] S8192x2816
  bitsLt_bf16_f32 : FTy.bits .bf16 < FTy.bits .f32
  bcast_S_S8192x2816 : S_.BroadcastsInDim S8192x2816 (![] : Fin 0 → Fin S8192x2816.rank)

variable [Facts]

def fn {F : FTy → Type} [FloatOps F] (main_arg0 : FVec F S8192x5632 .bf16) (main_arg1 : FVec F S8192x5632 .bf16) (main_arg2 : FVec F S8192x2816 .bf16) (main_arg3 : FVec F S3x5632 .f32) : IVec S8192x2816 1 :=
  let main_v0 : FVec F S8192x2816 .bf16 := (extractStridedSlice S8192x2816 ![0, 2816] · slices_S8192x5632_S8192x2816_0_2816) main_arg1
  let main_v1 : FVec F S8192x2816 .f32 := (extf .f32 · bitsLt_bf16_f32) main_v0
  let main_v2 : FVec F S8192x2816 .f32 := (extf .f32 · bitsLt_bf16_f32) main_arg2
  let main_cst : FVec F S_ .f32 := constant S_ .f32 0x7F800000#32
  let main_v3 : FVec F S8192x2816 .f32 := broadcastInDim S8192x2816 ![] bcast_S_S8192x2816 main_cst
  let main_v4 : IVec S8192x2816 1 := cmpf .olt main_v1 main_v3
  let main_cst_0 : FVec F S_ .f32 := constant S_ .f32 0xFF800000#32
  let main_v5 : FVec F S8192x2816 .f32 := broadcastInDim S8192x2816 ![] bcast_S_S8192x2816 main_cst_0
  let main_v6 : IVec S8192x2816 1 := cmpf .ogt main_v1 main_v5
  let main_v7 : IVec S8192x2816 1 := andi main_v4 main_v6
  let main_cst_1 : FVec F S_ .f32 := constant S_ .f32 0x7F800000#32
  let main_v8 : FVec F S8192x2816 .f32 := broadcastInDim S8192x2816 ![] bcast_S_S8192x2816 main_cst_1
  let main_v9 : IVec S8192x2816 1 := cmpf .olt main_v2 main_v8
  let main_v10 : IVec S8192x2816 1 := andi main_v7 main_v9
  let main_cst_2 : FVec F S_ .f32 := constant S_ .f32 0xFF800000#32
  let main_v11 : FVec F S8192x2816 .f32 := broadcastInDim S8192x2816 ![] bcast_S_S8192x2816 main_cst_2
  let main_v12 : IVec S8192x2816 1 := cmpf .ogt main_v2 main_v11
  let main_v13 : IVec S8192x2816 1 := andi main_v10 main_v12
  main_v13
-- ==== Kernel.lean ====
abbrev S8192x3072 : Shape := ⟨2, ![8192, 3072]⟩
abbrev S8192x1024 : Shape := ⟨2, ![8192, 1024]⟩
abbrev S3x1024 : Shape := ⟨2, ![3, 1024]⟩
abbrev S256x3072 : Shape := ⟨2, ![256, 3072]⟩
abbrev S16x3072 : Shape := ⟨2, ![16, 3072]⟩
abbrev S256x1024 : Shape := ⟨2, ![256, 1024]⟩
abbrev S16x1024 : Shape := ⟨2, ![16, 1024]⟩
abbrev S288x1024 : Shape := ⟨2, ![288, 1024]⟩
abbrev S1x1024 : Shape := ⟨2, ![1, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S8192x3072, .bf16⟩
  | .hbm, ⟨4, _⟩ => ⟨S3x1024, .f32⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S16x3072, .bf16⟩
  | .local _ .vmem, ⟨5, _⟩ => ⟨S16x3072, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S3x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_33 : BitVec 32 := 0#32
  let v104 : BitVec 1 := Scalar.cmpi .eq arg0 c0_i32_33
  let v105 : BitVec 32 := Scalar.extui v104
  let c0_i32_34 : BitVec 32 := 0#32
  let v106 : BitVec 1 := Scalar.cmpi .ne v105 c0_i32_34
  v106

def k0_cond2 (i : grid0.Coords) : BitVec 1 :=
  let arg0 : BitVec 32 := BitVec.ofNat 32 (i 0).val
  let c0_i32_35 : BitVec 32 := 0#32
  let v107 : BitVec 1 := Scalar.cmpi .sgt arg0 c0_i32_35
  let v108 : BitVec 32 := Scalar.extui v107
  let c0_i32_36 : BitVec 32 := 0#32
  let v109 : BitVec 1 := Scalar.cmpi .ne v108 c0_i32_36
  v109

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x3072 : Shape := ⟨2, ![8192, 3072]⟩
abbrev S8192x1024 : Shape := ⟨2, ![8192, 1024]⟩
abbrev S3x1024 : Shape := ⟨2, ![3, 1024]⟩
abbrev S2x4096x3072 : Shape := ⟨3, ![2, 4096, 3072]⟩
abbrev S2x4096x1024 : Shape := ⟨3, ![2, 4096, 1024]⟩
abbrev S_ : Shape := ⟨0, ![]⟩
abbrev S2x2x1024 : Shape := ⟨3, ![2, 2, 1024]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S8192x3072, .f32⟩
  | .hbm, ⟨4, _⟩ => ⟨S2x4096x3072, .f32⟩
  | .hbm, ⟨5, _⟩ => ⟨S8192x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S_, .f32⟩
  | .hbm, ⟨12, _⟩ => ⟨S2x2x1024, .f32⟩
  | .hbm, ⟨13, _⟩ => ⟨S2x4098x1024, .f32⟩
  | .hbm, ⟨14, _⟩ => ⟨S_, .f32⟩
  | .hbm, ⟨15, _⟩ => ⟨S2x2x1024, .f32⟩
  | .hbm, ⟨16, _⟩ => ⟨S2x4096x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S_, .f32⟩
  | .hbm, ⟨41, _⟩ => ⟨S1024, .f32⟩
  | .hbm, ⟨42, _⟩ => ⟨S1x1x1024, .f32⟩
  | .hbm, ⟨43, _⟩ => ⟨S2x4096x1024, .f32⟩
  | .hbm, ⟨44, _⟩ => ⟨S2x4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S3x1024, .f32⟩
  | .hbm, ⟨50, _⟩ => ⟨S_, .f32⟩
  | .hbm, ⟨51, _⟩ => ⟨S2x4098x1024, .f32⟩
  | .hbm, ⟨52, _⟩ => ⟨S2x4096x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S2x4096x1024, .f32⟩
  | .hbm, ⟨57, _⟩ => ⟨S2x4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S3x1024, .f32⟩
  | .hbm, ⟨64, _⟩ => ⟨S_, .f32⟩
  | .hbm, ⟨65, _⟩ => ⟨S2x4098x1024, .f32⟩
  | .hbm, ⟨66, _⟩ => ⟨S2x4098x1024, .f32⟩
  | .hbm, ⟨67, _⟩ => ⟨S2x4096x1024, .f32⟩
  | .hbm, ⟨68, _⟩ => ⟨S_, .f32⟩
  | .hbm, ⟨69, _⟩ => ⟨S1024, .f32⟩
  | .hbm, ⟨70, _⟩ => ⟨S1x1x1024, .f32⟩
  | .hbm, ⟨71, _⟩ => ⟨S2x4096x1024, .f32⟩
  | .hbm, ⟨72, _⟩ => ⟨S2x4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S3x1024, .f32⟩
  | .hbm, ⟨78, _⟩ => ⟨S3x1024, .f32⟩
  | .hbm, ⟨79, _⟩ => ⟨S_, .f32⟩
  | .hbm, ⟨80, _⟩ => ⟨S2x4098x1024, .f32⟩
  | .hbm, ⟨81, _⟩ => ⟨S2x4098x1024, .f32⟩
  | .hbm, ⟨82, _⟩ => ⟨S2x2x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S2x4096x3072, .f32⟩
  | .hbm, ⟨87, _⟩ => ⟨S8192x3072, .f32⟩
  | .hbm, ⟨88, _⟩ => ⟨S8192x3072, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .bf16⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .bf16⟩
  | .local _ .vmem, ⟨4, _⟩ => ⟨S512x1024, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x5632, .f32⟩
  | .hbm, ⟨3, _⟩ => ⟨S1024x5632, .f32⟩
  | .hbm, ⟨4, _⟩ => ⟨S_, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S8192x512 : Shape := ⟨2, ![8192, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .hbm, ⟨3, _⟩ => ⟨S1024x5632, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8x128 : Shape := ⟨2, ![8, 128]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8x128, .f32⟩
  | .hbm, ⟨3, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S8x128 : Shape := ⟨2, ![8, 128]⟩
abbrev S_ : Shape := ⟨0, ![]⟩
abbrev S8192x2816 : Shape := ⟨2, ![8192, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8x128, .f32⟩
  | .hbm, ⟨3, _⟩ => ⟨S8192x1024, .f32⟩
  | .hbm, ⟨4, _⟩ => ⟨S2816x1024, .f32⟩
  | .hbm, ⟨5, _⟩ => ⟨S_, .f32⟩
  | .hbm, ⟨6, _⟩ => ⟨S8192x2816, .f32⟩
  | .hbm, ⟨7, _⟩ => ⟨S8192x1024, .f32⟩
  | .hbm, ⟨8, _⟩ => ⟨S8192x2816, .f32⟩
  | .hbm, ⟨9, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S8192x256 : Shape := ⟨2, ![8192, 256]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .hbm, ⟨3, _⟩ => ⟨S2816x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S8192x3072 : Shape := ⟨2, ![8192, 3072]⟩
abbrev S1024x3072 : Shape := ⟨2, ![1024, 3072]⟩
abbrev S8x128 : Shape := ⟨2, ![8, 128]⟩
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8x128, .f32⟩
  | .hbm, ⟨3, _⟩ => ⟨S8192x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .bf16⟩
  | .local _ .vmem, ⟨4, _⟩ => ⟨S1024x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8192x3072 : Shape := ⟨2, ![8192, 3072]⟩
abbrev S1024x3072 : Shape := ⟨2, ![1024, 3072]⟩
abbrev S8x128 : Shape := ⟨2, ![8, 128]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8x128, .f32⟩
  | .hbm, ⟨3, _⟩ => ⟨S8192x3072, .f32⟩
  | .hbm, ⟨4, _⟩ => ⟨S1024x3072, .f32⟩
  | .hbm, ⟨5, _⟩ => ⟨S_, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InDw.lean ====
abbrev S8192x1024 : Shape := ⟨2, ![8192, 1024]⟩
abbrev S8192x3072 : Shape := ⟨2, ![8192, 3072]⟩
abbrev S1024x3072 : Shape := ⟨2, ![1024, 3072]⟩
abbrev S8192x512 : Shape := ⟨2, ![8192, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .hbm, ⟨3, _⟩ => ⟨S1024x3072, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDwRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1024x1024 : Shape := ⟨2, ![1024, 1024]⟩
abbrev S8x128 : Shape := ⟨2, ![8, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SquareDw.lean ====
abbrev S8192x1024 : Shape := ⟨2, ![8192, 1024]⟩
abbrev S1024x1024 : Shape := ⟨2, ![1024, 1024]⟩
abbrev S8192x512 : Shape := ⟨2, ![8192, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .hbm, ⟨3, _⟩ => ⟨S1024x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SquareDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ODx.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODxRefIdeal.lean ====
abbrev S8192x1024 : Shape := ⟨2, ![8192, 1024]⟩
abbrev S1024x1024 : Shape := ⟨2, ![1024, 1024]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== QDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KeyDx.lean ====
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyDxRefIdeal.lean ====
abbrev S8192x1024 : Shape := ⟨2, ![8192, 1024]⟩
abbrev S1024x2048 : Shape := ⟨2, ![1024, 2048]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x2048, .f32⟩
  | .hbm, ⟨12, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ValueDx.lean ====
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ValueDxRefIdeal.lean ====
abbrev S8192x1024 : Shape := ⟨2, ![8192, 1024]⟩
abbrev S1024x2048 : Shape := ⟨2, ![1024, 2048]⟩
abbrev S_ : Shape := ⟨0, ![]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S8192x1024, .f32⟩
  | .hbm, ⟨4, _⟩ => ⟨S1024x2048, .f32⟩
  | .hbm, ⟨5, _⟩ => ⟨S_, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x2048, .f32⟩
  | .hbm, ⟨13, _⟩ => ⟨S8192x1024, .f32⟩
  | .hbm, ⟨14, _⟩ => ⟨S8192x1024, .f32⟩
  | .hbm, ⟨15, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kv.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Q.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDxTop.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxTopRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SiluBwd.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S256x5632 : Shape := ⟨2, ![256, 5632]⟩
abbrev S16x5632 : Shape := ⟨2, ![16, 5632]⟩
abbrev S256x2816 : Shape := ⟨2, ![256, 2816]⟩
abbrev S16x2816 : Shape := ⟨2, ![16, 2816]⟩
abbrev S256x256 : Shape := ⟨2, ![256, 256]⟩
abbrev S16x256 : Shape := ⟨2, ![16, 256]⟩
abbrev S272x256 : Shape := ⟨2, ![272, 256]⟩
abbrev S1x256 : Shape := ⟨2, ![1, 256]⟩
abbrev S256 : Shape := ⟨1, ![256]⟩

abbrev nBuf : Space → Nat
  | .hbm => 7
  | .vmem => 17
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x2816, .bf16⟩
  | .hbm, ⟨3, _⟩ => ⟨S3x5632, .f32⟩
  | .hbm, ⟨4, _⟩ => ⟨S8192x5632, .bf16⟩
  | .hbm, ⟨5, _⟩ => ⟨S3x5632, .f32⟩
  | .hbm, ⟨6, _⟩ => ⟨S1x5632, .f32⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S256x5632, .bf16⟩
  | .local _ .vmem, ⟨5, _⟩ => ⟨S256x5632, .bf16⟩
  | .local _ .vmem, ⟨6, _⟩ => ⟨S16x5632, .bf16⟩
  | .local _ .vmem, ⟨7, _⟩ => ⟨S16x5632, .bf16⟩
  | .local _ .vmem, ⟨8, _⟩ => ⟨S256x2816, .bf16⟩
  | .local _ .vmem, ⟨9, _⟩ => ⟨S256x2816, .bf16⟩
  | .local _ .vmem, ⟨10, _⟩ => ⟨S16x2816, .bf16⟩
  | .local _ .vmem, ⟨11, _⟩ => ⟨S16x2816, .bf16⟩
  | .local _ .vmem, ⟨12, _⟩ => ⟨S3x5632, .f32⟩
  | .local _ .vmem, ⟨13, _⟩ => ⟨S256x5632, .bf16⟩
  | .local _ .vmem, ⟨14, _⟩ => ⟨S256x5632, .bf16⟩
  | .local _ .vmem, ⟨15, _⟩ => ⟨S3x5632, .f32⟩
  | .local _ .vmem, ⟨16, _⟩ => ⟨S1x5632, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== SiluBwdRefIdeal.lean ====
abbrev S8192x5632 : Shape := ⟨2, ![8192, 5632]⟩
abbrev S8192x2816 : Shape := ⟨2, ![8192, 2816]⟩
abbrev S3x5632 : Shape := ⟨2, ![3, 5632]⟩
abbrev S2x4096x5632 : Shape := ⟨3, ![2, 4096, 5632]⟩
abbrev S2x4096x2816 : Shape := ⟨3, ![2, 4096, 2816]⟩
abbrev S_ : Shape := ⟨0, ![]⟩
abbrev S5632 : Shape := ⟨1, ![5632]⟩
abbrev S2x2x5632 : Shape := ⟨3, ![2, 2, 5632]⟩
abbrev S2x4098x5632 : Shape := ⟨3, ![2, 4098, 5632]⟩
abbrev S1x5632 : Shape := ⟨2, ![1, 5632]⟩
abbrev S1x1x5632 : Shape := ⟨3, ![1, 1, 5632]⟩

abbrev nBuf : Space → Nat
  | .hbm => 116
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x2816, .bf16⟩
  | .hbm, ⟨3, _⟩ => ⟨S3x5632, .f32⟩
  | .hbm, ⟨4, _⟩ => ⟨S8192x5632, .f32⟩
  | .hbm, ⟨5, _⟩ => ⟨S2x4096x5632, .f32⟩
  | .hbm, ⟨6, _⟩ => ⟨S2x4096x2816, .f32⟩
  | .hbm, ⟨7, _⟩ => ⟨S2x4096x2816, .f32⟩
  | .hbm, ⟨8, _⟩ => ⟨S2x4096x2816, .f32⟩
  | .hbm, ⟨9, _⟩ => ⟨S2x4096x2816, .f32⟩
  | .hbm, ⟨10, _⟩ => ⟨S_, .f32⟩
  | .hbm, ⟨11, _⟩ => ⟨S2x4096x2816, .f32⟩
  | .hbm, ⟨12, _⟩ => ⟨S2x4096x2816, .f32⟩
  | .hbm, ⟨13, _⟩ => ⟨S_, .f32⟩
  | .hbm, ⟨14, _⟩ => ⟨S2x4096x2816, .f32⟩
  | .hbm, ⟨15, _⟩ => ⟨S2x4096x2816, .f32⟩
  | .hbm, ⟨16, _⟩ => ⟨S_, .f32⟩
  | .hbm, ⟨17, _⟩ => ⟨S2x4096x2816, .f32⟩
  | .hbm, ⟨18, _⟩ => ⟨S2x4096x2816, .f32⟩
  | .hbm, ⟨19, _⟩ => ⟨S2x4096x2816, .f32⟩
  | .hbm, ⟨20, _⟩ => ⟨S2x4096x2816, .f32⟩
  | .hbm, ⟨21, _⟩ => ⟨S2x4096x2816, .f32⟩
  | .hbm, ⟨22, _⟩ => ⟨S8192x2816, .f32⟩
  | .hbm, ⟨23, _⟩ => ⟨S2x4096x2816, .f32⟩
  | .hbm, ⟨24, _⟩ => ⟨S2x4096x2816, .f32⟩
  | .hbm, ⟨25, _⟩ => ⟨S2x4096x2816, .f32⟩
  | .hbm, ⟨26, _⟩ => ⟨S2x4096x2816, .f32⟩
  | .hbm, ⟨27, _⟩ => ⟨S2x4096x2816, .f32⟩
  | .hbm, ⟨28, _⟩ => ⟨S2x4096x2816, .f32⟩
  | .hbm, ⟨29, _⟩ => ⟨S2x4096x2816, .f32⟩
  | .hbm, ⟨30, _⟩ => ⟨S2x4096x5632, .f32⟩
  | .hbm, ⟨31, _⟩ => ⟨S_, .f32⟩
  | .hbm, ⟨32, _⟩ => ⟨S5632, .f32⟩
  | .hbm, ⟨33, _⟩ => ⟨S8192x5632, .f32⟩
  | .hbm, ⟨34, _⟩ => ⟨S2x4096x5632, .f32⟩
  | .hbm, ⟨35, _⟩ => ⟨S_, .f32⟩
  | .hbm, ⟨36, _⟩ => ⟨S2x2x5632, .f32⟩
  | .hbm, ⟨37, _⟩ => ⟨S2x4098x5632, .f32⟩
  | .hbm, ⟨38, _⟩ => ⟨S_, .f32⟩
  | .hbm, ⟨39, _⟩ => ⟨S2x2x5632, .f32⟩
  | .hbm, ⟨40, _⟩ => ⟨S2x4096x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S2x4096x5632, .f32⟩
  | .hbm, ⟨45, _⟩ => ⟨S2x4096x5632, .f32⟩
  | .hbm, ⟨46, _⟩ => ⟨S2x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S2x4096x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S2x4096x5632, .f32⟩
  | .hbm, ⟨58, _⟩ => ⟨S2x4096x5632, .f32⟩
  | .hbm, ⟨59, _⟩ => ⟨S2x4096x5632, .f32⟩
  | .hbm, ⟨60, _⟩ => ⟨S1x1x5632, .f32⟩
  | .hbm, ⟨61, _⟩ => ⟨S2x4096x5632, .f32⟩
  | .hbm, ⟨62, _⟩ => ⟨S2x4096x5632, .f32⟩
  | .hbm, ⟨63, _⟩ => ⟨S_, .f32⟩
  | .hbm, ⟨64, _⟩ => ⟨S5632, .f32⟩
  | .hbm, ⟨65, _⟩ => ⟨S1x1x5632, .f32⟩
  | .hbm, ⟨66, _⟩ => ⟨S_, .f32⟩
  | .hbm, ⟨67, _⟩ => ⟨S5632, .f32⟩
  | .hbm, ⟨68, _⟩ => ⟨S2x4096x5632, .f32⟩
  | .hbm, ⟨69, _⟩ => ⟨S_, .f32⟩
  | .hbm, ⟨70, _⟩ => ⟨S5632, .f32⟩
  | .hbm, ⟨71, _⟩ => ⟨S1x1x5632, .f32⟩
  | .hbm, ⟨72, _⟩ => ⟨S2x4096x5632, .f32⟩
  | .hbm, ⟨73, _⟩ => ⟨S2x4096x5632, .f32⟩
  | .hbm, ⟨74, _⟩ => ⟨S_, .f32⟩
  | .hbm, ⟨75, _⟩ => ⟨S5632, .f32⟩
  | .hbm, ⟨76, _⟩ => ⟨S1x5632, .f32⟩
  | .hbm, ⟨77, _⟩ => ⟨S_, .f32⟩
  | .hbm, ⟨78, _⟩ => ⟨S3x5632, .f32⟩
  | .hbm, ⟨79, _⟩ => ⟨S_, .f32⟩
  | .hbm, ⟨80, _⟩ => ⟨S2x4098x5632, .f32⟩
  | .hbm, ⟨81, _⟩ => ⟨S2x4096x5632, .f32⟩
  | .hbm, ⟨82, _⟩ => ⟨S_, .f32⟩
  | .hbm, ⟨83, _⟩ => ⟨S5632, .f32⟩
  | .hbm, ⟨84, _⟩ => ⟨S1x1x5632, .f32⟩
  | .hbm, ⟨85, _⟩ => ⟨S2x4096x5632, .f32⟩
  | .hbm, ⟨86, _⟩ => ⟨S2x4096x5632, .f32⟩
  | .hbm, ⟨87, _⟩ => ⟨S_, .f32⟩
  | .hbm, ⟨88, _⟩ => ⟨S5632, .f32⟩
  | .hbm, ⟨89, _⟩ => ⟨S1x5632, .f32⟩
  | .hbm, ⟨90, _⟩ => ⟨S_, .f32⟩
  | .hbm, ⟨91, _⟩ => ⟨S3x5632, .f32⟩
  | .hbm, ⟨92, _⟩ => ⟨S3x5632, .f32⟩
  | .hbm, ⟨93, _⟩ => ⟨S_, .f32⟩
  | .hbm, ⟨94, _⟩ => ⟨S2x4098x5632, .f32⟩
  | .hbm, ⟨95, _⟩ => ⟨S2x4098x5632, .f32⟩
  | .hbm, ⟨96, _⟩ => ⟨S2x4096x5632, .f32⟩
  | .hbm, ⟨97, _⟩ => ⟨S_, .f32⟩
  | .hbm, ⟨98, _⟩ => ⟨S5632, .f32⟩
  | .hbm, ⟨99, _⟩ => ⟨S1x1x5632, .f32⟩
  | .hbm, ⟨100, _⟩ => ⟨S2x4096x5632, .f32⟩
  | .hbm, ⟨101, _⟩ => ⟨S2x4096x5632, .f32⟩
  | .hbm, ⟨102, _⟩ => ⟨S_, .f32⟩
  | .hbm, ⟨103, _⟩ => ⟨S5632, .f32⟩
  | .hbm, ⟨104, _⟩ => ⟨S1x5632, .f32⟩
  | .hbm, ⟨105, _⟩ => ⟨S_, .f32⟩
  | .hbm, ⟨106, _⟩ => ⟨S3x5632, .f32⟩
  | .hbm, ⟨107, _⟩ => ⟨S3x5632, .f32⟩
  | .hbm, ⟨108, _⟩ => ⟨S_, .f32⟩
  | .hbm, ⟨109, _⟩ => ⟨S2x4098x5632, .f32⟩
  | .hbm, ⟨110, _⟩ => ⟨S2x4098x5632, .f32⟩
  | .hbm, ⟨111, _⟩ => ⟨S2x2x5632, .f32⟩
  | .hbm, ⟨112, _⟩ => ⟨S2x4096x5632, .f32⟩
  | .hbm, ⟨113, _⟩ => ⟨S8192x5632, .f32⟩
  | .hbm, ⟨114, _⟩ => ⟨S8192x5632, .bf16⟩
  | .hbm, ⟨115, _⟩ => ⟨S1x5632, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]
-- ==== Silu.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S256x5632 : Shape := ⟨2, ![256, 5632]⟩
abbrev S16x5632 : Shape := ⟨2, ![16, 5632]⟩
abbrev S256x2816 : Shape := ⟨2, ![256, 2816]⟩
abbrev S16x256 : Shape := ⟨2, ![16, 256]⟩
abbrev S256x256 : Shape := ⟨2, ![256, 256]⟩
abbrev S272x256 : Shape := ⟨2, ![272, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x5632, .bf16⟩
  | .hbm, ⟨4, _⟩ => ⟨S8192x2816, .bf16⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S3x5632, .f32⟩
  | .local _ .vmem, ⟨5, _⟩ => ⟨S1x5632, .f32⟩
  | .local _ .vmem, ⟨6, _⟩ => ⟨S256x5632, .bf16⟩
  | .local _ .vmem, ⟨7, _⟩ => ⟨S256x5632, .bf16⟩
  | .local _ .vmem, ⟨8, _⟩ => ⟨S256x2816, .bf16⟩
  | .local _ .vmem, ⟨9, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SiluRefIdeal.lean ====
abbrev S8192x5632 : Shape := ⟨2, ![8192, 5632]⟩
abbrev S3x5632 : Shape := ⟨2, ![3, 5632]⟩
abbrev S1x5632 : Shape := ⟨2, ![1, 5632]⟩
abbrev S2x4096x5632 : Shape := ⟨3, ![2, 4096, 5632]⟩
abbrev S5632 : Shape := ⟨1, ![5632]⟩
abbrev S_ : Shape := ⟨0, ![]⟩
abbrev S2x2x5632 : Shape := ⟨3, ![2, 2, 5632]⟩
abbrev S2x4098x5632 : Shape := ⟨3, ![2, 4098, 5632]⟩
abbrev S1x1x5632 : Shape := ⟨3, ![1, 1, 5632]⟩
abbrev S2x4096x2816 : Shape := ⟨3, ![2, 4096, 2816]⟩
abbrev S8192x2816 : Shape := ⟨2, ![8192, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x5632, .f32⟩
  | .hbm, ⟨4, _⟩ => ⟨S2x4096x5632, .f32⟩
  | .hbm, ⟨5, _⟩ => ⟨S5632, .f32⟩
  | .hbm, ⟨6, _⟩ => ⟨S_, .f32⟩
  | .hbm, ⟨7, _⟩ => ⟨S2x2x5632, .f32⟩
  | .hbm, ⟨8, _⟩ => ⟨S2x4098x5632, .f32⟩
  | .hbm, ⟨9, _⟩ => ⟨S2x4096x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S2x4096x5632, .f32⟩
  | .hbm, ⟨14, _⟩ => ⟨S2x4096x5632, .f32⟩
  | .hbm, ⟨15, _⟩ => ⟨S2x4096x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S2x4096x5632, .f32⟩
  | .hbm, ⟨20, _⟩ => ⟨S2x4096x5632, .f32⟩
  | .hbm, ⟨21, _⟩ => ⟨S2x4096x5632, .f32⟩
  | .hbm, ⟨22, _⟩ => ⟨S2x4096x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S2x4096x5632, .f32⟩
  | .hbm, ⟨27, _⟩ => ⟨S2x4096x5632, .f32⟩
  | .hbm, ⟨28, _⟩ => ⟨S2x4096x5632, .f32⟩
  | .hbm, ⟨29, _⟩ => ⟨S1x1x5632, .f32⟩
  | .hbm, ⟨30, _⟩ => ⟨S2x4096x5632, .f32⟩
  | .hbm, ⟨31, _⟩ => ⟨S2x4096x5632, .f32⟩
  | .hbm, ⟨32, _⟩ => ⟨S8192x5632, .f32⟩
  | .hbm, ⟨33, _⟩ => ⟨S8192x5632, .bf16⟩
  | .hbm, ⟨34, _⟩ => ⟨S2x4096x2816, .f32⟩
  | .hbm, ⟨35, _⟩ => ⟨S2x4096x2816, .f32⟩
  | .hbm, ⟨36, _⟩ => ⟨S2x4096x2816, .f32⟩
  | .hbm, ⟨37, _⟩ => ⟨S2x4096x2816, .f32⟩
  | .hbm, ⟨38, _⟩ => ⟨S_, .f32⟩
  | .hbm, ⟨39, _⟩ => ⟨S2x4096x2816, .f32⟩
  | .hbm, ⟨40, _⟩ => ⟨S2x4096x2816, .f32⟩
  | .hbm, ⟨41, _⟩ => ⟨S_, .f32⟩
  | .hbm, ⟨42, _⟩ => ⟨S2x4096x2816, .f32⟩
  | .hbm, ⟨43, _⟩ => ⟨S2x4096x2816, .f32⟩
  | .hbm, ⟨44, _⟩ => ⟨S2x4096x2816, .f32⟩
  | .hbm, ⟨45, _⟩ => ⟨S2x4096x2816, .f32⟩
  | .hbm, ⟨46, _⟩ => ⟨S8192x2816, .f32⟩
  | .hbm, ⟨47, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== GateFwd.lean ====
abbrev S8192x3072 : Shape := ⟨2, ![8192, 3072]⟩
abbrev S3x1024 : Shape := ⟨2, ![3, 1024]⟩
abbrev S8192x1024 : Shape := ⟨2, ![8192, 1024]⟩
abbrev S256x3072 : Shape := ⟨2, ![256, 3072]⟩
abbrev S16x3072 : Shape := ⟨2, ![16, 3072]⟩
abbrev S256x1024 : Shape := ⟨2, ![256, 1024]⟩
abbrev S16x1024 : Shape := ⟨2, ![16, 1024]⟩
abbrev S272x1024 : Shape := ⟨2, ![272, 1024]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x1024, .bf16⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateFwdRefIdeal.lean ====
abbrev S8192x3072 : Shape := ⟨2, ![8192, 3072]⟩
abbrev S3x1024 : Shape := ⟨2, ![3, 1024]⟩
abbrev S2x4096x3072 : Shape := ⟨3, ![2, 4096, 3072]⟩
abbrev S2x4096x1024 : Shape := ⟨3, ![2, 4096, 1024]⟩
abbrev S_ : Shape := ⟨0, ![]⟩
abbrev S2x2x1024 : Shape := ⟨3, ![2, 2, 1024]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x3072, .f32⟩
  | .hbm, ⟨3, _⟩ => ⟨S2x4096x3072, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x2x1024, .f32⟩
  | .hbm, ⟨10, _⟩ => ⟨S2x4098x1024, .f32⟩
  | .hbm, ⟨11, _⟩ => ⟨S2x4096x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S8192x1024, .f32⟩
  | .hbm, ⟨33, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormFirst.lean ====
abbrev S8192x1024 : Shape := ⟨2, ![8192, 1024]⟩
abbrev S1x1024 : Shape := ⟨2, ![1, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x128, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFirstRefIdeal.lean ====
abbrev S8192x1024 : Shape := ⟨2, ![8192, 1024]⟩
abbrev S1x1024 : Shape := ⟨2, ![1, 1024]⟩
abbrev S8x128 : Shape := ⟨2, ![8, 128]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x128, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== NormTwo.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormTwoRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32_13 : BitVec 32 := 0#32
  let v34 : BitVec 1 := Scalar.cmpi .sgt arg0 c0_i32_13
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== NormBwdTwo.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32_13 : BitVec 32 := 0#32
  let v34 : BitVec 1 := Scalar.cmpi .sgt arg0 c0_i32_13
  let v35 : BitVec 32 := Scalar.extui v34
  let c0_i32_14 : BitVec 32 := 0#32
  let v36 : BitVec 1 := Scalar.cmpi .ne v35 c0_i32_14
  v36

def k0_cond3 (i : grid0.Coords) : BitVec 1 :=
  let arg0 : BitVec 32 := BitVec.ofNat 32 (i 0).val
  let c0_i32_22 : BitVec 32 := 0#32
  let v56 : BitVec 1 := Scalar.cmpi .eq arg0 c0_i32_22
  let v57 : BitVec 32 := Scalar.extui v56
  let c0_i32_23 : BitVec 32 := 0#32
  let v58 : BitVec 1 := Scalar.cmpi .ne v57 c0_i32_23
  v58

def k0_cond4 (i : grid0.Coords) : BitVec 1 :=
  let arg0 : BitVec 32 := BitVec.ofNat 32 (i 0).val
  let c0_i32_24 : BitVec 32 := 0#32
  let v59 : BitVec 1 := Scalar.cmpi .sgt arg0 c0_i32_24
  let v60 : BitVec 32 := Scalar.extui v59
  let c0_i32_25 : BitVec 32 := 0#32
  let v61 : BitVec 1 := Scalar.cmpi .ne v60 c0_i32_25
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdTwoRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S1x128 : Shape := ⟨2, ![1, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_17 : BitVec 32 := 0#32
  let v43 : BitVec 1 := Scalar.cmpi .ne v42 c0_i32_17
  v43

def k0_cond2 (i : grid0.Coords) : BitVec 1 :=
  let arg0 : BitVec 32 := BitVec.ofNat 32 (i 0).val
  let c0_i32_18 : BitVec 32 := 0#32
  let v44 : BitVec 1 := Scalar.cmpi .sgt arg0 c0_i32_18
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S_, .f32⟩
  | .hbm, ⟨87, _⟩ => ⟨S_, .f32⟩
  | .hbm, ⟨88, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_18 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== AdamKv.lean ====
abbrev S1x1024x512 : Shape := ⟨3, ![1, 1024, 512]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | .local _ .vmem, ⟨7, _⟩ => ⟨S256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamKvIdeal.lean ====
abbrev S1x1024x512 : Shape := ⟨3, ![1, 1024, 512]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | .local _ .vmem, ⟨7, _⟩ => ⟨S256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamKvRefIdeal.lean ====
abbrev S1x1024x512 : Shape := ⟨3, ![1, 1024, 512]⟩
abbrev S1024x512 : Shape := ⟨2, ![1024, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1024x512, .f32⟩
  | .hbm, ⟨4, _⟩ => ⟨S1x1024x512, .f32⟩
  | .hbm, ⟨5, _⟩ => ⟨S_, .f32⟩
  | .hbm, ⟨6, _⟩ => ⟨S1x1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S1x1024x512, .f32⟩
  | .hbm, ⟨12, _⟩ => ⟨S_, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S_, .f32⟩
  | .hbm, ⟨17, _⟩ => ⟨S1x1024x512, .f32⟩
  | .hbm, ⟨18, _⟩ => ⟨S1x1024x512, .f32⟩
  | .hbm, ⟨19, _⟩ => ⟨S1x1024x512, .f32⟩
  | .hbm, ⟨20, _⟩ => ⟨S_, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S_, .f32⟩
  | .hbm, ⟨28, _⟩ => ⟨S1x1024x512, .f32⟩
  | .hbm, ⟨29, _⟩ => ⟨S1x1024x512, .f32⟩
  | .hbm, ⟨30, _⟩ => ⟨S1x1024x512, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S1x1024x512, .f32⟩
  | .hbm, ⟨35, _⟩ => ⟨S_, .f32⟩
  | .hbm, ⟨36, _⟩ => ⟨S1x1024x512, .f32⟩
  | .hbm, ⟨37, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamSquare.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSquareIdeal.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSquareRefIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamIn.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1x1024x768, .f32⟩
  | .hbm, ⟨5, _⟩ => ⟨S_, .f32⟩
  | .hbm, ⟨6, _⟩ => ⟨S1x1024x768, .f32⟩
  | .hbm, ⟨7, _⟩ => ⟨S1x1024x768, .f32⟩
  | .hbm, ⟨8, _⟩ => ⟨S_, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .hbm, ⟨12, _⟩ => ⟨S_, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S_, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S_, .f32⟩
  | .hbm, ⟨21, _⟩ => ⟨S1x1024x768, .f32⟩
  | .hbm, ⟨22, _⟩ => ⟨S1x1024x768, .f32⟩
  | .hbm, ⟨23, _⟩ => ⟨S_, .f32⟩
  | .hbm, ⟨24, _⟩ => ⟨S1x1024x768, .f32⟩
  | .hbm, ⟨25, _⟩ => ⟨S1x1024x768, .f32⟩
  | .hbm, ⟨26, _⟩ => ⟨S1x1024x768, .f32⟩
  | .hbm, ⟨27, _⟩ => ⟨S_, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S_, .f32⟩
  | .hbm, ⟨32, _⟩ => ⟨S1x1024x768, .f32⟩
  | .hbm, ⟨33, _⟩ => ⟨S1x1024x768, .f32⟩
  | .hbm, ⟨34, _⟩ => ⟨S1x1024x768, .f32⟩
  | .hbm, ⟨35, _⟩ => ⟨S_, .f32⟩
  | .hbm, ⟨36, _⟩ => ⟨S1x1024x768, .f32⟩
  | .hbm, ⟨37, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamUp.lean ====
abbrev S2x1024x1408 : Shape := ⟨3, ![2, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpIdeal.lean ====
abbrev S2x1024x1408 : Shape := ⟨3, ![2, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamDown.lean ====
abbrev S2x704x1024 : Shape := ⟨3, ![2, 704, 1024]⟩
abbrev S704x1024 : Shape := ⟨2, ![704, 1024]⟩
abbrev S1x64x1024 : Shape := ⟨3, ![1, 64, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.GateSpec.lean ====
module

public import Idealize.ShloMosaic.Lib.Pipeline.ValueKit
/-! # What the gradient of the gated convolution is, row by row

The forward pass takes three gates `b`, `c`, `h` side by side in one array `u` of 3072 columns, convolves `z = c * h` along
the positions with three taps, and multiplies by `b`. Two sequences of 4096 positions lie one after the other in the 8192
rows. The functions below say, with plain numbers for rows and columns, what every entry of the two gradients is. They
mention no program. -/
@[expose] public section

noncomputable section
namespace Cert.Gate

/-- The convolved product `c * h`, read `j` rows earlier; zero before the start of the sequence. -/
def Zs (U : ℕ → ℕ → EReal) (j n d : ℕ) : EReal :=
  if n % 4096 < j then 0 else U (n - j) (1024 + d) * U (n - j) (2048 + d)

/-- The cotangent times the gate `b`, read `j` rows later; zero after the end of the sequence. -/
def Ds (U Y : ℕ → ℕ → EReal) (j n d : ℕ) : EReal :=
  if 4096 ≤ n % 4096 + j then 0 else Y (n + j) d * U (n + j) d

/-- Gradient of the gate `b`. -/
def CB (U Y W : ℕ → ℕ → EReal) (n d : ℕ) : EReal :=
  Y n d * (W 0 d * Zs U 2 n d + W 1 d * Zs U 1 n d + W 2 d * Zs U 0 n d)

/-- Gradient of the product `c * h`: the convolution run backwards. -/
def DZ (U Y W : ℕ → ℕ → EReal) (n d : ℕ) : EReal :=
  W 2 d * Ds U Y 0 n d + W 1 d * Ds U Y 1 n d + W 0 d * Ds U Y 2 n d

/-- Gradient of `u`: the three gates side by side. -/
def dU (U Y W : ℕ → ℕ → EReal) (n e : ℕ) : EReal :=
  if e < 1024 then CB U Y W n e
  else if e < 2048 then DZ U Y W n (e - 1024) * U n (e + 1024)
  else DZ U Y W n (e - 2048) * U n (e - 1024)

/-- One row's share of the gradient of tap `k`. -/
def wRow (U Y : ℕ → ℕ → EReal) (k n d : ℕ) : EReal := Ds U Y 0 n d * Zs U (2 - k) n d

/-- A matrix as a function of plain numbers, zero outside. -/
def flat {a b : ℕ} (X : (⟨2, ![a, b]⟩ : Idealize.ShloMosaic.Shape).Idx → EReal) (i j : ℕ) : EReal :=
  if h : i < a ∧ j < b then X (Idealize.ShloMosaic.ix2 ⟨i, h.1⟩ ⟨j, h.2⟩) else 0

theorem flat_at {a b : ℕ} (X : (⟨2, ![a, b]⟩ : Idealize.ShloMosaic.Shape).Idx → EReal) (i : Fin a) (j : Fin b) :
    flat X i j = X (Idealize.ShloMosaic.ix2 i j) := by
  unfold flat; rw [dif_pos ⟨i.2, j.2⟩]

theorem flat_of {a b : ℕ} (X : (⟨2, ![a, b]⟩ : Idealize.ShloMosaic.Shape).Idx → EReal) (p : Fin a) (q : Fin b)
    (i j : ℕ) (hi : i = p) (hj : j = q) : X (Idealize.ShloMosaic.ix2 p q) = flat X i j := by
  subst hi hj; exact (flat_at X p q).symm

end Cert.Gate
-- ==== Proof.GateBlocks.lean ====
module

public import proofs.«01_k».proof.Proof.GateSpec
public import proofs.«01_k».proof.Proof.Gen.KernelIdeal.Skeleton
public import Idealize.ShloMosaic.Lib.Pipeline.ValueKit
/-! # The kernel's arithmetic on one tile of rows

Every lemma here is about one tile `t` of 256 rows, its two halos of 16 rows and its coefficients; the arrays they are cut
from are `U`, `Y`, `W` as functions of plain numbers. -/
@[expose] public section

set_option maxRecDepth 16384
noncomputable section
open Idealize.ShloMosaic Idealize.SL.Sem
namespace Cert.KernelIdeal.Blocks
open Cert.KernelIdeal Cert.KernelIdeal.Gen Cert.Gate

/-- The printed test "first tile of a sequence". -/
def firstBit (i : grid0.Coords) : BitVec 1 :=
  Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32

/-- The product `c * h` over the tile and its halos, as the kernel stacks it. -/
def ZE (i : grid0.Coords) (x0 : Vec Ideal S256x3072 .bf16) (x1 x2 : Vec Ideal S16x3072 .bf16) : FVec Ideal S288x1024 .f32 :=
  k0_pay16 (k0_pay12 i x1) (k0_pay13 x0) (k0_pay14 x2) (k0_pay15 x2)

/-- The cotangent times the gate over the tile and its halos, as the kernel stacks it; `last` is the printed test "last tile
of a sequence". -/
def DE (last : BitVec 1) (x0 : Vec Ideal S256x3072 .bf16) (x1 x2 : Vec Ideal S16x3072 .bf16) (x3 : Vec Ideal S256x1024 .bf16)
    (x4 : Vec Ideal S16x1024 .bf16) : FVec Ideal S288x1024 .f32 :=
  k0_pay21 last (k0_pay9 x0) (k0_pay10 x1) (k0_pay11 x2) x4 x3

/-- The blocks of tile `t` are the rows of `U`, `Y`, `W` that belong to it. -/
structure Tile (t : ℕ) (U Y W : ℕ → ℕ → EReal) (x0 : Vec Ideal S256x3072 .bf16) (x1 x2 : Vec Ideal S16x3072 .bf16)
    (x3 : Vec Ideal S256x1024 .bf16) (x4 : Vec Ideal S16x1024 .bf16) (x5 : Vec Ideal S3x1024 .f32) : Prop where
  cur : ∀ (a : Fin 256) (e : Fin 3072), x0 (ix2 a e) = U (256 * t + a) e
  prev : t % 16 ≠ 0 → ∀ (a : Fin 16) (e : Fin 3072), x1 (ix2 a e) = U (256 * t + a - 16) e
  next : t % 16 ≠ 15 → ∀ (a : Fin 16) (e : Fin 3072), x2 (ix2 a e) = U (256 * t + 256 + a) e
  ct : ∀ (a : Fin 256) (e : Fin 1024), x3 (ix2 a e) = Y (256 * t + a) e
  ctNext : t % 16 ≠ 15 → ∀ (a : Fin 16) (e : Fin 1024), x4 (ix2 a e) = Y (256 * t + 256 + a) e
  taps : ∀ (k : Fin 3) (e : Fin 1024), x5 (ix2 k e) = W k e

variable {t : ℕ} {U Y W : ℕ → ℕ → EReal} {x0 : Vec Ideal S256x3072 .bf16} {x1 x2 : Vec Ideal S16x3072 .bf16}
  {x3 : Vec Ideal S256x1024 .bf16} {x4 : Vec Ideal S16x1024 .bf16} {x5 : Vec Ideal S3x1024 .f32}

theorem Tile.cur_of (T : Tile t U Y W x0 x1 x2 x3 x4 x5) {a : Fin 256} {e : Fin 3072} {n k : ℕ} (hn : 256 * t + a = n)
    (hk : (e : ℕ) = k) : x0 (ix2 a e) = U n k := by subst hn hk; exact T.cur a e
theorem Tile.prev_of (T : Tile t U Y W x0 x1 x2 x3 x4 x5) (ht : t % 16 ≠ 0) {a : Fin 16} {e : Fin 3072} {n k : ℕ}
    (hn : 256 * t + a - 16 = n) (hk : (e : ℕ) = k) : x1 (ix2 a e) = U n k := by subst hn hk; exact T.prev ht a e
theorem Tile.next_of (T : Tile t U Y W x0 x1 x2 x3 x4 x5) (ht : t % 16 ≠ 15) {a : Fin 16} {e : Fin 3072} {n k : ℕ}
    (hn : 256 * t + 256 + a = n) (hk : (e : ℕ) = k) : x2 (ix2 a e) = U n k := by subst hn hk; exact T.next ht a e
theorem Tile.ct_of (T : Tile t U Y W x0 x1 x2 x3 x4 x5) {a : Fin 256} {e : Fin 1024} {n k : ℕ} (hn : 256 * t + a = n)
    (hk : (e : ℕ) = k) : x3 (ix2 a e) = Y n k := by subst hn hk; exact T.ct a e
theorem Tile.ctNext_of (T : Tile t U Y W x0 x1 x2 x3 x4 x5) (ht : t % 16 ≠ 15) {a : Fin 16} {e : Fin 1024} {n k : ℕ}
    (hn : 256 * t + 256 + a = n) (hk : (e : ℕ) = k) : x4 (ix2 a e) = Y n k := by subst hn hk; exact T.ctNext ht a e

/-- Equal factors, equal products; equal summands, equal sums. -/
theorem mul_eq {a b a' b' : EReal} (h : a = a') (h' : b = b') : a * b = a' * b' := by rw [h, h']

theorem add_eq {a b a' b' : EReal} (h : a = a') (h' : b = b') : a + b = a' + b' := by rw [h, h']

/-- The halo above the tile, zero at the start of a sequence. -/
theorem halo_at (i : grid0.Coords) (x1 : Vec Ideal S16x3072 .bf16) (r : Fin 16) (d : Fin 1024) :
    k0_pay12 (F := Ideal) i x1 (ix2 r d)
      = Scalar.select (firstBit i) 0 (x1 (ix2 r ⟨1024 + d, by omega⟩) * x1 (ix2 r ⟨2048 + d, by omega⟩)) := by
  unfold_payloads
  pointwise [firstBit]

/-- Row `16 + a - j` of the stacked product is the product `j` rows before row `a` of the tile. -/
theorem ze_at (T : Tile t U Y W x0 x1 x2 x3 x4 x5) (i : grid0.Coords) (hf : firstBit i = if t % 16 = 0 then 1#1 else 0#1)
    (j : ℕ) (hj : j ≤ 2) (a : Fin 256) (r : Fin 288) (hr : (r : ℕ) + j = 16 + a) (d : Fin 1024) :
    ZE i x0 x1 x2 (ix2 r d) = Zs U j (256 * t + a) d := by
  have ha := a.2
  unfold ZE Zs
  pointwise [k0_pay16, k0_pay13, k0_pay14, k0_pay15, k0_pay9, k0_pay11]
  by_cases h : (r : ℕ) < 16
  · refine (dif_pos h).trans ?_
    refine (halo_at i x1 _ d).trans ?_
    rw [hf]
    by_cases ht : t % 16 = 0
    · rw [if_pos ht]; exact (if_pos (by omega)).symm
    · rw [if_neg ht]
      exact (mul_eq (T.prev_of ht (by show 256 * t + (r : ℕ) - 16 = _; omega) rfl)
        (T.prev_of ht (by show 256 * t + (r : ℕ) - 16 = _; omega) rfl)).trans (if_neg (by omega)).symm
  · refine (dif_neg h).trans ((dif_pos (by omega)).trans ?_)
    exact (mul_eq (T.cur_of (by show 256 * t + ((r : ℕ) - 16) = _; omega) rfl)
      (T.cur_of (by show 256 * t + ((r : ℕ) - 16) = _; omega) rfl)).trans (if_neg (by omega)).symm

/-- Row `16 + a + j` of the stacked cotangent is the cotangent times the gate `j` rows after row `a` of the tile. -/
theorem de_at (T : Tile t U Y W x0 x1 x2 x3 x4 x5) (last : BitVec 1) (hl : last = if t % 16 = 15 then 1#1 else 0#1)
    (j : ℕ) (hj : j ≤ 2) (a : Fin 256) (r : Fin 288) (hr : (r : ℕ) = 16 + a + j) (d : Fin 1024) :
    DE last x0 x1 x2 x3 x4 (ix2 r d) = Ds U Y j (256 * t + a) d := by
  have ha := a.2
  have h16 : ¬ (r : ℕ) < 16 := by omega
  unfold DE Ds
  unfold_payloads
  pointwise
  rw [hl]
  by_cases h : (r : ℕ) - 16 < 256
  · exact (mul_eq ((dif_neg h16).trans ((dif_pos h).trans (T.ct_of (by show 256 * t + ((r : ℕ) - 16) = _; omega) rfl)))
      ((dif_neg h16).trans ((dif_pos h).trans (T.cur_of (by show 256 * t + ((r : ℕ) - 16) = _; omega) rfl)))).trans
      (if_neg (by omega)).symm
  · by_cases ht : t % 16 = 15
    · rw [if_pos ht]
      exact (mul_eq ((dif_neg h16).trans (dif_neg h)) rfl).trans ((zero_mul _).trans (if_pos (by omega)).symm)
    · rw [if_neg ht]
      exact (mul_eq ((dif_neg h16).trans ((dif_neg h).trans (T.ctNext_of ht (by show 256 * t + 256 + ((r : ℕ) - 16 - 256) = _; omega) rfl)))
        ((dif_neg h16).trans ((dif_neg h).trans (T.next_of ht (by show 256 * t + 256 + ((r : ℕ) - 16 - 256) = _; omega) rfl)))).trans
        (if_neg (by omega)).symm

/-- The gradient of the product `c * h` on the tile. -/
theorem dz_at (T : Tile t U Y W x0 x1 x2 x3 x4 x5) (last : BitVec 1) (hl : last = if t % 16 = 15 then 1#1 else 0#1)
    (a : Fin 256) (d : Fin 1024) :
    k0_pay22 last (k0_pay9 x0) (k0_pay10 x1) (k0_pay11 x2) x4 x3 x5 (ix2 a d) = DZ U Y W (256 * t + a) d := by
  have ha := a.2
  have e0 := fun r hr => de_at T last hl 0 (by omega) a r hr d
  have e1 := fun r hr => de_at T last hl 1 (by omega) a r hr d
  have e2 := fun r hr => de_at T last hl 2 (by omega) a r hr d
  unfold DE at e0 e1 e2
  pointwise [k0_pay22, k0_pay18, k0_pay19, k0_pay20]
  exact add_eq (add_eq (mul_eq (T.taps 2 d) (e0 _ rfl)) (mul_eq (T.taps 1 d) (e1 _ (by show (16 + (a : ℕ) + 288 - 287) % 288 = _; omega))))
    (mul_eq (T.taps 0 d) (e2 _ (by show (16 + (a : ℕ) + 288 - 286) % 288 = _; omega)))

/-- The gradient of `c` on the tile. -/
theorem dc_at (T : Tile t U Y W x0 x1 x2 x3 x4 x5) (last : BitVec 1) (hl : last = if t % 16 = 15 then 1#1 else 0#1)
    (a : Fin 256) (d : Fin 1024) :
    k0_pay1 (k0_pay22 last (k0_pay9 x0) (k0_pay10 x1) (k0_pay11 x2) x4 x3 x5) (k0_pay24 (k0_pay9 x0)) (ix2 a d)
      = DZ U Y W (256 * t + a) d * U (256 * t + a) (2048 + d) := by
  pointwise [k0_pay1, k0_pay24, k0_pay9]
  exact mul_eq (dz_at T last hl a d) (T.cur_of rfl rfl)
/-- The gradient of `h` on the tile. -/
theorem dh_at (T : Tile t U Y W x0 x1 x2 x3 x4 x5) (last : BitVec 1) (hl : last = if t % 16 = 15 then 1#1 else 0#1)
    (a : Fin 256) (d : Fin 1024) :
    k0_pay2 (k0_pay9 x0) (k0_pay22 last (k0_pay9 x0) (k0_pay10 x1) (k0_pay11 x2) x4 x3 x5) (ix2 a d)
      = DZ U Y W (256 * t + a) d * U (256 * t + a) (1024 + d) := by
  pointwise [k0_pay2, k0_pay9]
  exact mul_eq (dz_at T last hl a d) (T.cur_of rfl rfl)

/-- The gradient of the gate on the tile. -/
theorem cb_at (T : Tile t U Y W x0 x1 x2 x3 x4 x5) (i : grid0.Coords) (hf : firstBit i = if t % 16 = 0 then 1#1 else 0#1) (last : BitVec 1)
    (a : Fin 256) (d : Fin 1024) :
    k0_pay23 last (k0_pay12 i x1) (k0_pay13 x0) (k0_pay14 x2) (k0_pay15 x2) x4 x3 x5 (ix2 a d) = CB U Y W (256 * t + a) d := by
  have ha := a.2
  have e0 := fun r hr => ze_at T i hf 0 (by omega) a r hr d
  have e1 := fun r hr => ze_at T i hf 1 (by omega) a r hr d
  have e2 := fun r hr => ze_at T i hf 2 (by omega) a r hr d
  unfold ZE at e0 e1 e2
  pointwise [k0_pay23, k0_pay18, k0_pay19, k0_pay20, k0_pay17]
  exact mul_eq (T.ct a d) (add_eq (add_eq (mul_eq (T.taps 0 d) (e2 _ (by show (16 + (a : ℕ) + 288 - 2) % 288 + 2 = _; omega)))
    (mul_eq (T.taps 1 d) (e1 _ (by show (16 + (a : ℕ) + 288 - 1) % 288 + 1 = _; omega)))) (mul_eq (T.taps 2 d) (e0 _ rfl)))

/-- The share of the tile in the gradient of tap 0. -/
theorem part0_at (T : Tile t U Y W x0 x1 x2 x3 x4 x5) (i : grid0.Coords) (hf : firstBit i = if t % 16 = 0 then 1#1 else 0#1)
    (last : BitVec 1) (hl : last = if t % 16 = 15 then 1#1 else 0#1) (r : Fin 1) (d : Fin 1024) :
    k0_pay3 (ZE i x0 x1 x2) (DE last x0 x1 x2 x3 x4) (ix2 r d) = ∑ a : Fin 256, wRow U Y 0 (256 * t + a) d := by
  pointwise [k0_pay3]
  exact Fin.sum_fin_congr fun a => mul_eq (de_at T last hl 0 (by omega) a _ rfl d)
    (ze_at T i hf 2 (by omega) a _ (by show (16 + (a : ℕ) + 288 - 2) % 288 + 2 = _; have := a.2; omega) d)
/-- The same added to what was there. -/
theorem part0_acc (T : Tile t U Y W x0 x1 x2 x3 x4 x5) (i : grid0.Coords) (hf : firstBit i = if t % 16 = 0 then 1#1 else 0#1)
    (last : BitVec 1) (hl : last = if t % 16 = 15 then 1#1 else 0#1) (r : Fin 1) (d : Fin 1024) (z : FVec Ideal S1x1024 .f32) :
    k0_pay6 (ZE i x0 x1 x2) (DE last x0 x1 x2 x3 x4) z (ix2 r d) = z (ix2 r d) + ∑ a : Fin 256, wRow U Y 0 (256 * t + a) d := by
  rw [← part0_at T i hf last hl r d]
  pointwise [k0_pay6]

/-- The share of the tile in the gradient of tap 1. -/
theorem part1_at (T : Tile t U Y W x0 x1 x2 x3 x4 x5) (i : grid0.Coords) (hf : firstBit i = if t % 16 = 0 then 1#1 else 0#1)
    (last : BitVec 1) (hl : last = if t % 16 = 15 then 1#1 else 0#1) (r : Fin 1) (d : Fin 1024) :
    k0_pay4 (ZE i x0 x1 x2) (DE last x0 x1 x2 x3 x4) (ix2 r d) = ∑ a : Fin 256, wRow U Y 1 (256 * t + a) d := by
  pointwise [k0_pay4]
  exact Fin.sum_fin_congr fun a => mul_eq (de_at T last hl 0 (by omega) a _ rfl d)
    (ze_at T i hf 1 (by omega) a _ (by show (16 + (a : ℕ) + 288 - 1) % 288 + 1 = _; have := a.2; omega) d)
/-- The same added to what was there. -/
theorem part1_acc (T : Tile t U Y W x0 x1 x2 x3 x4 x5) (i : grid0.Coords) (hf : firstBit i = if t % 16 = 0 then 1#1 else 0#1)
    (last : BitVec 1) (hl : last = if t % 16 = 15 then 1#1 else 0#1) (r : Fin 1) (d : Fin 1024) (z : FVec Ideal S1x1024 .f32) :
    k0_pay7 (ZE i x0 x1 x2) (DE last x0 x1 x2 x3 x4) z (ix2 r d) = z (ix2 r d) + ∑ a : Fin 256, wRow U Y 1 (256 * t + a) d := by
  rw [← part1_at T i hf last hl r d]
  pointwise [k0_pay7]

/-- The share of the tile in the gradient of tap 2. -/
theorem part2_at (T : Tile t U Y W x0 x1 x2 x3 x4 x5) (i : grid0.Coords) (hf : firstBit i = if t % 16 = 0 then 1#1 else 0#1)
    (last : BitVec 1) (hl : last = if t % 16 = 15 then 1#1 else 0#1) (r : Fin 1) (d : Fin 1024) :
    k0_pay5 (ZE i x0 x1 x2) (DE last x0 x1 x2 x3 x4) (ix2 r d) = ∑ a : Fin 256, wRow U Y 2 (256 * t + a) d := by
  pointwise [k0_pay5]
  exact Fin.sum_fin_congr fun a => mul_eq (de_at T last hl 0 (by omega) a _ rfl d)
    (ze_at T i hf 0 (by omega) a _ rfl d)
/-- The same added to what was there. -/
theorem part2_acc (T : Tile t U Y W x0 x1 x2 x3 x4 x5) (i : grid0.Coords) (hf : firstBit i = if t % 16 = 0 then 1#1 else 0#1)
    (last : BitVec 1) (hl : last = if t % 16 = 15 then 1#1 else 0#1) (r : Fin 1) (d : Fin 1024) (z : FVec Ideal S1x1024 .f32) :
    k0_pay8 (ZE i x0 x1 x2) (DE last x0 x1 x2 x3 x4) z (ix2 r d) = z (ix2 r d) + ∑ a : Fin 256, wRow U Y 2 (256 * t + a) d := by
  rw [← part2_at T i hf last hl r d]
  pointwise [k0_pay8]

end Cert.KernelIdeal.Blocks
-- ==== Proof.GateArrays.lean ====
module

public import proofs.«01_k».proof.Proof.GateBlocks
public import proofs.«01_k».proof.Proof.Gen.KernelIdeal.Value
public import Idealize.ShloMosaic.Lib.Pipeline.ValueKit
/-! # The two result arrays of the kernel after its run -/
@[expose] public section

set_option maxRecDepth 16384
noncomputable section
open Idealize.ShloMosaic Idealize.ShloMosaic.TcCoe Idealize.SL.Sem
namespace Cert.KernelIdeal.Arrays
open Cert.KernelIdeal Cert.KernelIdeal.Gen Cert.KernelIdeal.Blocks Cert.Gate
variable (m : (ℓ : Loc nD τ sig) → Buf (Elt Ideal) ℓ)

theorem lt32 (t : Fin cfg0.N) : t.val < 32 := lt_of_lt_of_eq t.2 N_0

/-- Where every window lies at point `t`. -/
theorem idx : ∀ t : Fin cfg0.N, win0_0.index t = ![t.val, 0] ∧ win0_1.index t = ![t.val * 16 - 1, 0]
    ∧ win0_2.index t = ![if t.val = 31 then 511 else (t.val + 1) * 16, 0] ∧ win0_3.index t = ![t.val, 0]
    ∧ win0_4.index t = ![if t.val = 31 then 511 else (t.val + 1) * 16, 0]
    ∧ win0_5.index t = ![0, 0] ∧ win0_6.index t = ![t.val, 0] ∧ win0_7.index t = ![0, 0] :=
  (by decide +kernel : ∀ t : Fin grid0.N, _)

theorem firstBit_at : ∀ t : Fin cfg0.N, firstBit (grid0.coords t) = if t.val % 16 = 0 then 1#1 else 0#1 :=
  (by decide +kernel : ∀ t : Fin grid0.N, _)

/-- The three arguments as functions of plain numbers. -/
def U (c : Dev nD) : ℕ → ℕ → EReal := flat (a := 8192) (b := 3072) (m ((c : Thread nD τ).loc main_arg0))
def Y (c : Dev nD) : ℕ → ℕ → EReal := flat (a := 8192) (b := 1024) (m ((c : Thread nD τ).loc main_arg1))
def W (c : Dev nD) : ℕ → ℕ → EReal := flat (a := 3) (b := 1024) (m ((c : Thread nD τ).loc main_arg2))

/-- The printed test "last tile of a sequence". -/
def lastBit (i : grid0.Coords) : BitVec 1 :=
  Scalar.cmpi .eq (Scalar.select (Scalar.andi (Scalar.xori (Scalar.cmpi .slt (Scalar.remsi (BitVec.ofNat 32 ↑(i 0)) 16#32) 0#32) 0#1)
    (Scalar.cmpi .ne (Scalar.remsi (BitVec.ofNat 32 ↑(i 0)) 16#32) 0#32))
    (Scalar.addi (Scalar.remsi (BitVec.ofNat 32 ↑(i 0)) 16#32) 16#32) (Scalar.remsi (BitVec.ofNat 32 ↑(i 0)) 16#32)) 15#32

theorem lastBit_at : ∀ t : Fin cfg0.N, lastBit (grid0.coords t) = if t.val % 16 = 15 then 1#1 else 0#1 :=
  (by decide +kernel : ∀ t : Fin grid0.N, _)

theorem tile (c : Dev nD) (t : Fin cfg0.N) : Tile t.val (U m c) (Y m c) (W m c) (iblk m c 0 t) (iblk m c 1 t) (iblk m c 2 t)
    (iblk m c 3 t) (iblk m c 4 t) (iblk m c 5 t) where
  cur a e := by
    have := lt32 t
    refine Eq.trans ?_ (flat_of (a := 8192) (b := 3072) (m ((c : Thread nD τ).loc main_arg0)) ⟨256 * t + a, by omega⟩ e _ _ rfl rfl)
    blk_ext [iblk, V, idx t]
  prev ht a e := by
    have := lt32 t
    refine Eq.trans ?_ (flat_of (a := 8192) (b := 3072) (m ((c : Thread nD τ).loc main_arg0)) ⟨256 * t + a - 16, by omega⟩ e _ _ rfl rfl)
    blk_ext [iblk, V, idx t]
  next ht a e := by
    have := lt32 t
    have h31 : t.val ≠ 31 := by omega
    refine Eq.trans ?_ (flat_of (a := 8192) (b := 3072) (m ((c : Thread nD τ).loc main_arg0)) ⟨256 * t + 256 + a, by omega⟩ e _ _ rfl rfl)
    blk_ext [iblk, V, idx t, if_neg h31]
  ct a e := by
    have := lt32 t
    refine Eq.trans ?_ (flat_of (a := 8192) (b := 1024) (m ((c : Thread nD τ).loc main_arg1)) ⟨256 * t + a, by omega⟩ e _ _ rfl rfl)
    blk_ext [iblk, V, idx t]
  ctNext ht a e := by
    have := lt32 t
    have h31 : t.val ≠ 31 := by omega
    refine Eq.trans ?_ (flat_of (a := 8192) (b := 1024) (m ((c : Thread nD τ).loc main_arg1)) ⟨256 * t + 256 + a, by omega⟩ e _ _ rfl rfl)
    blk_ext [iblk, V, idx t, if_neg h31]
  taps k e := by
    refine Eq.trans ?_ (flat_of (a := 3) (b := 1024) (m ((c : Thread nD τ).loc main_arg2)) k e _ _ rfl rfl)
    blk_ext [iblk, V, idx t]

/-- What the three stores into the gradient of `u` leave at an entry of the tile. -/
theorem out6 (c : Dev nD) (t : Fin cfg0.N) (y : S256x3072.Idx) :
    (outsAt0 m c t.val t.isLt).1 y = dU (U m c) (Y m c) (W m c) (256 * t + (y 0 : ℕ)) (y 1 : ℕ) := by
  have T := tile m c t
  have hf := firstBit_at t
  have hl := lastBit_at t
  unfold lastBit at hl
  by_cases h0 : t.val % 32 = 0
  on_goal 1 => rw [outsAt0_A m c t h0 (by have := lt32 t; omega)]
  on_goal 2 => rw [outsAt0_B m c t h0 (by omega)]
  all_goals
    frame_out
    canon_tiles x h
    · idx_vars x
      refine (dh_at T _ hl _ _).trans ?_
      unfold dU
      rw [if_neg (by omega), if_neg (by omega), h0, h1, show 2048 + (x1 : ℕ) - 2048 = x1 by omega,
        show 2048 + (x1 : ℕ) - 1024 = 1024 + x1 by omega]
    · idx_vars x
      refine (dc_at T _ hl _ _).trans ?_
      unfold dU
      rw [if_neg (by omega), if_pos (by omega), h0, h1, show 1024 + (x1 : ℕ) - 1024 = x1 by omega,
        show 1024 + (x1 : ℕ) + 1024 = 2048 + x1 by omega]
    · idx_vars x
      refine (cb_at T _ hf _ _ _).trans ?_
      unfold dU
      rw [if_pos (by omega), h0, h1]

/-- Reading one row of the taps' gradient. -/
theorem row_of (P : Vec Ideal S3x1024 .f32) (k : ℕ) (inb) (p : Fin 1) (d : Fin 1024) (y : S3x1024.Idx) (h0 : (y 0 : ℕ) = k)
    (h1 : (y 1 : ℕ) = d) : View.ld P (Rect.unit ![k, 0] ![1, 1024] inb) (ix2 p d) = P y := by
  refine View.ld_unit_apply_of P _ _ inb _ y fun a => ?_
  match a with
  | ⟨0, _⟩ => show (y 0 : ℕ) = k + p; have := p.2; omega
  | ⟨1, _⟩ => show (y 1 : ℕ) = 0 + d; omega

/-- The share of tile `t` in an entry of the gradient of the taps. -/
def part (c : Dev nD) (t k d : ℕ) : EReal := ∑ a : Fin 256, wRow (U m c) (Y m c) k (256 * t + (a : ℕ)) d

theorem out7_A (c : Dev nD) (t : Fin cfg0.N) (h0 : t.val % 32 = 0) (h1 : ¬ 1 ≤ t.val) (y : S3x1024.Idx) :
    (outsAt0 m c t.val t.isLt).2 y = part m c t.val (y 0 : ℕ) (y 1 : ℕ) := by
  have T := tile m c t
  have hf := firstBit_at t
  have hl := lastBit_at t
  unfold lastBit at hl
  rw [outsAt0_A m c t h0 h1]
  frame_out
  canon_tiles x h
  · idx_vars x
    refine (part2_at T _ hf _ hl _ _).trans ?_
    have e : (x0 : ℕ) = 0 := by omega
    rw [h0, h1]; rw [e]; rfl
  · idx_vars x
    refine (part1_at T _ hf _ hl _ _).trans ?_
    have e : (x0 : ℕ) = 0 := by omega
    rw [h0, h1]; rw [e]; rfl
  · idx_vars x
    refine (part0_at T _ hf _ hl _ _).trans ?_
    have e : (x0 : ℕ) = 0 := by omega
    rw [h0, h1]; rw [e]; rfl

theorem out7_B (c : Dev nD) (t : Fin cfg0.N) (h0 : ¬ t.val % 32 = 0) (h1 : 1 ≤ t.val) (y : S3x1024.Idx) :
    (outsAt0 m c t.val t.isLt).2 y = (outsAt0 m c (t.val - 1) (by have := t.2; omega)).2 y + part m c t.val (y 0 : ℕ) (y 1 : ℕ) := by
  have T := tile m c t
  have hf := firstBit_at t
  have hl := lastBit_at t
  unfold lastBit at hl
  rw [outsAt0_B m c t h0 h1]
  frame_out
  generalize outsAt0 m c (t.val - 1) _ = P
  canon_tiles x h
  · idx_vars x
    refine (part2_acc T _ hf _ hl _ _ _).trans ?_
    have e : (x0 : ℕ) = 0 := by omega
    rw [h0, h1]; rw [e]
    refine add_eq ?_ rfl
    exact row_of P.2 _ _ _ _ y (by omega) h1
  · idx_vars x
    refine (part1_acc T _ hf _ hl _ _ _).trans ?_
    have e : (x0 : ℕ) = 0 := by omega
    rw [h0, h1]; rw [e]
    refine add_eq ?_ rfl
    exact row_of P.2 _ _ _ _ y (by omega) h1
  · idx_vars x
    refine (part0_acc T _ hf _ hl _ _ _).trans ?_
    have e : (x0 : ℕ) = 0 := by omega
    rw [h0, h1]; rw [e]
    refine add_eq ?_ rfl
    exact row_of P.2 _ _ _ _ y (by omega) h1

/-- The first result after the run. -/
theorem final6 (c : Dev nD) : (dats m 0 c).arrAt 6 cfg0.N
    = fun i : S8192x3072.Idx => dU (U m c) (Y m c) (W m c) (i 0 : ℕ) (i 1 : ℕ) := by
  refine (dats m 0 c).arrAt_eq_of_covers 6 _ (by decide +kernel) fun t _ y => ?_
  blk_simp
  rw [after0_6]
  refine (out6 m c t y).trans ?_
  rw [(idx t).2.2.2.2.2.2.1]
  show dU _ _ _ (256 * t.val + (y 0 : ℕ)) (y 1 : ℕ) = dU _ _ _ (t.val * 256 + (y 0 : ℕ)) (0 * 3072 + (y 1 : ℕ))
  rw [Nat.mul_comm t.val, Nat.zero_mul, Nat.zero_add]

/-- The second result after the run. -/
theorem final7 (c : Dev nD) : (dats m 0 c).arrAt 7 cfg0.N
    = fun i : S3x1024.Idx => ∑ n : Fin 8192, wRow (U m c) (Y m c) (i 0 : ℕ) (n : ℕ) (i 1 : ℕ) := by
  refine (dats m 0 c).arrAt_eq_of_covers 7 _ (by decide +kernel) fun t hf y => ?_
  blk_simp
  rw [after0_7, Pipeline.eq_sum_fin_of_reset_step_apply_of_flush (fun n h => (outsAt0 m c n h).2) 32 (fun _ => 0)
    (fun p j => part m c p.val (j 0 : ℕ) (j 1 : ℕ))
    (fun t h j => by rw [out7_A m c t h (by have := lt32 t; omega), zero_add])
    (fun t h j => out7_B m c t h (by omega) j)
    t ((flush0_7 t).mp hf) _, zero_add]
  rw [(idx t).2.2.2.2.2.2.2]
  show ∑ s : Fin 32, part m c (32 * (t.val / 32) + s.val) (y 0 : ℕ) (y 1 : ℕ)
    = ∑ n : Fin 8192, wRow (U m c) (Y m c) (0 * 3 + (y 0 : ℕ)) (n : ℕ) (0 * 1024 + (y 1 : ℕ))
  have ht : t.val / 32 = 0 := by have := lt32 t; omega
  simp only [ht, Nat.zero_mul, Nat.zero_add, Nat.mul_zero]
  refine Fin.sum_mul_add_congr fun s k hl => ?_
  show _ = wRow _ _ _ (s.val * 256 + k.val) _
  rw [Nat.mul_comm 256]

end Cert.KernelIdeal.Arrays
-- ==== Proof.GateRef.lean ====
module

public import proofs.«01_k».proof.Proof.GateSpec
public import proofs.«01_k».proof.Proof.Gen.ReferenceIdeal.Run
public import Idealize.ShloMosaic.Lib.Pipeline.ValueKit
/-! # The two gradients as the reference computes them -/
@[expose] public section

set_option maxRecDepth 16384
noncomputable section
open Idealize.ShloMosaic Idealize.ShloMosaic.TcCoe Idealize.SL.Sem
namespace Cert.ReferenceIdeal.Entries
open Cert.ReferenceIdeal Cert.ReferenceIdeal.Gen Cert.Gate

/-- A sum over the positions of a batch of sequences that are kept in one column: over the sequences, then the positions. -/
theorem sum_columns {a b n : ℕ} (h : (⟨3, ![a, b, n]⟩ : Shape).ReducesTo [0, 1] ⟨1, ![n]⟩) (v : (⟨3, ![a, b, n]⟩ : Shape).Idx → EReal)
    (init : EReal) (d : Fin n) :
    Ideal.hostReduceAdd h v init (ix1 d) = init + ∑ p : Fin a, ∑ q : Fin b, v (ix3 p q d) := by
  unfold Ideal.hostReduceAdd
  refine congrArg (init + ·) ?_
  refine (Finset.sum_filter_eq_sum_of_fiber _ (fun k : Fin a × Fin b => (ix3 k.1 k.2 d : (⟨3, ![a, b, n]⟩ : Shape).Idx))
    (fun _ _ e => Prod.ext (congrFun e 0) (congrFun e 1)) (fun i => ?_) v).trans ?_
  · constructor
    · intro e
      refine ⟨(i 0, i 1), ?_⟩
      funext x; apply Fin.ext
      match x with
      | ⟨0, _⟩ => rfl
      | ⟨1, _⟩ => rfl
      | ⟨2, _⟩ => exact (congrArg Fin.val (congrFun e 0)).symm
    · rintro ⟨k, rfl⟩
      funext x; apply Fin.ext
      match x with
      | ⟨0, _⟩ => rfl
  · simp only [Fintype.sum_prod_type]

section
variable (X : FVec Ideal S8192x3072 .bf16) (C : FVec Ideal S8192x1024 .bf16) (K : FVec Ideal S3x1024 .f32)

/-- The gates, the cotangent, the taps and the products the reference's terms are made of. -/
def UR : FVec Ideal S2x4096x3072 .f32 := shapeCast _ (extf .f32 X bitsLt_bf16_f32) shapeCasts_S8192x3072_S2x4096x3072
def YR : FVec Ideal S2x4096x1024 .f32 := shapeCast _ (extf .f32 C bitsLt_bf16_f32) shapeCasts_S8192x1024_S2x4096x1024
def ZP : FVec Ideal S2x4098x1024 .f32 :=
  concatenate S2x4098x1024 1 [⟨S2x2x1024, (broadcastInDim S2x2x1024 ![] bcast_S_S2x2x1024 (constant S_ .f32 0x00000000#32))⟩, ⟨S2x4096x1024, (mulf (extractStridedSlice S2x4096x1024 ![0, 0, 1024] (UR X) slices_S2x4096x3072_S2x4096x1024_0_0_1024) (extractStridedSlice S2x4096x1024 ![0, 0, 2048] (UR X) slices_S2x4096x3072_S2x4096x1024_0_0_2048))⟩] concatenates_S2x2x1024_S2x4096x1024_S2x4098x1024_d1
def W0 : FVec Ideal S2x4096x1024 .f32 := broadcastInDim S2x4096x1024 ![0, 1, 2] bcast_S1x1x1024_S2x4096x1024_0_1_2 (broadcastInDim S1x1x1024 ![2] bcast_S1024_S1x1x1024_2 (shapeCast _ (extractStridedSlice S1x1024 ![0, 0] K slices_S3x1024_S1x1024_0_0) shapeCasts_S1x1024_S1024))
def W1 : FVec Ideal S2x4096x1024 .f32 := broadcastInDim S2x4096x1024 ![0, 1, 2] bcast_S1x1x1024_S2x4096x1024_0_1_2 (broadcastInDim S1x1x1024 ![2] bcast_S1024_S1x1x1024_2 (shapeCast _ (extractStridedSlice S1x1024 ![1, 0] K slices_S3x1024_S1x1024_1_0) shapeCasts_S1x1024_S1024))
def W2 : FVec Ideal S2x4096x1024 .f32 := broadcastInDim S2x4096x1024 ![0, 1, 2] bcast_S1x1x1024_S2x4096x1024_0_1_2 (broadcastInDim S1x1x1024 ![2] bcast_S1024_S1x1x1024_2 (shapeCast _ (extractStridedSlice S1x1024 ![2, 0] K slices_S3x1024_S1x1024_2_0) shapeCasts_S1x1024_S1024))
def DS : FVec Ideal S2x4096x1024 .f32 := mulf (extractStridedSlice S2x4096x1024 ![0, 0, 0] (UR X) slices_S2x4096x3072_S2x4096x1024_0_0_0) (YR C)
def CBR : FVec Ideal S2x4096x1024 .f32 :=
  mulf (YR C) (addf (addf (mulf (extractStridedSlice S2x4096x1024 ![0, 0, 0] (ZP X) slices_S2x4098x1024_S2x4096x1024_0_0_0) (W0 K)) (mulf (extractStridedSlice S2x4096x1024 ![0, 1, 0] (ZP X) slices_S2x4098x1024_S2x4096x1024_0_1_0) (W1 K))) (mulf (extractStridedSlice S2x4096x1024 ![0, 2, 0] (ZP X) slices_S2x4098x1024_S2x4096x1024_0_2_0) (W2 K)))
def DZR : FVec Ideal S2x4096x1024 .f32 :=
  extractStridedSlice S2x4096x1024 ![0, 2, 0] (addf (addf (pad S2x4098x1024 ![0, 2, 0] ![0, 0, 0] ![0, 0, 0] (mulf (DS X C) (W2 K)) (constant S_ .f32 0x00000000#32) pads_S2x4096x1024_S2x4098x1024_000_200_000 h_S_) (pad S2x4098x1024 ![0, 1, 0] ![0, 1, 0] ![0, 0, 0] (mulf (DS X C) (W1 K)) (constant S_ .f32 0x00000000#32) pads_S2x4096x1024_S2x4098x1024_000_110_000 h_S_)) (pad S2x4098x1024 ![0, 0, 0] ![0, 2, 0] ![0, 0, 0] (mulf (DS X C) (W0 K)) (constant S_ .f32 0x00000000#32) pads_S2x4096x1024_S2x4098x1024_000_020_000 h_S_)) slices_S2x4098x1024_S2x4096x1024_0_2_0
def DUR : FVec Ideal S8192x3072 .bf16 :=
  truncf .bf16 (shapeCast _ ((concatenate S2x4096x3072 2 [⟨S2x4096x1024, CBR X C K⟩, ⟨S2x4096x1024, mulf (DZR X C K) (extractStridedSlice S2x4096x1024 ![0, 0, 2048] (UR X) slices_S2x4096x3072_S2x4096x1024_0_0_2048)⟩, ⟨S2x4096x1024, mulf (extractStridedSlice S2x4096x1024 ![0, 0, 1024] (UR X) slices_S2x4096x3072_S2x4096x1024_0_0_1024) (DZR X C K)⟩] concatenates_S2x4096x1024_S2x4096x1024_S2x4096x1024_S2x4096x3072_d2 : FVec Ideal S2x4096x3072 .f32)) shapeCasts_S2x4096x3072_S8192x3072) bitsLt_bf16_f32

/-- Gradient of one tap, before it is put in its row. -/
def tapSum (Z : FVec Ideal S2x4096x1024 .f32) : FVec Ideal S1x1024 .f32 :=
  broadcastInDim S1x1024 ![1] bcast_S1024_S1x1024_1 (Host.reduceAdd (shapeCast _ (Host.reduceAdd (mulf Z (DS X C)) (constant S_ .f32 0x00000000#32) reducesTo_S2x4096x1024_S1024_d0_1 h_S_) shapeCasts_S1024_S1x1x1024) (constant S_ .f32 0x00000000#32) reducesTo_S1x1x1024_S1024_d0_1 h_S_)
def DWR : FVec Ideal S3x1024 .f32 :=
  addf (addf (pad S3x1024 ![2, 0] ![0, 0] ![0, 0] (tapSum X C (extractStridedSlice S2x4096x1024 ![0, 2, 0] (ZP X) slices_S2x4098x1024_S2x4096x1024_0_2_0)) (constant S_ .f32 0x00000000#32) pads_S1x1024_S3x1024_200_000 h_S_) (pad S3x1024 ![1, 0] ![1, 0] ![0, 0] (tapSum X C (extractStridedSlice S2x4096x1024 ![0, 1, 0] (ZP X) slices_S2x4098x1024_S2x4096x1024_0_1_0)) (constant S_ .f32 0x00000000#32) pads_S1x1024_S3x1024_110_000 h_S_)) (pad S3x1024 ![0, 0] ![2, 0] ![0, 0] (tapSum X C (extractStridedSlice S2x4096x1024 ![0, 0, 0] (ZP X) slices_S2x4098x1024_S2x4096x1024_0_0_0)) (constant S_ .f32 0x00000000#32) pads_S1x1024_S3x1024_020_000 h_S_)

theorem UR_at (b : Fin 2) (s : Fin 4096) (e : Fin 3072) (n k : ℕ) (hn : n = 4096 * b + s) (hk : k = e) :
    UR X (ix3 b s e) = (flat (a := 8192) (b := 3072) X) n k := by
  pointwise [UR]
  exact flat_of X _ _ _ _ (by show n = (b : ℕ) * 4096 + s; omega) hk
theorem YR_at (b : Fin 2) (s : Fin 4096) (e : Fin 1024) (n : ℕ) (hn : n = 4096 * b + s) : YR C (ix3 b s e) = (flat (a := 8192) (b := 1024) C) n e := by
  pointwise [YR]
  exact flat_of C _ _ _ _ (by show n = (b : ℕ) * 4096 + s; omega) rfl
theorem W0_at (b : Fin 2) (s : Fin 4096) (d : Fin 1024) : W0 K (ix3 b s d) = (flat (a := 3) (b := 1024) K) 0 d := by
  pointwise [W0]
  exact flat_of K _ _ _ _ rfl rfl
theorem W1_at (b : Fin 2) (s : Fin 4096) (d : Fin 1024) : W1 K (ix3 b s d) = (flat (a := 3) (b := 1024) K) 1 d := by
  pointwise [W1]
  exact flat_of K _ _ _ _ rfl rfl
theorem W2_at (b : Fin 2) (s : Fin 4096) (d : Fin 1024) : W2 K (ix3 b s d) = (flat (a := 3) (b := 1024) K) 2 d := by
  pointwise [W2]
  exact flat_of K _ _ _ _ rfl rfl

/-- Row `s` of the padded product is the product `j` rows before row `s + j - 2`. -/
theorem ZP_at (b : Fin 2) (s : Fin 4098) (d : Fin 1024) (n j : ℕ) (hj : j ≤ 2) (hs : s < 4096 + 2 - j) (h2 : 2 ≤ (s : ℕ) + j)
    (hn : n = 4096 * b + s + j - 2) : ZP X (ix3 b s d) = Zs (flat (a := 8192) (b := 3072) X) j n d := by
  have hb := b.2
  pointwise [ZP]
  unfold Zs
  by_cases h : (s : ℕ) < 2
  · exact (dif_pos h).trans (if_pos (by omega)).symm
  · refine (dif_neg h).trans (Eq.trans ?_ (if_neg (by omega)).symm)
    rw [UR_at X _ _ _ (n - j) (1024 + d) (by show n - j = 4096 * (b : ℕ) + ((s : ℕ) - 2); omega) rfl,
      UR_at X _ _ _ (n - j) (2048 + d) (by show n - j = 4096 * (b : ℕ) + ((s : ℕ) - 2); omega) rfl]

theorem DS_at (b : Fin 2) (s : Fin 4096) (d : Fin 1024) (n j : ℕ) (hn : n + j = 4096 * b + s) (hs : j ≤ (s : ℕ)) :
    DS X C (ix3 b s d) = Ds (flat (a := 8192) (b := 3072) X) (flat (a := 8192) (b := 1024) C) j n d := by
  have hb := b.2
  pointwise [DS]
  unfold Ds
  refine Eq.trans ?_ (if_neg (by omega)).symm
  rw [UR_at X _ _ _ (n + j) d hn rfl, YR_at C _ _ _ (n + j) hn, mul_comm]

theorem CBR_at (b : Fin 2) (s : Fin 4096) (d : Fin 1024) (n : ℕ) (hn : n = 4096 * b + s) :
    CBR X C K (ix3 b s d) = CB (flat (a := 8192) (b := 3072) X) (flat (a := 8192) (b := 1024) C) (flat (a := 3) (b := 1024) K) n d := by
  have hs := s.2
  pointwise [CBR]
  unfold CB
  rw [YR_at C b s d n hn, W0_at, W1_at, W2_at,
    ZP_at X b _ d n 2 (by omega) (by show (s : ℕ) < _; omega) (by omega) (by show n = 4096 * (b : ℕ) + s + 2 - 2; omega),
    ZP_at X b _ d n 1 (by omega) (by show 1 + (s : ℕ) < _; omega) (by show 2 ≤ 1 + (s : ℕ) + 1; omega) (by show n = 4096 * (b : ℕ) + (1 + s) + 1 - 2; omega),
    ZP_at X b _ d n 0 (by omega) (by show 2 + (s : ℕ) < _; omega) (by show 2 ≤ 2 + (s : ℕ) + 0; omega) (by show n = 4096 * (b : ℕ) + (2 + s) + 0 - 2; omega)]
  ac_rfl

theorem DZR_at (b : Fin 2) (s : Fin 4096) (d : Fin 1024) (n : ℕ) (hn : n = 4096 * b + s) :
    DZR X C K (ix3 b s d) = DZ (flat (a := 8192) (b := 3072) X) (flat (a := 8192) (b := 1024) C) (flat (a := 3) (b := 1024) K) n d := by
  have hs := s.2
  pointwise [DZR]
  unfold DZ
  refine congrArg₂ (· + ·) (congrArg₂ (· + ·) ?_ ?_) ?_
  · rw [DS_at X C b s d n 0 hn (by omega), W2_at, mul_comm]
  · by_cases h : (s : ℕ) + 1 < 4096
    · refine (dif_pos (by omega)).trans ?_
      rw [DS_at X C b _ d n 1 (by show n + 1 = 4096 * (b : ℕ) + (2 + s - 1); omega) (by show 1 ≤ 2 + (s : ℕ) - 1; omega), W1_at, mul_comm]
    · refine (dif_neg (by omega)).trans ?_
      unfold Ds; rw [if_pos (by omega), mul_zero]
  · by_cases h : 2 + (s : ℕ) < 4096
    · refine (dif_pos h).trans ?_
      rw [DS_at X C b _ d n 2 (by show n + 2 = 4096 * (b : ℕ) + (2 + s); omega) (by show 2 ≤ 2 + (s : ℕ); omega), W0_at, mul_comm]
    · refine (dif_neg h).trans ?_
      unfold Ds; rw [if_pos (by omega), mul_zero]

/-- The gradient of `u` at an entry. -/
theorem DUR_at (n : Fin 8192) (e : Fin 3072) : DUR X C K (ix2 n e) = dU (flat (a := 8192) (b := 3072) X) (flat (a := 8192) (b := 1024) C) (flat (a := 3) (b := 1024) K) n e := by
  have he := e.2
  have hn : (n : ℕ) = 4096 * ((n : ℕ) / 4096) + (n : ℕ) % 4096 := by omega
  pointwise [DUR]
  unfold dU
  by_cases h : (e : ℕ) < 1024
  · exact (dif_pos h).trans ((CBR_at X C K _ _ _ n hn).trans (if_pos h).symm)
  · refine (dif_neg h).trans (Eq.trans ?_ (if_neg h).symm)
    by_cases h' : (e : ℕ) < 2048
    · refine (dif_pos (by omega)).trans (Eq.trans ?_ (if_pos h').symm)
      rw [DZR_at X C K _ _ _ n hn, UR_at X _ _ _ n (e + 1024) hn (by show (e : ℕ) + 1024 = 2048 + (e - 1024); omega)]
    · refine (dif_neg (by omega)).trans (Eq.trans ?_ (if_neg h').symm)
      rw [DZR_at X C K _ _ _ n hn, UR_at X _ _ _ n (e - 1024) hn (by show (e : ℕ) - 1024 = 1024 + (e - 1024 - 1024); omega), mul_comm]
      refine congrArg₂ (· * ·) (congrArg (DZ _ _ _ _) ?_) rfl
      show (e : ℕ) - 1024 - 1024 = e - 2048
      omega

theorem tapSum_at (Z) (p : Fin 1) (d : Fin 1024) :
    tapSum X C Z (ix2 p d) = ∑ b : Fin 2, ∑ s : Fin 4096, Z (ix3 b s d) * DS X C (ix3 b s d) := by
  pointwise [tapSum]
  refine (sum_columns _ _ _ d).trans ?_
  pointwise
  rw [Finset.sum_const, Finset.sum_const]
  show 1 • (1 • Ideal.hostReduceAdd reducesTo_S2x4096x1024_S1024_d0_1 (mulf Z (DS X C)) 0 (ix1 d)) = _
  rw [one_smul, one_smul]
  refine (sum_columns _ _ _ d).trans ?_
  rw [zero_add]
  rfl
theorem tap0_at (p : Fin 1) (d : Fin 1024) :
    tapSum X C (extractStridedSlice S2x4096x1024 ![0, 0, 0] (ZP X) slices_S2x4098x1024_S2x4096x1024_0_0_0) (ix2 p d)
      = ∑ n : Fin 8192, wRow (flat (a := 8192) (b := 3072) X) (flat (a := 8192) (b := 1024) C) 0 n d := by
  refine (tapSum_at X C _ p d).trans ?_
  pointwise
  refine Fin.sum_mul_add_congr fun b s hl => ?_
  have hs := s.2
  show _ = wRow (flat (a := 8192) (b := 3072) X) (flat (a := 8192) (b := 1024) C) 0 (b * 4096 + s) d
  unfold wRow
  rw [DS_at X C b s d (b * 4096 + s) 0 (by omega) (by omega), mul_comm]
  rw [ZP_at X b _ d (b * 4096 + s) (2 - 0) (by omega) (by show _ < _; simp only []; omega) (by simp only []; omega) (by simp only []; omega)]
theorem tap1_at (p : Fin 1) (d : Fin 1024) :
    tapSum X C (extractStridedSlice S2x4096x1024 ![0, 1, 0] (ZP X) slices_S2x4098x1024_S2x4096x1024_0_1_0) (ix2 p d)
      = ∑ n : Fin 8192, wRow (flat (a := 8192) (b := 3072) X) (flat (a := 8192) (b := 1024) C) 1 n d := by
  refine (tapSum_at X C _ p d).trans ?_
  pointwise
  refine Fin.sum_mul_add_congr fun b s hl => ?_
  have hs := s.2
  show _ = wRow (flat (a := 8192) (b := 3072) X) (flat (a := 8192) (b := 1024) C) 1 (b * 4096 + s) d
  unfold wRow
  rw [DS_at X C b s d (b * 4096 + s) 0 (by omega) (by omega), mul_comm]
  rw [ZP_at X b _ d (b * 4096 + s) (2 - 1) (by omega) (by show _ < _; simp only []; omega) (by simp only []; omega) (by simp only []; omega)]
theorem tap2_at (p : Fin 1) (d : Fin 1024) :
    tapSum X C (extractStridedSlice S2x4096x1024 ![0, 2, 0] (ZP X) slices_S2x4098x1024_S2x4096x1024_0_2_0) (ix2 p d)
      = ∑ n : Fin 8192, wRow (flat (a := 8192) (b := 3072) X) (flat (a := 8192) (b := 1024) C) 2 n d := by
  refine (tapSum_at X C _ p d).trans ?_
  pointwise
  refine Fin.sum_mul_add_congr fun b s hl => ?_
  have hs := s.2
  show _ = wRow (flat (a := 8192) (b := 3072) X) (flat (a := 8192) (b := 1024) C) 2 (b * 4096 + s) d
  unfold wRow
  rw [DS_at X C b s d (b * 4096 + s) 0 (by omega) (by omega), mul_comm]
  rw [ZP_at X b _ d (b * 4096 + s) (2 - 2) (by omega) (by show _ < _; simp only []; omega) (by simp only []; omega) (by simp only []; omega)]

/-- The gradient of the taps at an entry. -/
theorem DWR_at (k : Fin 3) (d : Fin 1024) : DWR X C (ix2 k d) = ∑ n : Fin 8192, wRow (flat (a := 8192) (b := 3072) X) (flat (a := 8192) (b := 1024) C) k n d := by
  pointwise [DWR]
  have hk := k.2
  rcases (show (k : ℕ) = 0 ∨ (k : ℕ) = 1 ∨ (k : ℕ) = 2 by omega) with h | h | h
  · rw [dif_neg (by omega), dif_neg (by omega), dif_pos (by omega), zero_add, zero_add]
    exact (tap0_at X C _ d).trans (by rw [h])
  · rw [dif_neg (by omega), dif_pos (by omega), dif_neg (by omega), zero_add, add_zero]
    exact (tap1_at X C _ d).trans (by rw [h])
  · rw [dif_pos (by omega), dif_neg (by omega), dif_neg (by omega), add_zero, add_zero]
    exact (tap2_at X C _ d).trans (by rw [h])
end
variable (m : (ℓ : Loc nD τ sig) → Buf (Elt Ideal) ℓ)

theorem du_eq (c : Dev nD) : Value.res_out0 m c = DUR (m ((c.tc : Thread nD τ).loc main_arg0)) (m ((c.tc : Thread nD τ).loc main_arg1)) (m ((c.tc : Thread nD τ).loc main_arg2)) := rfl
theorem dw_eq (c : Dev nD) : Value.res_out1 m c = DWR (m ((c.tc : Thread nD τ).loc main_arg0)) (m ((c.tc : Thread nD τ).loc main_arg1)) := rfl
end Cert.ReferenceIdeal.Entries
-- ==== Proof.GateClaim.lean ====
module

public import proofs.«01_k».proof.Defs
public import proofs.«01_k».proof.Proof.GateArrays
public import proofs.«01_k».proof.Proof.GateRef
public import Idealize.ShloMosaic.Lib.Claim
/-! # Kernel and reference of the gated convolution's gradient give the same two arrays -/
@[expose] public section

set_option maxRecDepth 16384
noncomputable section
open Idealize.ShloMosaic Idealize.ShloMosaic.TcCoe Idealize.SL.Sem
namespace Cert.Gate

/-- The gradient of `u`: the reference's array is the kernel's. -/
theorem du_same (m : (ℓ : Loc Cert.KernelIdeal.nD Cert.KernelIdeal.τ Cert.KernelIdeal.sig) → Buf (Elt Ideal) ℓ) (c : Dev Cert.KernelIdeal.nD) :
    Cert.ReferenceIdeal.Entries.DUR (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))
      = (Cert.KernelIdeal.Gen.dats m 0 c).arrAt 6 Cert.KernelIdeal.cfg0.N := by
  rw [Cert.KernelIdeal.Arrays.final6]
  funext i
  idx_vars i
  exact Cert.ReferenceIdeal.Entries.DUR_at _ _ _ _ _

/-- The gradient of the taps: the reference's array is the kernel's. -/
theorem dw_same (m : (ℓ : Loc Cert.KernelIdeal.nD Cert.KernelIdeal.τ Cert.KernelIdeal.sig) → Buf (Elt Ideal) ℓ) (c : Dev Cert.KernelIdeal.nD) :
    Cert.ReferenceIdeal.Entries.DWR (m ((c : Thread Cert.KernelIdeal.nD Cert.KernelIdeal.τ).loc Cert.KernelIdeal.main_arg0)) (m ((c : Thread Cert.KernelIdeal.nD Cert.KernelIdeal.τ).loc Cert.KernelIdeal.main_arg1))
      = (Cert.KernelIdeal.Gen.dats m 0 c).arrAt 7 Cert.KernelIdeal.cfg0.N := by
  rw [Cert.KernelIdeal.Arrays.final7]
  funext i
  idx_vars i
  exact Cert.ReferenceIdeal.Entries.DWR_at _ _ _ _

local instance : Cert.KernelIdeal.Facts := Cert.KernelIdeal.Gen.facts
local instance : Cert.ReferenceIdeal.Facts := Cert.ReferenceIdeal.Gen.facts

theorem same : Cert.algebraic_KernelIdeal_ReferenceIdeal := by
  pair_intro
  · run_from Cert.KernelIdeal.Value.run_blocks m g
  · run_from Cert.ReferenceIdeal.Value.run m' g'
    · exact (Cert.ReferenceIdeal.Entries.du_eq m' c).trans (by
        rw [(hagree c).1, (hagree c).2.1, (hagree c).2.2]; exact du_same m c)
    · exact (Cert.ReferenceIdeal.Entries.dw_eq m' c).trans (by
        rw [(hagree c).1, (hagree c).2.1]; exact dw_same m c)

/-- The reference ends, keeps its arguments, and has no counters that could be left standing. -/
theorem frameR : Cert.quiescent_ReferenceIdeal := by
  intro m g _
  refine θ_run_mono (Cert.ReferenceIdeal.Value.run m g) fun r h => ⟨fun c => (h c).2.2, ?_⟩
  exact sem_eq_zero_of_no_sems rfl _

end Cert.Gate
-- ==== Proof.ProductSpec.lean ====
module

public import Idealize.ShloMosaic.Lib.Pipeline.ValueKit
/-! # The three ways two matrices meet in a training step's products -/
@[expose] public section

set_option maxRecDepth 16384
noncomputable section
open Idealize.ShloMosaic
namespace Cert.Products

/-- A matrix of `a` rows and `b` columns, over the extended reals. -/
abbrev Mat (a b : ℕ) : Type := FVec Ideal ⟨2, ![a, b]⟩ .f32

/-- `X · Y`: the product of a forward pass. -/
def mul {a b d : ℕ} (X : Mat a b) (Y : Mat b d) : Mat a d :=
  fun i => ∑ k : Fin b, X (ix2 (i 0) k) * Y (ix2 k (i 1))

/-- `X · Yᵀ`: what a product hands back to its input. -/
def mulT {a b d : ℕ} (X : Mat a b) (Y : Mat d b) : Mat a d :=
  fun i => ∑ k : Fin b, X (ix2 (i 0) k) * Y (ix2 (i 1) k)

/-- `Xᵀ · Y`: what a product hands back to its weight. -/
def tmul {a b d : ℕ} (X : Mat b a) (Y : Mat b d) : Mat a d :=
  fun i => ∑ k : Fin b, X (ix2 k (i 0)) * Y (ix2 k (i 1))

/-- `X · Yᵀ` over the columns `o, o + 1, …` of a wider `Y`: what one part of a product that is cut in parts hands back
    to the input they share. -/
def mulTFrom {a b d e : ℕ} (o : ℕ) (h : o + b ≤ e) (X : Mat a b) (Y : Mat d e) : Mat a d :=
  fun i => ∑ k : Fin b, X (ix2 (i 0) k) * Y (ix2 (i 1) ⟨o + k.val, by omega⟩)

/-- A product on top of what was there. -/
def onto {a b : ℕ} (R X : Mat a b) : Mat a b := fun i => R i + X i

end Cert.Products
-- ==== Proof.UpDxSame.lean ====
module

public import proofs.«01_k».proof.Defs
public import proofs.«01_k».proof.Proof.ProductSpec
public import proofs.«01_k».proof.Proof.Gen.UpDxIdeal.Frame
public import proofs.«01_k».proof.Proof.Gen.UpDxRefIdeal
public import Idealize.ShloMosaic.Lib.Claim
/-! # UpDx: what the up-projection hands back to its input -/
@[expose] public section

set_option maxRecDepth 16384
noncomputable section
open Idealize.ShloMosaic Idealize.ShloMosaic.TcCoe Idealize.SL.Sem Cert.Products
namespace Cert.UpDxIdeal.Products
open Cert.UpDxIdeal Cert.UpDxIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mulT (a := 8192) (b := 5632) (d := 1024) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, mulT]
  blk_point [iblk, V, idx t]
end

local instance : Cert.UpDxIdeal.Facts := Cert.UpDxIdeal.Gen.facts
local instance : Cert.UpDxRefIdeal.Facts := Cert.UpDxRefIdeal.Gen.facts

/-- The reference ends, keeps its arguments, and has no counters that could be left standing. -/
theorem frameR : Cert.quiescent_UpDxRefIdeal := by
  intro m g _
  hlo_run
  · exact fun _ => ⟨trivial, trivial⟩
  · exact sem_eq_zero_of_no_sems rfl _

/-- Call and reference end with the same product. -/
theorem same : Cert.algebraic_UpDxIdeal_UpDxRefIdeal := by
  pair_intro
  · run_from Cert.UpDxIdeal.Gen.run_main m g
  · hlo_run
    rw [final0]
    funext i
    pointwise [target, mulT]

end Cert.UpDxIdeal.Products
-- ==== Proof.UpDwSame.lean ====
module

public import proofs.«01_k».proof.Defs
public import proofs.«01_k».proof.Proof.ProductSpec
public import proofs.«01_k».proof.Proof.Gen.UpDwIdeal.Frame
public import proofs.«01_k».proof.Proof.Gen.UpDwRefIdeal
public import Idealize.ShloMosaic.Lib.Claim
/-! # UpDw: what the up-projection hands back to its weight -/
@[expose] public section

set_option maxRecDepth 16384
noncomputable section
open Idealize.ShloMosaic Idealize.ShloMosaic.TcCoe Idealize.SL.Sem Cert.Products
namespace Cert.UpDwIdeal.Products
open Cert.UpDwIdeal Cert.UpDwIdeal.Gen

section
variable (m : (ℓ : Loc nD τ sig) → Buf (Elt Ideal) ℓ) (c : Dev nD)

/-- Where each window stands at a grid point. -/
theorem idx : ∀ t : Fin cfg0.N, win0_0.index t = ![0, t.val / 11]
    ∧ win0_1.index t = ![0, t.val % 11]
    ∧ win0_2.index t = ![t.val / 11, t.val % 11]
    ∧ win0_3.index t = ![t.val / 11, t.val % 11] :=
  (by decide +kernel : ∀ t : Fin grid0.N, _)

/-- The product the call computes. -/
abbrev target := tmul (a := 1024) (b := 8192) (d := 5632) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, tmul]
  blk_point [iblk, V, idx t]

/-- Every tile the call writes (second copy) is its part of the product, and the tiles fill the array. -/
theorem final1 : (dats m 0 c).arrAt 3 cfg0.N = target m c := by
  refine (dats m 0 c).arrAt_eq_of_covers 3 _ (by decide +kernel) fun t hf y => ?_
  blk_simp; rw [after0_3]; frame_out
  pointwise [k0_pay2, tmul]
  blk_point [iblk, V, idx t]
end

local instance : Cert.UpDwIdeal.Facts := Cert.UpDwIdeal.Gen.facts
local instance : Cert.UpDwRefIdeal.Facts := Cert.UpDwRefIdeal.Gen.facts

/-- The reference ends, keeps its arguments, and has no counters that could be left standing. -/
theorem frameR : Cert.quiescent_UpDwRefIdeal := by
  intro m g _
  hlo_run
  · exact fun _ => ⟨trivial, trivial⟩
  · exact sem_eq_zero_of_no_sems rfl _

/-- Call and reference end with the same product. -/
theorem same : Cert.algebraic_UpDwIdeal_UpDwRefIdeal := by
  pair_intro
  · run_from Cert.UpDwIdeal.Gen.run_main m g
  · hlo_run
    · rw [final0]
      funext i
      pointwise [target, tmul]
      exact Finset.sum_congr rfl fun k _ => mul_comm _ _
    · rw [final1]
      funext i
      pointwise [target, tmul]
      exact Finset.sum_congr rfl fun k _ => mul_comm _ _

end Cert.UpDwIdeal.Products
-- ==== Proof.DownDxSame.lean ====
module

public import proofs.«01_k».proof.Defs
public import proofs.«01_k».proof.Proof.ProductSpec
public import proofs.«01_k».proof.Proof.Gen.DownDxIdeal.Frame
public import proofs.«01_k».proof.Proof.Gen.DownDxRefIdeal
public import Idealize.ShloMosaic.Lib.Claim
/-! # DownDx: what the down-projection hands back to its input -/
@[expose] public section

set_option maxRecDepth 16384
noncomputable section
open Idealize.ShloMosaic Idealize.ShloMosaic.TcCoe Idealize.SL.Sem Cert.Products
namespace Cert.DownDxIdeal.Products
open Cert.DownDxIdeal Cert.DownDxIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mulT (a := 8192) (b := 1024) (d := 2816) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; unfold outsAt0; frame_out
  pointwise [k0_pay1, mulT]
  blk_point [iblk, V, idx t]
end

local instance : Cert.DownDxIdeal.Facts := Cert.DownDxIdeal.Gen.facts
local instance : Cert.DownDxRefIdeal.Facts := Cert.DownDxRefIdeal.Gen.facts

/-- The reference ends, keeps its arguments, and has no counters that could be left standing. -/
theorem frameR : Cert.quiescent_DownDxRefIdeal := by
  intro m g _
  hlo_run
  · exact fun _ => ⟨trivial, trivial, trivial⟩
  · exact sem_eq_zero_of_no_sems rfl _

/-- Call and reference end with the same product. -/
theorem same : Cert.algebraic_DownDxIdeal_DownDxRefIdeal := by
  pair_intro
  · run_from Cert.DownDxIdeal.Gen.run_main m g
  · hlo_run
    rw [final0]
    funext i
    pointwise [target, mulT]

end Cert.DownDxIdeal.Products
-- ==== Proof.DownDwSame.lean ====
module

public import proofs.«01_k».proof.Defs
public import proofs.«01_k».proof.Proof.ProductSpec
public import proofs.«01_k».proof.Proof.Gen.DownDwIdeal.Frame
public import proofs.«01_k».proof.Proof.Gen.DownDwRefIdeal
public import Idealize.ShloMosaic.Lib.Claim
/-! # DownDw: what the down-projection hands back to its weight -/
@[expose] public section

set_option maxRecDepth 16384
noncomputable section
open Idealize.ShloMosaic Idealize.ShloMosaic.TcCoe Idealize.SL.Sem Cert.Products
namespace Cert.DownDwIdeal.Products
open Cert.DownDwIdeal Cert.DownDwIdeal.Gen

section
variable (m : (ℓ : Loc nD τ sig) → Buf (Elt Ideal) ℓ) (c : Dev nD)

/-- Where each window stands at a grid point. -/
theorem idx : ∀ t : Fin cfg0.N, win0_0.index t = ![0, t.val]
    ∧ win0_1.index t = ![0, 0]
    ∧ win0_2.index t = ![t.val, 0]
    ∧ win0_3.index t = ![t.val, 0] :=
  (by decide +kernel : ∀ t : Fin grid0.N, _)

/-- The product the call computes. -/
abbrev target := tmul (a := 2816) (b := 8192) (d := 1024) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, tmul]
  blk_point [iblk, V, idx t]

/-- Every tile the call writes (second copy) is its part of the product, and the tiles fill the array. -/
theorem final1 : (dats m 0 c).arrAt 3 cfg0.N = target m c := by
  refine (dats m 0 c).arrAt_eq_of_covers 3 _ (by decide +kernel) fun t hf y => ?_
  blk_simp; rw [after0_3]; frame_out
  pointwise [k0_pay2, tmul]
  blk_point [iblk, V, idx t]
end

local instance : Cert.DownDwIdeal.Facts := Cert.DownDwIdeal.Gen.facts
local instance : Cert.DownDwRefIdeal.Facts := Cert.DownDwRefIdeal.Gen.facts

/-- The reference ends, keeps its arguments, and has no counters that could be left standing. -/
theorem frameR : Cert.quiescent_DownDwRefIdeal := by
  intro m g _
  hlo_run
  · exact fun _ => ⟨trivial, trivial⟩
  · exact sem_eq_zero_of_no_sems rfl _

/-- Call and reference end with the same product. -/
theorem same : Cert.algebraic_DownDwIdeal_DownDwRefIdeal := by
  pair_intro
  · run_from Cert.DownDwIdeal.Gen.run_main m g
  · hlo_run
    · rw [final0]
      funext i
      pointwise [target, tmul]
      exact Finset.sum_congr rfl fun k _ => mul_comm _ _
    · rw [final1]
      funext i
      pointwise [target, tmul]
      exact Finset.sum_congr rfl fun k _ => mul_comm _ _

end Cert.DownDwIdeal.Products
-- ==== Proof.InDxSame.lean ====
module

public import proofs.«01_k».proof.Defs
public import proofs.«01_k».proof.Proof.ProductSpec
public import proofs.«01_k».proof.Proof.Gen.InDxIdeal.Frame
public import proofs.«01_k».proof.Proof.Gen.InDxRefIdeal
public import Idealize.ShloMosaic.Lib.Claim
/-! # InDx: what the mixer's first projection hands back to its input -/
@[expose] public section

set_option maxRecDepth 16384
noncomputable section
open Idealize.ShloMosaic Idealize.ShloMosaic.TcCoe Idealize.SL.Sem Cert.Products
namespace Cert.InDxIdeal.Products
open Cert.InDxIdeal Cert.InDxIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mulT (a := 8192) (b := 3072) (d := 1024) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; unfold outsAt0; frame_out
  pointwise [k0_pay1, mulT]
  blk_point [iblk, V, idx t]
end

local instance : Cert.InDxIdeal.Facts := Cert.InDxIdeal.Gen.facts
local instance : Cert.InDxRefIdeal.Facts := Cert.InDxRefIdeal.Gen.facts

/-- The reference ends, keeps its arguments, and has no counters that could be left standing. -/
theorem frameR : Cert.quiescent_InDxRefIdeal := by
  intro m g _
  hlo_run
  · exact fun _ => ⟨trivial, trivial, trivial⟩
  · exact sem_eq_zero_of_no_sems rfl _

/-- Call and reference end with the same product. -/
theorem same : Cert.algebraic_InDxIdeal_InDxRefIdeal := by
  pair_intro
  · run_from Cert.InDxIdeal.Gen.run_main m g
  · hlo_run
    rw [final0]
    funext i
    pointwise [target, mulT]

end Cert.InDxIdeal.Products
-- ==== Proof.InDwSame.lean ====
module

public import proofs.«01_k».proof.Defs
public import proofs.«01_k».proof.Proof.ProductSpec
public import proofs.«01_k».proof.Proof.Gen.InDwIdeal.Frame
public import proofs.«01_k».proof.Proof.Gen.InDwRefIdeal
public import Idealize.ShloMosaic.Lib.Claim
/-! # InDw: what the mixer's first projection hands back to its weight -/
@[expose] public section

set_option maxRecDepth 16384
noncomputable section
open Idealize.ShloMosaic Idealize.ShloMosaic.TcCoe Idealize.SL.Sem Cert.Products
namespace Cert.InDwIdeal.Products
open Cert.InDwIdeal Cert.InDwIdeal.Gen

section
variable (m : (ℓ : Loc nD τ sig) → Buf (Elt Ideal) ℓ) (c : Dev nD)

/-- Where each window stands at a grid point. -/
theorem idx : ∀ t : Fin cfg0.N, win0_0.index t = ![0, t.val / 6]
    ∧ win0_1.index t = ![0, t.val % 6]
    ∧ win0_2.index t = ![t.val / 6, t.val % 6]
    ∧ win0_3.index t = ![t.val / 6, t.val % 6] :=
  (by decide +kernel : ∀ t : Fin grid0.N, _)

/-- The product the call computes. -/
abbrev target := tmul (a := 1024) (b := 8192) (d := 3072) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, tmul]
  blk_point [iblk, V, idx t]

/-- Every tile the call writes (second copy) is its part of the product, and the tiles fill the array. -/
theorem final1 : (dats m 0 c).arrAt 3 cfg0.N = target m c := by
  refine (dats m 0 c).arrAt_eq_of_covers 3 _ (by decide +kernel) fun t hf y => ?_
  blk_simp; rw [after0_3]; frame_out
  pointwise [k0_pay2, tmul]
  blk_point [iblk, V, idx t]
end

local instance : Cert.InDwIdeal.Facts := Cert.InDwIdeal.Gen.facts
local instance : Cert.InDwRefIdeal.Facts := Cert.InDwRefIdeal.Gen.facts

/-- The reference ends, keeps its arguments, and has no counters that could be left standing. -/
theorem frameR : Cert.quiescent_InDwRefIdeal := by
  intro m g _
  hlo_run
  · exact fun _ => ⟨trivial, trivial⟩
  · exact sem_eq_zero_of_no_sems rfl _

/-- Call and reference end with the same product. -/
theorem same : Cert.algebraic_InDwIdeal_InDwRefIdeal := by
  pair_intro
  · run_from Cert.InDwIdeal.Gen.run_main m g
  · hlo_run
    · rw [final0]
      funext i
      pointwise [target, tmul]
      exact Finset.sum_congr rfl fun k _ => mul_comm _ _
    · rw [final1]
      funext i
      pointwise [target, tmul]
      exact Finset.sum_congr rfl fun k _ => mul_comm _ _

end Cert.InDwIdeal.Products
-- ==== Proof.OutDxSame.lean ====
module

public import proofs.«01_k».proof.Defs
public import proofs.«01_k».proof.Proof.ProductSpec
public import proofs.«01_k».proof.Proof.Gen.OutDxIdeal.Frame
public import proofs.«01_k».proof.Proof.Gen.OutDxRefIdeal
public import Idealize.ShloMosaic.Lib.Claim
/-! # OutDx: what the mixer's last projection hands back to its input -/
@[expose] public section

set_option maxRecDepth 16384
noncomputable section
open Idealize.ShloMosaic Idealize.ShloMosaic.TcCoe Idealize.SL.Sem Cert.Products
namespace Cert.OutDxIdeal.Products
open Cert.OutDxIdeal Cert.OutDxIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mulT (a := 8192) (b := 1024) (d := 1024) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; unfold outsAt0; frame_out
  pointwise [k0_pay1, mulT]
  blk_point [iblk, V, idx t]
end

local instance : Cert.OutDxIdeal.Facts := Cert.OutDxIdeal.Gen.facts
local instance : Cert.OutDxRefIdeal.Facts := Cert.OutDxRefIdeal.Gen.facts

/-- The reference ends, keeps its arguments, and has no counters that could be left standing. -/
theorem frameR : Cert.quiescent_OutDxRefIdeal := by
  intro m g _
  hlo_run
  · exact fun _ => ⟨trivial, trivial, trivial⟩
  · exact sem_eq_zero_of_no_sems rfl _

/-- Call and reference end with the same product. -/
theorem same : Cert.algebraic_OutDxIdeal_OutDxRefIdeal := by
  pair_intro
  · run_from Cert.OutDxIdeal.Gen.run_main m g
  · hlo_run
    rw [final0]
    funext i
    pointwise [target, mulT]

end Cert.OutDxIdeal.Products
-- ==== Proof.SquareDwSame.lean ====
module

public import proofs.«01_k».proof.Defs
public import proofs.«01_k».proof.Proof.ProductSpec
public import proofs.«01_k».proof.Proof.Gen.SquareDwIdeal.Frame
public import proofs.«01_k».proof.Proof.Gen.SquareDwRefIdeal
public import Idealize.ShloMosaic.Lib.Claim
/-! # SquareDw: what a square projection hands back to its weight -/
@[expose] public section

set_option maxRecDepth 16384
noncomputable section
open Idealize.ShloMosaic Idealize.ShloMosaic.TcCoe Idealize.SL.Sem Cert.Products
namespace Cert.SquareDwIdeal.Products
open Cert.SquareDwIdeal Cert.SquareDwIdeal.Gen

section
variable (m : (ℓ : Loc nD τ sig) → Buf (Elt Ideal) ℓ) (c : Dev nD)

/-- Where each window stands at a grid point. -/
theorem idx : ∀ t : Fin cfg0.N, win0_0.index t = ![0, t.val / 2]
    ∧ win0_1.index t = ![0, t.val % 2]
    ∧ win0_2.index t = ![t.val / 2, t.val % 2]
    ∧ win0_3.index t = ![t.val / 2, t.val % 2] :=
  (by decide +kernel : ∀ t : Fin grid0.N, _)

/-- The product the call computes. -/
abbrev target := tmul (a := 1024) (b := 8192) (d := 1024) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, tmul]
  blk_point [iblk, V, idx t]

/-- Every tile the call writes (second copy) is its part of the product, and the tiles fill the array. -/
theorem final1 : (dats m 0 c).arrAt 3 cfg0.N = target m c := by
  refine (dats m 0 c).arrAt_eq_of_covers 3 _ (by decide +kernel) fun t hf y => ?_
  blk_simp; rw [after0_3]; frame_out
  pointwise [k0_pay2, tmul]
  blk_point [iblk, V, idx t]
end

local instance : Cert.SquareDwIdeal.Facts := Cert.SquareDwIdeal.Gen.facts
local instance : Cert.SquareDwRefIdeal.Facts := Cert.SquareDwRefIdeal.Gen.facts

/-- The reference ends, keeps its arguments, and has no counters that could be left standing. -/
theorem frameR : Cert.quiescent_SquareDwRefIdeal := by
  intro m g _
  hlo_run
  · exact fun _ => ⟨trivial, trivial⟩
  · exact sem_eq_zero_of_no_sems rfl _

/-- Call and reference end with the same product. -/
theorem same : Cert.algebraic_SquareDwIdeal_SquareDwRefIdeal := by
  pair_intro
  · run_from Cert.SquareDwIdeal.Gen.run_main m g
  · hlo_run
    · rw [final0]
      funext i
      pointwise [target, tmul]
      exact Finset.sum_congr rfl fun k _ => mul_comm _ _
    · rw [final1]
      funext i
      pointwise [target, tmul]
      exact Finset.sum_congr rfl fun k _ => mul_comm _ _

end Cert.SquareDwIdeal.Products
-- ==== Proof.ODxSame.lean ====
module

public import proofs.«01_k».proof.Defs
public import proofs.«01_k».proof.Proof.ProductSpec
public import proofs.«01_k».proof.Proof.Gen.ODxIdeal.Frame
public import proofs.«01_k».proof.Proof.Gen.ODxRefIdeal
public import Idealize.ShloMosaic.Lib.Claim
/-! # ODx: what attention's last projection hands back to its input -/
@[expose] public section

set_option maxRecDepth 16384
noncomputable section
open Idealize.ShloMosaic Idealize.ShloMosaic.TcCoe Idealize.SL.Sem Cert.Products
namespace Cert.ODxIdeal.Products
open Cert.ODxIdeal Cert.ODxIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mulT (a := 8192) (b := 1024) (d := 1024) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; unfold outsAt0; frame_out
  pointwise [k0_pay1, mulT]
  blk_point [iblk, V, idx t]
end

local instance : Cert.ODxIdeal.Facts := Cert.ODxIdeal.Gen.facts
local instance : Cert.ODxRefIdeal.Facts := Cert.ODxRefIdeal.Gen.facts

/-- The reference ends, keeps its arguments, and has no counters that could be left standing. -/
theorem frameR : Cert.quiescent_ODxRefIdeal := by
  intro m g _
  hlo_run
  · exact fun _ => ⟨trivial, trivial, trivial⟩
  · exact sem_eq_zero_of_no_sems rfl _

/-- Call and reference end with the same product. -/
theorem same : Cert.algebraic_ODxIdeal_ODxRefIdeal := by
  pair_intro
  · run_from Cert.ODxIdeal.Gen.run_main m g
  · hlo_run
    rw [final0]
    funext i
    pointwise [target, mulT]

end Cert.ODxIdeal.Products
-- ==== Proof.QDxSame.lean ====
module

public import proofs.«01_k».proof.Defs
public import proofs.«01_k».proof.Proof.ProductSpec
public import proofs.«01_k».proof.Proof.Gen.QDxIdeal.Frame
public import proofs.«01_k».proof.Proof.Gen.QDxRefIdeal
public import Idealize.ShloMosaic.Lib.Claim
/-! # QDx: what the queries hand back to their input -/
@[expose] public section

set_option maxRecDepth 16384
noncomputable section
open Idealize.ShloMosaic Idealize.ShloMosaic.TcCoe Idealize.SL.Sem Cert.Products
namespace Cert.QDxIdeal.Products
open Cert.QDxIdeal Cert.QDxIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mulT (a := 8192) (b := 1024) (d := 1024) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, mulT]
  blk_point [iblk, V, idx t]
end

local instance : Cert.QDxIdeal.Facts := Cert.QDxIdeal.Gen.facts
local instance : Cert.QDxRefIdeal.Facts := Cert.QDxRefIdeal.Gen.facts

/-- The reference ends, keeps its arguments, and has no counters that could be left standing. -/
theorem frameR : Cert.quiescent_QDxRefIdeal := by
  intro m g _
  hlo_run
  · exact fun _ => ⟨trivial, trivial⟩
  · exact sem_eq_zero_of_no_sems rfl _

/-- Call and reference end with the same product. -/
theorem same : Cert.algebraic_QDxIdeal_QDxRefIdeal := by
  pair_intro
  · run_from Cert.QDxIdeal.Gen.run_main m g
  · hlo_run
    rw [final0]
    funext i
    pointwise [target, mulT]

end Cert.QDxIdeal.Products
-- ==== Proof.KeyDxSame.lean ====
module

public import proofs.«01_k».proof.Defs
public import proofs.«01_k».proof.Proof.ProductSpec
public import proofs.«01_k».proof.Proof.Gen.KeyDxIdeal.Frame
public import proofs.«01_k».proof.Proof.Gen.KeyDxRefIdeal
public import Idealize.ShloMosaic.Lib.Claim
/-! # KeyDx: what the keys hand back to their input -/
@[expose] public section

set_option maxRecDepth 16384
noncomputable section
open Idealize.ShloMosaic Idealize.ShloMosaic.TcCoe Idealize.SL.Sem Cert.Products
namespace Cert.KeyDxIdeal.Products
open Cert.KeyDxIdeal Cert.KeyDxIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mulTFrom (a := 8192) (b := 1024) (d := 1024) (e := 2048) 0 (by omega) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, mulTFrom]
  blk_point [iblk, V, idx t]
end

local instance : Cert.KeyDxIdeal.Facts := Cert.KeyDxIdeal.Gen.facts
local instance : Cert.KeyDxRefIdeal.Facts := Cert.KeyDxRefIdeal.Gen.facts

/-- The reference ends, keeps its arguments, and has no counters that could be left standing. -/
theorem frameR : Cert.quiescent_KeyDxRefIdeal := by
  intro m g _
  hlo_run
  · exact fun _ => ⟨trivial, trivial⟩
  · exact sem_eq_zero_of_no_sems rfl _

/-- Call and reference end with the same product. -/
theorem same : Cert.algebraic_KeyDxIdeal_KeyDxRefIdeal := by
  pair_intro
  · run_from Cert.KeyDxIdeal.Gen.run_main m g
  · hlo_run
    rw [final0]
    funext i
    pointwise [target, mulTFrom]
    exact (congrArg₂ (· + ·) rfl (Finset.sum_eq_zero fun k _ => zero_mul _)).trans (add_zero _)

end Cert.KeyDxIdeal.Products
-- ==== Proof.ValueDxSame.lean ====
module

public import proofs.«01_k».proof.Defs
public import proofs.«01_k».proof.Proof.ProductSpec
public import proofs.«01_k».proof.Proof.Gen.ValueDxIdeal.Frame
public import proofs.«01_k».proof.Proof.Gen.ValueDxRefIdeal
public import Idealize.ShloMosaic.Lib.Claim
/-! # ValueDx: what the values hand back to their input, on top of the keys' -/
@[expose] public section

set_option maxRecDepth 16384
noncomputable section
open Idealize.ShloMosaic Idealize.ShloMosaic.TcCoe Idealize.SL.Sem Cert.Products
namespace Cert.ValueDxIdeal.Products
open Cert.ValueDxIdeal Cert.ValueDxIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 1]
    ∧ win0_2.index t = ![t.val, 0]
    ∧ win0_3.index t = ![t.val, 0] :=
  (by decide +kernel : ∀ t : Fin grid0.N, _)

/-- The product the call computes. -/
abbrev target := onto (a := 8192) (b := 1024) (m ((c : Thread nD τ).loc main_arg2)) (mulTFrom (a := 8192) (b := 1024) (d := 1024) (e := 2048) 1024 (by omega) (m ((c : Thread nD τ).loc main_arg0)) (m ((c : Thread nD τ).loc main_arg1)))

/-- Every tile the call writes is its part of the product, and the tiles fill the array. -/
theorem final0 : (dats m 0 c).arrAt 3 cfg0.N = target m c := by
  refine (dats m 0 c).arrAt_eq_of_covers 3 _ (by decide +kernel) fun t hf y => ?_
  blk_simp; rw [after0_3]; frame_out
  pointwise [k0_pay1, mulTFrom, onto]
  blk_point [iblk, V, idx t]
end

local instance : Cert.ValueDxIdeal.Facts := Cert.ValueDxIdeal.Gen.facts
local instance : Cert.ValueDxRefIdeal.Facts := Cert.ValueDxRefIdeal.Gen.facts

/-- The reference ends, keeps its arguments, and has no counters that could be left standing. -/
theorem frameR : Cert.quiescent_ValueDxRefIdeal := by
  intro m g _
  hlo_run
  · exact fun _ => ⟨trivial, trivial, trivial⟩
  · exact sem_eq_zero_of_no_sems rfl _

/-- Call and reference end with the same product. -/
theorem same : Cert.algebraic_ValueDxIdeal_ValueDxRefIdeal := by
  pair_intro
  · run_from Cert.ValueDxIdeal.Gen.run_main m g
  · hlo_run
    rw [final0]
    funext i
    pointwise [target, mulTFrom, onto]
    refine Eq.trans (add_comm _ _) (congrArg₂ (· + ·) rfl ?_)
    exact (congrArg₂ (· + ·) (Finset.sum_eq_zero fun k _ => zero_mul _) rfl).trans (zero_add _)

end Cert.ValueDxIdeal.Products
-- ==== Proof.UpSame.lean ====
module

public import proofs.«01_k».proof.Defs
public import proofs.«01_k».proof.Proof.ProductSpec
public import proofs.«01_k».proof.Proof.Gen.UpIdeal.Frame
public import proofs.«01_k».proof.Proof.Gen.UpRefIdeal
public import Idealize.ShloMosaic.Lib.Claim
/-! # Up: the up-projection -/
@[expose] public section

set_option maxRecDepth 16384
noncomputable section
open Idealize.ShloMosaic Idealize.ShloMosaic.TcCoe Idealize.SL.Sem Cert.Products
namespace Cert.UpIdeal.Products
open Cert.UpIdeal Cert.UpIdeal.Gen

section
variable (m : (ℓ : Loc nD τ sig) → Buf (Elt Ideal) ℓ) (c : Dev nD)

/-- Where each window stands at a grid point. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The product the call computes. -/
abbrev target := mul (a := 8192) (b := 1024) (d := 5632) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, mul]
  blk_point [iblk, V, idx t]
end

local instance : Cert.UpIdeal.Facts := Cert.UpIdeal.Gen.facts
local instance : Cert.UpRefIdeal.Facts := Cert.UpRefIdeal.Gen.facts

/-- The reference ends, keeps its arguments, and has no counters that could be left standing. -/
theorem frameR : Cert.quiescent_UpRefIdeal := by
  intro m g _
  hlo_run
  · exact fun _ => ⟨trivial, trivial⟩
  · exact sem_eq_zero_of_no_sems rfl _

/-- Call and reference end with the same product. -/
theorem same : Cert.algebraic_UpIdeal_UpRefIdeal := by
  pair_intro
  · run_from Cert.UpIdeal.Gen.run_main m g
  · hlo_run
    rw [final0]
    funext i
    pointwise [target, mul]

end Cert.UpIdeal.Products
-- ==== Proof.DownSame.lean ====
module

public import proofs.«01_k».proof.Defs
public import proofs.«01_k».proof.Proof.ProductSpec
public import proofs.«01_k».proof.Proof.Gen.DownIdeal.Frame
public import proofs.«01_k».proof.Proof.Gen.DownRefIdeal
public import Idealize.ShloMosaic.Lib.Claim
/-! # Down: the down-projection, on top of its residual -/
@[expose] public section

set_option maxRecDepth 16384
noncomputable section
open Idealize.ShloMosaic Idealize.ShloMosaic.TcCoe Idealize.SL.Sem Cert.Products
namespace Cert.DownIdeal.Products
open Cert.DownIdeal Cert.DownIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The product the call computes. -/
abbrev target := onto (a := 8192) (b := 1024) (m ((c : Thread nD τ).loc main_arg2)) (mul (a := 8192) (b := 2816) (d := 1024) (m ((c : Thread nD τ).loc main_arg0)) (m ((c : Thread nD τ).loc main_arg1)))

/-- Every tile the call writes is its part of the product, and the tiles fill the array. -/
theorem final0 : (dats m 0 c).arrAt 3 cfg0.N = target m c := by
  refine (dats m 0 c).arrAt_eq_of_covers 3 _ (by decide +kernel) fun t hf y => ?_
  blk_simp; rw [after0_3]; frame_out
  pointwise [k0_pay1, mul, onto]
  blk_point [iblk, V, idx t]
end

local instance : Cert.DownIdeal.Facts := Cert.DownIdeal.Gen.facts
local instance : Cert.DownRefIdeal.Facts := Cert.DownRefIdeal.Gen.facts

/-- The reference ends, keeps its arguments, and has no counters that could be left standing. -/
theorem frameR : Cert.quiescent_DownRefIdeal := by
  intro m g _
  hlo_run
  · exact fun _ => ⟨trivial, trivial, trivial⟩
  · exact sem_eq_zero_of_no_sems rfl _

/-- Call and reference end with the same product. -/
theorem same : Cert.algebraic_DownIdeal_DownRefIdeal := by
  pair_intro
  · run_from Cert.DownIdeal.Gen.run_main m g
  · hlo_run
    rw [final0]
    funext i
    pointwise [target, mul, onto]

end Cert.DownIdeal.Products
-- ==== Proof.InSame.lean ====
module

public import proofs.«01_k».proof.Defs
public import proofs.«01_k».proof.Proof.ProductSpec
public import proofs.«01_k».proof.Proof.Gen.InIdeal.Frame
public import proofs.«01_k».proof.Proof.Gen.InRefIdeal
public import Idealize.ShloMosaic.Lib.Claim
/-! # In: the mixer's first projection -/
@[expose] public section

set_option maxRecDepth 16384
noncomputable section
open Idealize.ShloMosaic Idealize.ShloMosaic.TcCoe Idealize.SL.Sem Cert.Products
namespace Cert.InIdeal.Products
open Cert.InIdeal Cert.InIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mul (a := 8192) (b := 1024) (d := 3072) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, mul]
  blk_point [iblk, V, idx t]
end

local instance : Cert.InIdeal.Facts := Cert.InIdeal.Gen.facts
local instance : Cert.InRefIdeal.Facts := Cert.InRefIdeal.Gen.facts

/-- The reference ends, keeps its arguments, and has no counters that could be left standing. -/
theorem frameR : Cert.quiescent_InRefIdeal := by
  intro m g _
  hlo_run
  · exact fun _ => ⟨trivial, trivial⟩
  · exact sem_eq_zero_of_no_sems rfl _

/-- Call and reference end with the same product. -/
theorem same : Cert.algebraic_InIdeal_InRefIdeal := by
  pair_intro
  · run_from Cert.InIdeal.Gen.run_main m g
  · hlo_run
    rw [final0]
    funext i
    pointwise [target, mul]

end Cert.InIdeal.Products
-- ==== Proof.OutSame.lean ====
module

public import proofs.«01_k».proof.Defs
public import proofs.«01_k».proof.Proof.ProductSpec
public import proofs.«01_k».proof.Proof.Gen.OutIdeal.Frame
public import proofs.«01_k».proof.Proof.Gen.OutRefIdeal
public import Idealize.ShloMosaic.Lib.Claim
/-! # Out: a square projection, on top of its residual -/
@[expose] public section

set_option maxRecDepth 16384
noncomputable section
open Idealize.ShloMosaic Idealize.ShloMosaic.TcCoe Idealize.SL.Sem Cert.Products
namespace Cert.OutIdeal.Products
open Cert.OutIdeal Cert.OutIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The product the call computes. -/
abbrev target := onto (a := 8192) (b := 1024) (m ((c : Thread nD τ).loc main_arg2)) (mul (a := 8192) (b := 1024) (d := 1024) (m ((c : Thread nD τ).loc main_arg0)) (m ((c : Thread nD τ).loc main_arg1)))

/-- Every tile the call writes is its part of the product, and the tiles fill the array. -/
theorem final0 : (dats m 0 c).arrAt 3 cfg0.N = target m c := by
  refine (dats m 0 c).arrAt_eq_of_covers 3 _ (by decide +kernel) fun t hf y => ?_
  blk_simp; rw [after0_3]; frame_out
  pointwise [k0_pay1, mul, onto]
  blk_point [iblk, V, idx t]
end

local instance : Cert.OutIdeal.Facts := Cert.OutIdeal.Gen.facts
local instance : Cert.OutRefIdeal.Facts := Cert.OutRefIdeal.Gen.facts

/-- The reference ends, keeps its arguments, and has no counters that could be left standing. -/
theorem frameR : Cert.quiescent_OutRefIdeal := by
  intro m g _
  hlo_run
  · exact fun _ => ⟨trivial, trivial, trivial⟩
  · exact sem_eq_zero_of_no_sems rfl _

/-- Call and reference end with the same product. -/
theorem same : Cert.algebraic_OutIdeal_OutRefIdeal := by
  pair_intro
  · run_from Cert.OutIdeal.Gen.run_main m g
  · hlo_run
    rw [final0]
    funext i
    pointwise [target, mul, onto]

end Cert.OutIdeal.Products
-- ==== Proof.KvSame.lean ====
module

public import proofs.«01_k».proof.Defs
public import proofs.«01_k».proof.Proof.ProductSpec
public import proofs.«01_k».proof.Proof.Gen.KvIdeal.Frame
public import proofs.«01_k».proof.Proof.Gen.KvRefIdeal
public import Idealize.ShloMosaic.Lib.Claim
/-! # Kv: the keys and values -/
@[expose] public section

set_option maxRecDepth 16384
noncomputable section
open Idealize.ShloMosaic Idealize.ShloMosaic.TcCoe Idealize.SL.Sem Cert.Products
namespace Cert.KvIdeal.Products
open Cert.KvIdeal Cert.KvIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mul (a := 8192) (b := 1024) (d := 2048) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, mul]
  blk_point [iblk, V, idx t]
end

local instance : Cert.KvIdeal.Facts := Cert.KvIdeal.Gen.facts
local instance : Cert.KvRefIdeal.Facts := Cert.KvRefIdeal.Gen.facts

/-- The reference ends, keeps its arguments, and has no counters that could be left standing. -/
theorem frameR : Cert.quiescent_KvRefIdeal := by
  intro m g _
  hlo_run
  · exact fun _ => ⟨trivial, trivial⟩
  · exact sem_eq_zero_of_no_sems rfl _

/-- Call and reference end with the same product. -/
theorem same : Cert.algebraic_KvIdeal_KvRefIdeal := by
  pair_intro
  · run_from Cert.KvIdeal.Gen.run_main m g
  · hlo_run
    rw [final0]
    funext i
    pointwise [target, mul]

end Cert.KvIdeal.Products
-- ==== Proof.QSame.lean ====
module

public import proofs.«01_k».proof.Defs
public import proofs.«01_k».proof.Proof.ProductSpec
public import proofs.«01_k».proof.Proof.Gen.QIdeal.Frame
public import proofs.«01_k».proof.Proof.Gen.QRefIdeal
public import Idealize.ShloMosaic.Lib.Claim
/-! # Q: the queries -/
@[expose] public section

set_option maxRecDepth 16384
noncomputable section
open Idealize.ShloMosaic Idealize.ShloMosaic.TcCoe Idealize.SL.Sem Cert.Products
namespace Cert.QIdeal.Products
open Cert.QIdeal Cert.QIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mul (a := 8192) (b := 1024) (d := 1024) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, mul]
  blk_point [iblk, V, idx t]
end

local instance : Cert.QIdeal.Facts := Cert.QIdeal.Gen.facts
local instance : Cert.QRefIdeal.Facts := Cert.QRefIdeal.Gen.facts

/-- The reference ends, keeps its arguments, and has no counters that could be left standing. -/
theorem frameR : Cert.quiescent_QRefIdeal := by
  intro m g _
  hlo_run
  · exact fun _ => ⟨trivial, trivial⟩
  · exact sem_eq_zero_of_no_sems rfl _

/-- Call and reference end with the same product. -/
theorem same : Cert.algebraic_QIdeal_QRefIdeal := by
  pair_intro
  · run_from Cert.QIdeal.Gen.run_main m g
  · hlo_run
    rw [final0]
    funext i
    pointwise [target, mul]

end Cert.QIdeal.Products
-- ==== Proof.DownDxTopSame.lean ====
module

public import proofs.«01_k».proof.Defs
public import proofs.«01_k».proof.Proof.ProductSpec
public import proofs.«01_k».proof.Proof.Gen.DownDxTopIdeal.Frame
public import proofs.«01_k».proof.Proof.Gen.DownDxTopRefIdeal
public import Idealize.ShloMosaic.Lib.Claim
/-! # DownDxTop: what the down-projection hands back to its input in the last layer -/
@[expose] public section

set_option maxRecDepth 16384
noncomputable section
open Idealize.ShloMosaic Idealize.ShloMosaic.TcCoe Idealize.SL.Sem Cert.Products
namespace Cert.DownDxTopIdeal.Products
open Cert.DownDxTopIdeal Cert.DownDxTopIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product the call computes. -/
abbrev target := mulT (a := 8192) (b := 1024) (d := 2816) (m ((c : Thread nD τ).loc main_arg0)) (m ((c : Thread nD τ).loc main_arg1))

/-- Every tile the call writes is its part of the product, and the tiles fill the array. -/
theorem final0 : (dats m 0 c).arrAt 2 cfg0.N = target m c := by
  refine (dats m 0 c).arrAt_eq_of_covers 2 _ (by decide +kernel) fun t hf y => ?_
  blk_simp; rw [after0_2]; frame_out
  pointwise [k0_pay1, mulT]
  blk_point [iblk, V, idx t]
end

local instance : Cert.DownDxTopIdeal.Facts := Cert.DownDxTopIdeal.Gen.facts
local instance : Cert.DownDxTopRefIdeal.Facts := Cert.DownDxTopRefIdeal.Gen.facts

/-- The reference ends, keeps its arguments, and has no counters that could be left standing. -/
theorem frameR : Cert.quiescent_DownDxTopRefIdeal := by
  intro m g _
  hlo_run
  · exact fun _ => ⟨trivial, trivial⟩
  · exact sem_eq_zero_of_no_sems rfl _

/-- Call and reference end with the same product. -/
theorem same : Cert.algebraic_DownDxTopIdeal_DownDxTopRefIdeal := by
  pair_intro
  · run_from Cert.DownDxTopIdeal.Gen.run_main m g
  · hlo_run
    rw [final0]
    funext i
    pointwise [target, mulT]

end Cert.DownDxTopIdeal.Products
-- ==== Proof.SiluSpec.lean ====
module

public import proofs.«01_k».proof.Proof.GateSpec
/-! # The causal convolution with a bias, and the gated unit behind it, row by row

Two sequences of 4096 positions lie one after the other in the 8192 rows. The functions say with plain numbers for rows and
columns what every entry is; they mention no program. -/
@[expose] public section

noncomputable section
open Idealize.ShloMosaic
namespace Cert.Silus

/-- The input, read `j` rows earlier; zero before the start of the sequence. -/
def Xs (X : ℕ → ℕ → EReal) (j n d : ℕ) : EReal := if n % 4096 < j then 0 else X (n - j) d

/-- The convolution with three taps and a bias. -/
def CV (X W : ℕ → ℕ → EReal) (b : ℕ → EReal) (n d : ℕ) : EReal :=
  W 0 d * Xs X 2 n d + W 1 d * Xs X 1 n d + W 2 d * Xs X 0 n d + b d

/-- The gated unit: the first 2816 columns gate the other 2816. -/
def GU (u : ℕ → ℕ → EReal) (n d : ℕ) : EReal := u n d * Ideal.logistic (u n d) * u n (2816 + d)

end Cert.Silus
-- ==== Proof.SiluGradSpec.lean ====
module

public import proofs.«01_k».proof.Proof.SiluSpec
/-! # The gradient of the causal convolution and of the gated unit behind it, row by row

The gated unit multiplies the first 2816 columns `g` of its input, times `σ g`, with the other 2816 columns `v`. Its gradient
runs backwards through the convolution. As for the forward pass, two sequences of 4096 positions lie one after the other in
the 8192 rows, and the functions mention no program. -/
@[expose] public section

noncomputable section
namespace Cert.Silus
open Idealize.ShloMosaic

/-- Gradient of the gated unit: the gates' columns, then the gated ones. -/
def DG (U A : ℕ → ℕ → EReal) (n e : ℕ) : EReal :=
  if e < 2816 then A n e * U n (2816 + e) * (Ideal.logistic (U n e) * (1 + U n e * (1 - Ideal.logistic (U n e))))
  else A n (e - 2816) * (U n (e - 2816) * Ideal.logistic (U n (e - 2816)))

/-- That gradient, read `j` rows later; zero after the end of the sequence. -/
def DUs (U A : ℕ → ℕ → EReal) (j n e : ℕ) : EReal := if 4096 ≤ n % 4096 + j then 0 else DG U A (n + j) e

/-- Gradient of the convolution's input. -/
def DX (U A W : ℕ → ℕ → EReal) (n e : ℕ) : EReal :=
  W 2 e * DUs U A 0 n e + W 1 e * DUs U A 1 n e + W 0 e * DUs U A 2 n e

/-- One row's share of the gradient of tap `k`. -/
def tapRow (X U A : ℕ → ℕ → EReal) (k n e : ℕ) : EReal := DUs U A 0 n e * Xs X (2 - k) n e

/-- No cotangent and no gated entry is an infinity. -/
structure Bounded (U A : ℕ → ℕ → EReal) : Prop where
  gated : ∀ n e, 2816 ≤ e → U n e ≠ ⊤ ∧ U n e ≠ ⊥
  cot : ∀ n e, A n e ≠ ⊤ ∧ A n e ≠ ⊥

/-- The gradient of the gate, written as a product and as the sum that the product rule gives. -/
theorem slope (a v g : EReal) (ha : a ≠ ⊤ ∧ a ≠ ⊥) (hv : v ≠ ⊤ ∧ v ≠ ⊥) :
    a * v * Ideal.logistic g + g * (a * v) * (Ideal.logistic g * (1 - Ideal.logistic g))
      = a * v * (Ideal.logistic g * (1 + g * (1 - Ideal.logistic g))) := by
  lift a to ℝ using ha
  lift v to ℝ using hv
  have one : (1 : EReal) - 1 = 0 := by rw [← EReal.coe_one, ← EReal.coe_sub, sub_self]; rfl
  induction g with
  | bot => simp [Ideal.logistic_bot]
  | top => simp [Ideal.logistic_top, one]
  | coe r => rw [Ideal.logistic_coe]; norm_cast; ring

end Cert.Silus
-- ==== Proof.SiluGradBlocks.lean ====
module

public import proofs.«01_k».proof.Proof.SiluGradSpec
public import proofs.«01_k».proof.Proof.Gen.SiluBwdIdeal.Value
public import Idealize.ShloMosaic.Lib.Pipeline.ValueKit
/-! # The gradient of the convolution and of the gated unit on one chunk of 256 columns of a tile -/
@[expose] public section

set_option maxRecDepth 16384
noncomputable section
open Idealize.ShloMosaic Idealize.SL.Sem
namespace Cert.SiluBwdIdeal.Rows
open Cert.SiluBwdIdeal Cert.SiluBwdIdeal.Gen Cert.Silus

/-- A tile's chunk, and the 16 rows of the next tile below it. -/
def below (c : Vec Ideal S256x256 .bf16) (n : Vec Ideal S16x256 .bf16) : FVec Ideal S272x256 .f32 :=
  extf .f32 (concatenate S272x256 0 [⟨S256x256, c⟩, ⟨S16x256, n⟩] concatenates_S256x256_S16x256_S272x256_d0 : FVec Ideal S272x256 .bf16) bitsLt_bf16_f32

/-- The same for the cotangent, which ends with the sequence. -/
def ahead (last : BitVec 1) (c : Vec Ideal S256x256 .bf16) (n : Vec Ideal S16x256 .bf16) : FVec Ideal S272x256 .f32 :=
  concatenate S272x256 0 [⟨S256x256, extf .f32 c bitsLt_bf16_f32⟩,
    ⟨S16x256, Scalar.select last (broadcast S16x256 (Scalar.ofBits .f32 0x00000000#32)) (extf .f32 n bitsLt_bf16_f32)⟩] concatenates_S256x256_S16x256_S272x256_d0

/-- A tile's chunk below the 16 rows of the tile before it. -/
def stacked (first : BitVec 1) (h : Vec Ideal S16x256 .bf16) (x : Vec Ideal S256x256 .bf16) : FVec Ideal S272x256 .f32 :=
  concatenate S272x256 0 [⟨S16x256, Scalar.select first (broadcast S16x256 (Scalar.ofBits .f32 0x00000000#32)) (extf .f32 h bitsLt_bf16_f32)⟩,
    ⟨S256x256, extf .f32 x bitsLt_bf16_f32⟩] concatenates_S16x256_S256x256_S272x256_d0

/-- The logistic function, as the body writes it. -/
def sigma (g : FVec Ideal S272x256 .f32) : FVec Ideal S272x256 .f32 :=
  divf (broadcast S272x256 (Scalar.ofBits .f32 0x3F800000#32))
    (addf (broadcast S272x256 (Scalar.ofBits .f32 0x3F800000#32)) (exp (subf (broadcast S272x256 (Scalar.ofBits .f32 0x00000000#32)) g)))

/-- The gradient of the gate. -/
def dueG (a g v : FVec Ideal S272x256 .f32) : FVec Ideal S272x256 .f32 :=
  mulf (mulf a v) (mulf (sigma g) (addf (broadcast S272x256 (Scalar.ofBits .f32 0x3F800000#32))
    (mulf g (subf (broadcast S272x256 (Scalar.ofBits .f32 0x3F800000#32)) (sigma g)))))

/-- The gradient of what is gated. -/
def dueV (a g : FVec Ideal S272x256 .f32) : FVec Ideal S272x256 .f32 := mulf a (mulf g (sigma g))

/-- Back through the convolution. -/
def backT (p q s : Vec Ideal S1x256 .f32) (Z : FVec Ideal S272x256 .f32) : FVec Ideal S256x256 .bf16 :=
  truncf .bf16 (extractStridedSlice S256x256 ![0, 0] (addf (addf
    (mulf (broadcastTo S272x256 s broadcasts_S1x256_S272x256) Z)
    (mulf (broadcastTo S272x256 q broadcasts_S1x256_S272x256) (dynamicRotate 0 271#32 none Z rotates_S272x256_d0)))
    (mulf (broadcastTo S272x256 p broadcasts_S1x256_S272x256) (dynamicRotate 0 270#32 none Z rotates_S272x256_d0))) slices_S272x256_o0_0_S256x256) bitsLt_bf16_f32

/-- What a tile adds to a row of the taps' gradient. -/
def rowAdd (z : Vec Ideal S1x256 .f32) (Z Y : FVec Ideal S272x256 .f32) : FVec Ideal S1x256 .f32 :=
  addf (shapeCast S1x256 z shapeCasts_S1x256_S1x256)
    (shapeCast S1x256 (multiReduction .add [0] S256
      (mulf (extractStridedSlice S256x256 ![0, 0] Z slices_S272x256_o0_0_S256x256)
        (extractStridedSlice S256x256 ![16, 0] Y slices_S272x256_o16_0_S256x256)) 0x00000000#32 reduces_S256x256_S256 (.inl rfl) rfl : FVec Ideal S256 .f32)
      shapeCasts_S256_S1x256)

/-- What a tile adds to the bias' gradient. -/
def rowSum (z : Vec Ideal S1x256 .f32) (Z : FVec Ideal S272x256 .f32) : FVec Ideal S1x256 .f32 :=
  addf (shapeCast S1x256 z shapeCasts_S1x256_S1x256)
    (shapeCast S1x256 (multiReduction .add [0] S256
      (extractStridedSlice S256x256 ![0, 0] Z slices_S272x256_o0_0_S256x256) 0x00000000#32 reduces_S256x256_S256 (.inl rfl) rfl : FVec Ideal S256 .f32)
      shapeCasts_S256_S1x256)

/-- The blocks of tile `t` are the rows of the arguments that belong to it. -/
structure Tile (t : ℕ) (X U A W : ℕ → ℕ → EReal) (x0 : Vec Ideal S256x5632 .bf16) (x1 : Vec Ideal S16x5632 .bf16)
    (x2 : Vec Ideal S256x5632 .bf16) (x3 : Vec Ideal S16x5632 .bf16) (x4 : Vec Ideal S256x2816 .bf16) (x5 : Vec Ideal S16x2816 .bf16)
    (x6 : Vec Ideal S3x5632 .f32) : Prop where
  cur : ∀ (a : Fin 256) (e : Fin 5632), x0 (ix2 a e) = X (256 * t + a) e
  prev : t % 16 ≠ 0 → ∀ (a : Fin 16) (e : Fin 5632), x1 (ix2 a e) = X (256 * t + a - 16) e
  gate : ∀ (a : Fin 256) (e : Fin 5632), x2 (ix2 a e) = U (256 * t + a) e
  gateNext : t % 16 ≠ 15 → ∀ (a : Fin 16) (e : Fin 5632), x3 (ix2 a e) = U (256 * t + 256 + a) e
  ct : ∀ (a : Fin 256) (e : Fin 2816), x4 (ix2 a e) = A (256 * t + a) e
  ctNext : t % 16 ≠ 15 → ∀ (a : Fin 16) (e : Fin 2816), x5 (ix2 a e) = A (256 * t + 256 + a) e
  taps : ∀ (k : Fin 3) (e : Fin 5632), x6 (ix2 k e) = W k e

/-- A chunk of columns lies within its matrix. -/
theorem inside {n k r w off : ℕ} (h : off + 256 ≤ w) (hr : k + r ≤ n) :
    ∀ a : Fin 2, (![k, off] : Fin 2 → ℕ) a + (![r, 256] : Fin 2 → ℕ) a ≤ (![n, w] : Fin 2 → ℕ) a
  | 0 => hr
  | 1 => h

/-- The chunk of 256 columns at `off`. -/
abbrev ck {φ : EltTy} {n w : ℕ} (r k : ℕ) (P : Vec Ideal (⟨2, ![n, w]⟩ : Shape) φ) (off : ℕ) (h : off + 256 ≤ w) (hr : k + r ≤ n) :
    Vec Ideal (⟨2, ![r, 256]⟩ : Shape) φ :=
  View.ld P (Rect.unit (s := ⟨2, ![n, w]⟩) ![k, off] ![r, 256] (inside h hr))

theorem ck_at {φ : EltTy} {n w : ℕ} (r k : ℕ) (P : Vec Ideal (⟨2, ![n, w]⟩ : Shape) φ) (off : ℕ) (h : off + 256 ≤ w) (hr : k + r ≤ n)
    (p : Fin r) (d : Fin 256) :
    ck r k P off h hr (ix2 p d) = P (ix2 ⟨k + p, by have := p.2; omega⟩ ⟨off + d, by have := d.2; omega⟩) := by
  refine View.ld_unit_apply_of P _ _ _ _ _ fun a => ?_
  match a with
  | ⟨0, _⟩ => rfl
  | ⟨1, _⟩ => rfl

variable {t : ℕ} {X U A W : ℕ → ℕ → EReal} {x0 : Vec Ideal S256x5632 .bf16} {x1 : Vec Ideal S16x5632 .bf16}
  {x2 : Vec Ideal S256x5632 .bf16} {x3 : Vec Ideal S16x5632 .bf16} {x4 : Vec Ideal S256x2816 .bf16} {x5 : Vec Ideal S16x2816 .bf16}
  {x6 : Vec Ideal S3x5632 .f32}

/-- The chunk of the gated unit's input, and what follows it. -/
abbrev uC (x2 : Vec Ideal S256x5632 .bf16) (x3 : Vec Ideal S16x5632 .bf16) (off : ℕ) (h : off + 256 ≤ 5632) : FVec Ideal S272x256 .f32 :=
  below (ck (n := 256) (w := 5632) 256 0 x2 off h (by omega)) (ck (n := 16) (w := 5632) 16 0 x3 off h (by omega))
/-- The chunk of the cotangent, and what follows it. -/
abbrev aC (last : BitVec 1) (x4 : Vec Ideal S256x2816 .bf16) (x5 : Vec Ideal S16x2816 .bf16) (off : ℕ) (h : off + 256 ≤ 2816) : FVec Ideal S272x256 .f32 :=
  ahead last (ck (n := 256) (w := 2816) 256 0 x4 off h (by omega)) (ck (n := 16) (w := 2816) 16 0 x5 off h (by omega))
/-- The chunk of the convolution's input, and what precedes it. -/
abbrev xC (first : BitVec 1) (x0 : Vec Ideal S256x5632 .bf16) (x1 : Vec Ideal S16x5632 .bf16) (off : ℕ) (h : off + 256 ≤ 5632) : FVec Ideal S272x256 .f32 :=
  stacked first (ck (n := 16) (w := 5632) 16 0 x1 off h (by omega)) (ck (n := 256) (w := 5632) 256 0 x0 off h (by omega))
/-- The chunk of a tap. -/
abbrev wC (x6 : Vec Ideal S3x5632 .f32) (k : ℕ) (hk : k + 1 ≤ 3) (off : ℕ) (h : off + 256 ≤ 5632) : Vec Ideal S1x256 .f32 :=
  ck (n := 3) (w := 5632) 1 k x6 off h hk

/-- The gates' chunk, and the gated one, of the gradient. -/
def ZG (last : BitVec 1) (x2 : Vec Ideal S256x5632 .bf16) (x3 : Vec Ideal S16x5632 .bf16) (x4 : Vec Ideal S256x2816 .bf16) (x5 : Vec Ideal S16x2816 .bf16)
    (off : ℕ) (h : off + 256 ≤ 2816) : FVec Ideal S272x256 .f32 :=
  dueG (aC last x4 x5 off h) (uC x2 x3 off (by omega)) (uC x2 x3 (2816 + off) (by omega))
def ZV (last : BitVec 1) (x2 : Vec Ideal S256x5632 .bf16) (x3 : Vec Ideal S16x5632 .bf16) (x4 : Vec Ideal S256x2816 .bf16) (x5 : Vec Ideal S16x2816 .bf16)
    (off : ℕ) (h : off + 256 ≤ 2816) : FVec Ideal S272x256 .f32 :=
  dueV (aC last x4 x5 off h) (uC x2 x3 off (by omega))

theorem uC_at (T : Tile t X U A W x0 x1 x2 x3 x4 x5 x6) (off : ℕ) (h : off + 256 ≤ 5632) (r : Fin 272) (d : Fin 256)
    (hr : (r : ℕ) < 256 ∨ t % 16 ≠ 15) : uC x2 x3 off h (ix2 r d) = U (256 * t + r) (off + d) := by
  generalize hC : ck (n := 256) (w := 5632) 256 0 x2 off h (by omega) = C
  generalize hN : ck (n := 16) (w := 5632) 16 0 x3 off h (by omega) = N
  pointwise [below]
  by_cases h' : (r : ℕ) < 256
  · refine (dif_pos h').trans ?_
    subst hC
    refine (ck_at 256 0 x2 off h (by omega) ⟨r, h'⟩ d).trans ((T.gate _ _).trans ?_)
    exact congrArg₂ U (by show 256 * t + (0 + (r : ℕ)) = _; omega) rfl
  · refine (dif_neg h').trans ?_
    subst hN
    refine (ck_at 16 0 x3 off h (by omega) ⟨(r : ℕ) - 256, by omega⟩ d).trans ((T.gateNext (by omega) _ _).trans ?_)
    exact congrArg₂ U (by show 256 * t + 256 + (0 + ((r : ℕ) - 256)) = _; omega) rfl

theorem aC_at (T : Tile t X U A W x0 x1 x2 x3 x4 x5 x6) (last : BitVec 1) (hl : last = if t % 16 = 15 then 1#1 else 0#1) (off : ℕ)
    (h : off + 256 ≤ 2816) (r : Fin 272) (d : Fin 256) :
    aC last x4 x5 off h (ix2 r d) = if 256 ≤ (r : ℕ) ∧ t % 16 = 15 then 0 else A (256 * t + r) (off + d) := by
  generalize hC : ck (n := 256) (w := 2816) 256 0 x4 off h (by omega) = C
  generalize hN : ck (n := 16) (w := 2816) 16 0 x5 off h (by omega) = N
  pointwise [ahead]
  rw [hl]
  by_cases h' : (r : ℕ) < 256
  · refine (dif_pos h').trans (Eq.trans ?_ (if_neg (by omega)).symm)
    subst hC
    refine (ck_at 256 0 x4 off h (by omega) ⟨r, h'⟩ d).trans ((T.ct _ _).trans ?_)
    exact congrArg₂ A (by show 256 * t + (0 + (r : ℕ)) = _; omega) rfl
  · refine (dif_neg h').trans ?_
    by_cases ht : t % 16 = 15
    · rw [if_pos ht]; exact (if_pos (by omega)).symm
    · rw [if_neg ht]
      refine Eq.trans ?_ (if_neg (by omega)).symm
      subst hN
      refine (ck_at 16 0 x5 off h (by omega) ⟨(r : ℕ) - 256, by omega⟩ d).trans ((T.ctNext ht _ _).trans ?_)
      exact congrArg₂ A (by show 256 * t + 256 + (0 + ((r : ℕ) - 256)) = _; omega) rfl

theorem sigma_at (g : FVec Ideal S272x256 .f32) (i : S272x256.Idx) : sigma g i = Ideal.logistic (g i) := by
  pointwise [sigma, Ideal.logistic]
  rw [zero_sub]

theorem ZG_at (T : Tile t X U A W x0 x1 x2 x3 x4 x5 x6) (last : BitVec 1) (hl : last = if t % 16 = 15 then 1#1 else 0#1) (off : ℕ)
    (h : off + 256 ≤ 2816) (j : ℕ) (hj : j ≤ 2) (a : Fin 256) (r : Fin 272) (hr : (r : ℕ) = a + j) (d : Fin 256) :
    ZG last x2 x3 x4 x5 off h (ix2 r d) = DUs U A j (256 * t + a) (off + d) := by
  have ha := a.2
  have hd := d.2
  have e : ∀ P Q R : FVec Ideal S272x256 .f32, dueG P Q R (ix2 r d)
      = P (ix2 r d) * R (ix2 r d) * (Ideal.logistic (Q (ix2 r d)) * (1 + Q (ix2 r d) * (1 - Ideal.logistic (Q (ix2 r d))))) := by
    intro P Q R
    rw [← sigma_at]
    unfold dueG
    generalize sigma Q = S
    pointwise
  unfold ZG
  rw [e, aC_at T last hl]
  unfold DUs
  by_cases hb : 256 ≤ (r : ℕ) ∧ t % 16 = 15
  · rw [if_pos hb, if_pos (by omega), zero_mul, zero_mul]
  · rw [if_neg hb, if_neg (by omega), uC_at T off _ r d (by omega), uC_at T (2816 + off) _ r d (by omega)]
    unfold DG
    rw [if_pos (by omega), hr, Nat.add_assoc 2816, Nat.add_assoc (256 * t)]

theorem ZV_at (T : Tile t X U A W x0 x1 x2 x3 x4 x5 x6) (last : BitVec 1) (hl : last = if t % 16 = 15 then 1#1 else 0#1) (off : ℕ)
    (h : off + 256 ≤ 2816) (j : ℕ) (hj : j ≤ 2) (a : Fin 256) (r : Fin 272) (hr : (r : ℕ) = a + j) (d : Fin 256) :
    ZV last x2 x3 x4 x5 off h (ix2 r d) = DUs U A j (256 * t + a) (2816 + off + d) := by
  have ha := a.2
  have hd := d.2
  have e : ∀ P Q : FVec Ideal S272x256 .f32, dueV P Q (ix2 r d)
      = P (ix2 r d) * (Q (ix2 r d) * Ideal.logistic (Q (ix2 r d))) := by
    intro P Q
    rw [← sigma_at]
    unfold dueV
    generalize sigma Q = S
    pointwise
  unfold ZV
  rw [e, aC_at T last hl]
  unfold DUs
  by_cases hb : 256 ≤ (r : ℕ) ∧ t % 16 = 15
  · rw [if_pos hb, if_pos (by omega), zero_mul]
  · rw [if_neg hb, if_neg (by omega), uC_at T off _ r d (by omega)]
    unfold DG
    rw [if_neg (by omega), hr, show 2816 + off + (d : ℕ) - 2816 = off + d by omega, Nat.add_assoc (256 * t)]

theorem xC_at (T : Tile t X U A W x0 x1 x2 x3 x4 x5 x6) (first : BitVec 1) (hf : first = if t % 16 = 0 then 1#1 else 0#1) (off : ℕ)
    (h : off + 256 ≤ 5632) (j : ℕ) (hj : j ≤ 2) (a : Fin 256) (r : Fin 272) (hr : (r : ℕ) + j = 16 + a) (d : Fin 256) :
    xC first x0 x1 off h (ix2 r d) = Xs X j (256 * t + a) (off + d) := by
  have ha := a.2
  have hd := d.2
  generalize hH : ck (n := 16) (w := 5632) 16 0 x1 off h (by omega) = H
  generalize hC : ck (n := 256) (w := 5632) 256 0 x0 off h (by omega) = C
  unfold Xs
  pointwise [stacked]
  rw [hf]
  by_cases h' : (r : ℕ) < 16
  · refine (dif_pos h').trans ?_
    by_cases ht : t % 16 = 0
    · rw [if_pos ht]; exact (if_pos (by omega)).symm
    · rw [if_neg ht]
      refine Eq.trans ?_ (if_neg (by omega)).symm
      subst hH
      refine (ck_at 16 0 x1 off h (by omega) ⟨r, h'⟩ d).trans ((T.prev ht _ _).trans ?_)
      exact congrArg₂ X (by show 256 * t + (0 + (r : ℕ)) - 16 = _; omega) rfl
  · refine (dif_neg h').trans (Eq.trans ?_ (if_neg (by omega)).symm)
    subst hC
    refine (ck_at 256 0 x0 off h (by omega) ⟨(r : ℕ) - 16, by omega⟩ d).trans ((T.cur _ _).trans ?_)
    exact congrArg₂ X (by show 256 * t + (0 + ((r : ℕ) - 16)) = _; omega) rfl

theorem wC_at (T : Tile t X U A W x0 x1 x2 x3 x4 x5 x6) (k : ℕ) (hk : k + 1 ≤ 3) (off : ℕ) (h : off + 256 ≤ 5632) (d : Fin 256) :
    wC x6 k hk off h (ix2 0 d) = W k (off + d) :=
  (ck_at 1 k x6 off h hk 0 d).trans (T.taps _ _)

/-- A chunk `Z` of the gradient, row by row. -/
def Due (t : ℕ) (U A : ℕ → ℕ → EReal) (off : ℕ) (Z : FVec Ideal S272x256 .f32) : Prop :=
  ∀ (j : ℕ) (hj : j ≤ 2) (a : Fin 256) (r : Fin 272) (hr : (r : ℕ) = a + j) (d : Fin 256), Z (ix2 r d) = DUs U A j (256 * t + a) (off + d)

theorem back_at (T : Tile t X U A W x0 x1 x2 x3 x4 x5 x6) (off : ℕ) (h : off + 256 ≤ 5632) (Z : FVec Ideal S272x256 .f32)
    (hZ : Due t U A off Z) (a : Fin 256) (d : Fin 256) :
    backT (wC x6 0 (by omega) off h) (wC x6 1 (by omega) off h) (wC x6 2 (by omega) off h) Z (ix2 a d) = DX U A W (256 * t + a) (off + d) := by
  have ha := a.2
  have e : ∀ p q s, backT p q s Z (ix2 a d) = s (ix2 0 d) * Z (ix2 ⟨(a : ℕ), by omega⟩ d)
      + q (ix2 0 d) * Z (ix2 ⟨((a : ℕ) + 272 - 271) % 272, by omega⟩ d) + p (ix2 0 d) * Z (ix2 ⟨((a : ℕ) + 272 - 270) % 272, by omega⟩ d) := by
    intro p q s
    pointwise [backT]
  rw [e, hZ 0 (by omega) a _ rfl d, hZ 1 (by omega) a _ (by simp only []; omega) d, hZ 2 (by omega) a _ (by simp only []; omega) d,
    wC_at T, wC_at T, wC_at T]
  rfl

theorem rowAdd_at (z : Vec Ideal S1x256 .f32) (Z Y : FVec Ideal S272x256 .f32) (p : Fin 1) (d : Fin 256) :
    rowAdd z Z Y (ix2 p d) = z (ix2 p d) + ∑ a : Fin 256, Z (ix2 ⟨a, by omega⟩ d) * Y (ix2 ⟨16 + a, by omega⟩ d) := by
  pointwise [rowAdd]

theorem rowSum_at (z : Vec Ideal S1x256 .f32) (Z : FVec Ideal S272x256 .f32) (p : Fin 1) (d : Fin 256) :
    rowSum z Z (ix2 p d) = z (ix2 p d) + ∑ a : Fin 256, Z (ix2 ⟨a, by omega⟩ d) := by
  pointwise [rowSum]

/-- The tile's share in the gradient of each tap. -/
def part (X U A : ℕ → ℕ → EReal) (t k e : ℕ) : EReal := ∑ a : Fin 256, tapRow X U A k (256 * t + a) e
/-- The tile's share in the gradient of the bias. -/
def share (U A : ℕ → ℕ → EReal) (t e : ℕ) : EReal := ∑ a : Fin 256, DUs U A 0 (256 * t + a) e

theorem tap0 (T : Tile t X U A W x0 x1 x2 x3 x4 x5 x6) (first : BitVec 1) (hf : first = if t % 16 = 0 then 1#1 else 0#1) (off : ℕ)
    (h : off + 256 ≤ 5632) (Z : FVec Ideal S272x256 .f32) (hZ : Due t U A off Z) (z : Vec Ideal S1x256 .f32) (p : Fin 1) (d : Fin 256) :
    rowAdd z Z (dynamicRotate 0 2#32 none (xC first x0 x1 off h) rotates_S272x256_d0) (ix2 p d) = z (ix2 p d) + part X U A t 0 (off + d) := by
  have e := fun (a : Fin 256) r hr => xC_at T first hf off h 2 (by omega) a r hr d
  rw [rowAdd_at]
  refine congrArg (z (ix2 p d) + ·) (Fin.sum_fin_congr fun a => congrArg₂ (· * ·) (hZ 0 (by omega) a _ rfl d) ?_)
  generalize xC first x0 x1 off h = Y at e ⊢
  have ha := a.2
  refine Eq.trans ?_ (e a ⟨(16 + (a : ℕ) + 272 - 2) % 272, by omega⟩ (by simp only []; omega))
  pointwise
theorem tap1 (T : Tile t X U A W x0 x1 x2 x3 x4 x5 x6) (first : BitVec 1) (hf : first = if t % 16 = 0 then 1#1 else 0#1) (off : ℕ)
    (h : off + 256 ≤ 5632) (Z : FVec Ideal S272x256 .f32) (hZ : Due t U A off Z) (z : Vec Ideal S1x256 .f32) (p : Fin 1) (d : Fin 256) :
    rowAdd z Z (dynamicRotate 0 1#32 none (xC first x0 x1 off h) rotates_S272x256_d0) (ix2 p d) = z (ix2 p d) + part X U A t 1 (off + d) := by
  have e := fun (a : Fin 256) r hr => xC_at T first hf off h 1 (by omega) a r hr d
  rw [rowAdd_at]
  refine congrArg (z (ix2 p d) + ·) (Fin.sum_fin_congr fun a => congrArg₂ (· * ·) (hZ 0 (by omega) a _ rfl d) ?_)
  generalize xC first x0 x1 off h = Y at e ⊢
  have ha := a.2
  refine Eq.trans ?_ (e a ⟨(16 + (a : ℕ) + 272 - 1) % 272, by omega⟩ (by simp only []; omega))
  pointwise
theorem tap2 (T : Tile t X U A W x0 x1 x2 x3 x4 x5 x6) (first : BitVec 1) (hf : first = if t % 16 = 0 then 1#1 else 0#1) (off : ℕ)
    (h : off + 256 ≤ 5632) (Z : FVec Ideal S272x256 .f32) (hZ : Due t U A off Z) (z : Vec Ideal S1x256 .f32) (p : Fin 1) (d : Fin 256) :
    rowAdd z Z (xC first x0 x1 off h) (ix2 p d) = z (ix2 p d) + part X U A t 2 (off + d) := by
  rw [rowAdd_at]
  exact congrArg (z (ix2 p d) + ·) (Fin.sum_fin_congr fun a => congrArg₂ (· * ·) (hZ 0 (by omega) a _ rfl d)
    (xC_at T first hf off h 0 (by omega) a _ rfl d))
theorem bias (off : ℕ) (Z : FVec Ideal S272x256 .f32) (hZ : Due t U A off Z) (z : Vec Ideal S1x256 .f32) (p : Fin 1) (d : Fin 256) :
    rowSum z Z (ix2 p d) = z (ix2 p d) + share U A t (off + d) := by
  rw [rowSum_at]
  exact congrArg (z (ix2 p d) + ·) (Fin.sum_fin_congr fun a => hZ 0 (by omega) a _ rfl d)

end Cert.SiluBwdIdeal.Rows
-- ==== Proof.SiluGradTiles.lean ====
module

public import proofs.«01_k».proof.Proof.SiluGradBlocks
public import Idealize.ShloMosaic.Lib.Pipeline.ReadBack
/-! # The gradient of the convolution and of the gated unit: what each store of a tile leaves -/
@[expose] public section

set_option maxRecDepth 16384
noncomputable section
open Idealize.ShloMosaic Idealize.ShloMosaic.TcCoe Idealize.SL.Sem
namespace Cert.SiluBwdIdeal.Rows
open Cert.SiluBwdIdeal Cert.SiluBwdIdeal.Gen Cert.Silus
open Cert.Gate (flat flat_of)

/-- Stores that cover an entry hide what was stored there before. -/
theorem canon_over {S : Shape} {e : EltTy} (M : List (View.Piece (Elt Ideal) S e)) (y : S.Idx) :
    ∀ L : List (View.Piece (Elt Ideal) S e), (∃ p ∈ L, y ∈ p.1.set) → View.canon (L ++ M) y = View.canon L y
  | [], h => by obtain ⟨_, h, _⟩ := h; exact absurd h List.not_mem_nil
  | p :: L, h => by
    show View.canon (p :: (L ++ M)) y = View.canon (p :: L) y
    by_cases hy : y ∈ p.1.set
    · obtain ⟨r, w⟩ := p
      obtain ⟨x, rfl⟩ : ∃ x, r.emb x = y := r.exists_idx_of_mem hy
      rw [View.canon_cons_emb, View.canon_cons_emb]
    · rw [View.canon_cons_of_not_mem p _ hy, View.canon_cons_of_not_mem p _ hy]
      refine canon_over M y L ?_
      obtain ⟨q, hq, hs⟩ := h
      rcases List.mem_cons.mp hq with rfl | hq
      · exact absurd hs hy
      · exact ⟨q, hq, hs⟩

variable {t : ℕ} {X U A W : ℕ → ℕ → EReal} {x0 : Vec Ideal S256x5632 .bf16} {x1 : Vec Ideal S16x5632 .bf16}
  {x2 : Vec Ideal S256x5632 .bf16} {x3 : Vec Ideal S16x5632 .bf16} {x4 : Vec Ideal S256x2816 .bf16} {x5 : Vec Ideal S16x2816 .bf16}
  {x6 : Vec Ideal S3x5632 .f32}

theorem dueG_of (T : Tile t X U A W x0 x1 x2 x3 x4 x5 x6) (last : BitVec 1) (hl : last = if t % 16 = 15 then 1#1 else 0#1) (off : ℕ)
    (h : off + 256 ≤ 2816) : Due t U A off (ZG last x2 x3 x4 x5 off h) := fun j hj a r hr d => ZG_at T last hl off h j hj a r hr d

theorem dueV_of (T : Tile t X U A W x0 x1 x2 x3 x4 x5 x6) (last : BitVec 1) (hl : last = if t % 16 = 15 then 1#1 else 0#1) (off off' : ℕ)
    (h : off + 256 ≤ 2816) (ho : off' = 2816 + off) : Due t U A off' (ZV last x2 x3 x4 x5 off h) := by
  subst ho
  exact fun j hj a r hr d => ZV_at T last hl off h j hj a r hr d

section
variable (T : Tile t X U A W x0 x1 x2 x3 x4 x5 x6) (first last : BitVec 1) (hf : first = if t % 16 = 0 then 1#1 else 0#1)
  (hl : last = if t % 16 = 15 then 1#1 else 0#1)
include T hl

/-- Stores into the gradient of the convolution's input. -/
theorem dxG (off : ℕ) (h : off + 256 ≤ 2816) (a : Fin 256) (d : Fin 256) :
    backT (wC x6 0 (by omega) off (by omega)) (wC x6 1 (by omega) off (by omega)) (wC x6 2 (by omega) off (by omega)) (ZG last x2 x3 x4 x5 off h) (ix2 a d)
      = DX U A W (256 * t + a) (off + d) := back_at T off (by omega) _ (dueG_of T last hl off h) a d
theorem dxV (off off' : ℕ) (h : off + 256 ≤ 2816) (ho : off' = 2816 + off) (a : Fin 256) (d : Fin 256) :
    backT (wC x6 0 (by omega) off' (by omega)) (wC x6 1 (by omega) off' (by omega)) (wC x6 2 (by omega) off' (by omega)) (ZV last x2 x3 x4 x5 off h) (ix2 a d)
      = DX U A W (256 * t + a) (off' + d) := back_at T off' (by omega) _ (dueV_of T last hl off off' h ho) a d

/-- Stores into the gradient of the bias. -/
theorem dbG (off : ℕ) (h : off + 256 ≤ 2816) (z : Vec Ideal S1x256 .f32) (p : Fin 1) (d : Fin 256) :
    rowSum z (ZG last x2 x3 x4 x5 off h) (ix2 p d) = z (ix2 p d) + share U A t (off + d) := bias off _ (dueG_of T last hl off h) z p d
theorem dbV (off off' : ℕ) (h : off + 256 ≤ 2816) (ho : off' = 2816 + off) (z : Vec Ideal S1x256 .f32) (p : Fin 1) (d : Fin 256) :
    rowSum z (ZV last x2 x3 x4 x5 off h) (ix2 p d) = z (ix2 p d) + share U A t (off' + d) := bias off' _ (dueV_of T last hl off off' h ho) z p d

include hf
/-- Stores into the gradient of the taps. -/
theorem dw0G (off : ℕ) (h : off + 256 ≤ 2816) (z : Vec Ideal S1x256 .f32) (p : Fin 1) (d : Fin 256) :
    rowAdd z (ZG last x2 x3 x4 x5 off h) (dynamicRotate 0 2#32 none (xC first x0 x1 off (by omega)) rotates_S272x256_d0) (ix2 p d)
      = z (ix2 p d) + part X U A t 0 (off + d) := tap0 T first hf off (by omega) _ (dueG_of T last hl off h) z p d
theorem dw1G (off : ℕ) (h : off + 256 ≤ 2816) (z : Vec Ideal S1x256 .f32) (p : Fin 1) (d : Fin 256) :
    rowAdd z (ZG last x2 x3 x4 x5 off h) (dynamicRotate 0 1#32 none (xC first x0 x1 off (by omega)) rotates_S272x256_d0) (ix2 p d)
      = z (ix2 p d) + part X U A t 1 (off + d) := tap1 T first hf off (by omega) _ (dueG_of T last hl off h) z p d
theorem dw2G (off : ℕ) (h : off + 256 ≤ 2816) (z : Vec Ideal S1x256 .f32) (p : Fin 1) (d : Fin 256) :
    rowAdd z (ZG last x2 x3 x4 x5 off h) (xC first x0 x1 off (by omega)) (ix2 p d)
      = z (ix2 p d) + part X U A t 2 (off + d) := tap2 T first hf off (by omega) _ (dueG_of T last hl off h) z p d
theorem dw0V (off off' : ℕ) (h : off + 256 ≤ 2816) (ho : off' = 2816 + off) (z : Vec Ideal S1x256 .f32) (p : Fin 1) (d : Fin 256) :
    rowAdd z (ZV last x2 x3 x4 x5 off h) (dynamicRotate 0 2#32 none (xC first x0 x1 off' (by omega)) rotates_S272x256_d0) (ix2 p d)
      = z (ix2 p d) + part X U A t 0 (off' + d) := tap0 T first hf off' (by omega) _ (dueV_of T last hl off off' h ho) z p d
theorem dw1V (off off' : ℕ) (h : off + 256 ≤ 2816) (ho : off' = 2816 + off) (z : Vec Ideal S1x256 .f32) (p : Fin 1) (d : Fin 256) :
    rowAdd z (ZV last x2 x3 x4 x5 off h) (dynamicRotate 0 1#32 none (xC first x0 x1 off' (by omega)) rotates_S272x256_d0) (ix2 p d)
      = z (ix2 p d) + part X U A t 1 (off' + d) := tap1 T first hf off' (by omega) _ (dueV_of T last hl off off' h ho) z p d
theorem dw2V (off off' : ℕ) (h : off + 256 ≤ 2816) (ho : off' = 2816 + off) (z : Vec Ideal S1x256 .f32) (p : Fin 1) (d : Fin 256) :
    rowAdd z (ZV last x2 x3 x4 x5 off h) (xC first x0 x1 off' (by omega)) (ix2 p d)
      = z (ix2 p d) + part X U A t 2 (off' + d) := tap2 T first hf off' (by omega) _ (dueV_of T last hl off off' h ho) z p d
end

/-- Reading one chunk of a row. -/
theorem row_of {n : ℕ} (P : Vec Ideal (⟨2, ![n, 5632]⟩ : Shape) .f32) (k off : ℕ) (inb) (p : Fin 1) (d : Fin 256) (y : (⟨2, ![n, 5632]⟩ : Shape).Idx) (h0 : (y 0 : ℕ) = k)
    (h1 : (y 1 : ℕ) = off + d) : View.ld P (Rect.unit ![k, off] ![1, 256] inb) (ix2 p d) = P y := by
  refine View.ld_unit_apply_of P _ _ inb _ y fun a => ?_
  match a with
  | ⟨0, _⟩ => show (y 0 : ℕ) = k + p; have := p.2; omega
  | ⟨1, _⟩ => exact h1

/-- The accumulators start from zero. -/
theorem fill8 (r : Rect S3x5632) (i : r.shape.Idx) : View.ld (Val := Elt Ideal) (e' := EltTy.f32) (k0_pay4 (F := Ideal)) r i = 0 := by
  show k0_pay4 (F := Ideal) _ = 0
  pointwise [k0_pay4]
theorem fill9 (r : Rect S1x5632) (i : r.shape.Idx) : View.ld (Val := Elt Ideal) (e' := EltTy.f32) (k0_pay5 (F := Ideal)) r i = 0 := by
  show k0_pay5 (F := Ideal) _ = 0
  pointwise [k0_pay5]

/-- Adding to what was there, and to zero. -/
theorem onto {a z b w : EReal} (h : a = z + b) (hz : z = w) : a = w + b := by rw [h, hz]
theorem onto0 {a z b : EReal} (h : a = z + b) (hz : z = 0) : a = b := by rw [h, hz, zero_add]

/-- The test "first tile of a sequence", and "last tile of a sequence". -/
def firstBit (i : grid0.Coords) : BitVec 1 :=
  Scalar.cmpi .eq (Scalar.select (Scalar.andi (Scalar.xori (Scalar.cmpi .slt (Scalar.remsi (BitVec.ofNat 32 ↑(i 0)) 16#32) 0#32) 0#1)
    (Scalar.cmpi .ne (Scalar.remsi (BitVec.ofNat 32 ↑(i 0)) 16#32) 0#32))
    (Scalar.addi (Scalar.remsi (BitVec.ofNat 32 ↑(i 0)) 16#32) 16#32) (Scalar.remsi (BitVec.ofNat 32 ↑(i 0)) 16#32)) 0#32
def lastBit (i : grid0.Coords) : BitVec 1 :=
  Scalar.cmpi .eq (Scalar.select (Scalar.andi (Scalar.xori (Scalar.cmpi .slt (Scalar.remsi (BitVec.ofNat 32 ↑(i 0)) 16#32) 0#32) 0#1)
    (Scalar.cmpi .ne (Scalar.remsi (BitVec.ofNat 32 ↑(i 0)) 16#32) 0#32))
    (Scalar.addi (Scalar.remsi (BitVec.ofNat 32 ↑(i 0)) 16#32) 16#32) (Scalar.remsi (BitVec.ofNat 32 ↑(i 0)) 16#32)) 15#32

theorem firstBit_at : ∀ t : Fin cfg0.N, firstBit (grid0.coords t) = if t.val % 16 = 0 then 1#1 else 0#1 :=
  (by decide +kernel : ∀ t : Fin grid0.N, _)
theorem lastBit_at : ∀ t : Fin cfg0.N, lastBit (grid0.coords t) = if t.val % 16 = 15 then 1#1 else 0#1 :=
  (by decide +kernel : ∀ t : Fin grid0.N, _)

variable (m : (ℓ : Loc nD τ sig) → Buf (Elt Ideal) ℓ) (c : Dev nD)

theorem lt32 (t : Fin cfg0.N) : t.val < 32 := lt_of_lt_of_eq t.2 N_0

/-- Where every window stands at a grid point. -/
theorem idx : ∀ t : Fin cfg0.N, win0_0.index t = ![t.val, 0] ∧ win0_1.index t = ![t.val * 16 - 1, 0] ∧ win0_2.index t = ![t.val, 0]
    ∧ win0_3.index t = ![if t.val = 31 then 511 else (t.val + 1) * 16, 0] ∧ win0_4.index t = ![t.val, 0]
    ∧ win0_5.index t = ![if t.val = 31 then 511 else (t.val + 1) * 16, 0]
    ∧ win0_6.index t = ![0, 0] ∧ win0_7.index t = ![t.val, 0] ∧ win0_8.index t = ![0, 0] ∧ win0_9.index t = ![0, 0] :=
  (by decide +kernel : ∀ t : Fin grid0.N, _)

/-- The four arguments as functions of plain numbers. -/
def XX : ℕ → ℕ → EReal := flat (a := 8192) (b := 5632) (m ((c : Thread nD τ).loc main_arg0))
def UU : ℕ → ℕ → EReal := flat (a := 8192) (b := 5632) (m ((c : Thread nD τ).loc main_arg1))
def AA : ℕ → ℕ → EReal := flat (a := 8192) (b := 2816) (m ((c : Thread nD τ).loc main_arg2))
def WW : ℕ → ℕ → EReal := flat (a := 3) (b := 5632) (m ((c : Thread nD τ).loc main_arg3))

theorem tile (t : Fin cfg0.N) : Tile t.val (XX m c) (UU m c) (AA m c) (WW m c) (iblk m c 0 t) (iblk m c 1 t) (iblk m c 2 t)
    (iblk m c 3 t) (iblk m c 4 t) (iblk m c 5 t) (iblk m c 6 t) where
  cur a e := by
    have := lt32 t
    refine Eq.trans ?_ (flat_of (a := 8192) (b := 5632) (m ((c : Thread nD τ).loc main_arg0)) ⟨256 * t + a, by omega⟩ e _ _ rfl rfl)
    blk_ext [iblk, V, idx t]
  prev ht a e := by
    have := lt32 t
    refine Eq.trans ?_ (flat_of (a := 8192) (b := 5632) (m ((c : Thread nD τ).loc main_arg0)) ⟨256 * t + a - 16, by omega⟩ e _ _ rfl rfl)
    blk_ext [iblk, V, idx t]
  gate a e := by
    have := lt32 t
    refine Eq.trans ?_ (flat_of (a := 8192) (b := 5632) (m ((c : Thread nD τ).loc main_arg1)) ⟨256 * t + a, by omega⟩ e _ _ rfl rfl)
    blk_ext [iblk, V, idx t]
  gateNext ht a e := by
    have := lt32 t
    have h31 : t.val ≠ 31 := by omega
    refine Eq.trans ?_ (flat_of (a := 8192) (b := 5632) (m ((c : Thread nD τ).loc main_arg1)) ⟨256 * t + 256 + a, by omega⟩ e _ _ rfl rfl)
    blk_ext [iblk, V, idx t, if_neg h31]
  ct a e := by
    have := lt32 t
    refine Eq.trans ?_ (flat_of (a := 8192) (b := 2816) (m ((c : Thread nD τ).loc main_arg2)) ⟨256 * t + a, by omega⟩ e _ _ rfl rfl)
    blk_ext [iblk, V, idx t]
  ctNext ht a e := by
    have := lt32 t
    have h31 : t.val ≠ 31 := by omega
    refine Eq.trans ?_ (flat_of (a := 8192) (b := 2816) (m ((c : Thread nD τ).loc main_arg2)) ⟨256 * t + 256 + a, by omega⟩ e _ _ rfl rfl)
    blk_ext [iblk, V, idx t, if_neg h31]
  taps k e := by
    refine Eq.trans ?_ (flat_of (a := 3) (b := 5632) (m ((c : Thread nD τ).loc main_arg3)) k e _ _ rfl rfl)
    blk_ext [iblk, V, idx t]

end Cert.SiluBwdIdeal.Rows
-- ==== Proof.SiluGradDx.lean ====
module

public import proofs.«01_k».proof.Proof.SiluGradTiles
/-! # The gradient of the convolution's input after the run -/
@[expose] public section

set_option maxRecDepth 16384
noncomputable section
open Idealize.ShloMosaic Idealize.ShloMosaic.TcCoe Idealize.SL.Sem
namespace Cert.SiluBwdIdeal.Rows
open Cert.SiluBwdIdeal Cert.SiluBwdIdeal.Gen Cert.Silus
variable (m : (ℓ : Loc nD τ sig) → Buf (Elt Ideal) ℓ) (c : Dev nD)

theorem out7 (t : Fin cfg0.N) (y : S256x5632.Idx) :
    (outsAt0 m c t.val t.isLt).1 y = DX (UU m c) (AA m c) (WW m c) (256 * t + (y 0 : ℕ)) (y 1 : ℕ) := by
  have T := tile m c t
  have hl := lastBit_at t
  by_cases h : t.val % 32 = 0
  on_goal 1 => rw [outsAt0_A m c t h]
  on_goal 2 => rw [outsAt0_B m c t h]
  all_goals
    frame_out
    canon_tiles x h
    · idx_vars x
      rw [h0, h1]
      exact dxV T _ hl 2560 5376 (by omega) rfl _ _
    · idx_vars x
      rw [h0, h1]
      exact dxG T _ hl 2560 (by omega) _ _
    · idx_vars x
      rw [h0, h1]
      exact dxV T _ hl 2304 5120 (by omega) rfl _ _
    · idx_vars x
      rw [h0, h1]
      exact dxG T _ hl 2304 (by omega) _ _
    · idx_vars x
      rw [h0, h1]
      exact dxV T _ hl 2048 4864 (by omega) rfl _ _
    · idx_vars x
      rw [h0, h1]
      exact dxG T _ hl 2048 (by omega) _ _
    · idx_vars x
      rw [h0, h1]
      exact dxV T _ hl 1792 4608 (by omega) rfl _ _
    · idx_vars x
      rw [h0, h1]
      exact dxG T _ hl 1792 (by omega) _ _
    · idx_vars x
      rw [h0, h1]
      exact dxV T _ hl 1536 4352 (by omega) rfl _ _
    · idx_vars x
      rw [h0, h1]
      exact dxG T _ hl 1536 (by omega) _ _
    · idx_vars x
      rw [h0, h1]
      exact dxV T _ hl 1280 4096 (by omega) rfl _ _
    · idx_vars x
      rw [h0, h1]
      exact dxG T _ hl 1280 (by omega) _ _
    · idx_vars x
      rw [h0, h1]
      exact dxV T _ hl 1024 3840 (by omega) rfl _ _
    · idx_vars x
      rw [h0, h1]
      exact dxG T _ hl 1024 (by omega) _ _
    · idx_vars x
      rw [h0, h1]
      exact dxV T _ hl 768 3584 (by omega) rfl _ _
    · idx_vars x
      rw [h0, h1]
      exact dxG T _ hl 768 (by omega) _ _
    · idx_vars x
      rw [h0, h1]
      exact dxV T _ hl 512 3328 (by omega) rfl _ _
    · idx_vars x
      rw [h0, h1]
      exact dxG T _ hl 512 (by omega) _ _
    · idx_vars x
      rw [h0, h1]
      exact dxV T _ hl 256 3072 (by omega) rfl _ _
    · idx_vars x
      rw [h0, h1]
      exact dxG T _ hl 256 (by omega) _ _
    · idx_vars x
      rw [h0, h1]
      exact dxV T _ hl 0 2816 (by omega) rfl _ _
    · idx_vars x
      rw [h0, h1]
      exact (dxG T _ hl 0 (by omega) _ _).trans (by rw [Nat.zero_add])

/-- The gradient of the convolution's input after the run. -/
theorem final7 : (dats m 0 c).arrAt 7 cfg0.N
    = fun i : S8192x5632.Idx => DX (UU m c) (AA m c) (WW m c) (i 0 : ℕ) (i 1 : ℕ) := by
  refine (dats m 0 c).arrAt_eq_of_covers 7 _ (by decide +kernel) fun t _ y => ?_
  blk_simp
  rw [after0_7]
  refine (out7 m c t y).trans ?_
  rw [(idx t).2.2.2.2.2.2.2.1]
  show DX _ _ _ (256 * t.val + (y 0 : ℕ)) (y 1 : ℕ) = DX _ _ _ (t.val * 256 + (y 0 : ℕ)) (0 * 5632 + (y 1 : ℕ))
  rw [Nat.mul_comm t.val, Nat.zero_mul, Nat.zero_add]

end Cert.SiluBwdIdeal.Rows
-- ==== Proof.SiluGradDw.lean ====
module

public import proofs.«01_k».proof.Proof.SiluGradTiles
/-! # The gradient of the taps after the run -/
@[expose] public section

set_option maxRecDepth 16384
set_option maxHeartbeats 4000000
noncomputable section
open Idealize.ShloMosaic Idealize.ShloMosaic.TcCoe Idealize.SL.Sem
namespace Cert.SiluBwdIdeal.Rows
open Cert.SiluBwdIdeal Cert.SiluBwdIdeal.Gen Cert.Silus
variable (m : (ℓ : Loc nD τ sig) → Buf (Elt Ideal) ℓ) (c : Dev nD)

/-- The first tile sets the gradient of the taps. -/
theorem out8_A (t : Fin cfg0.N) (h : t.val % 32 = 0) (y : S3x5632.Idx) :
    (outsAt0 m c t.val t.isLt).2.1 y = part (XX m c) (UU m c) (AA m c) t.val (y 0 : ℕ) (y 1 : ℕ) := by
  have T := tile m c t
  have hf := firstBit_at t
  have hl := lastBit_at t
  rw [outsAt0_A m c t h]
  frame_open
  simp (disch := decide) only [↓View.readCov_skip, ↓View.readCov_fill]
  frame_out
  refine (canon_over [_] y [_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _] (View.cover_of_tiledL _ ![1, 256] (by sl_kernel_rfl) y)).trans ?_
  canon_tiles x h
  · idx_vars x
    have e : (x0 : ℕ) = 0 := by omega
    rw [h0, h1, e]
    exact onto0 (dw2V T _ _ hf hl 2560 5376 (by omega) rfl _ _ _) (fill8 _ _)
  · idx_vars x
    have e : (x0 : ℕ) = 0 := by omega
    rw [h0, h1, e]
    exact onto0 (dw1V T _ _ hf hl 2560 5376 (by omega) rfl _ _ _) (fill8 _ _)
  · idx_vars x
    have e : (x0 : ℕ) = 0 := by omega
    rw [h0, h1, e]
    exact onto0 (dw0V T _ _ hf hl 2560 5376 (by omega) rfl _ _ _) (fill8 _ _)
  · idx_vars x
    have e : (x0 : ℕ) = 0 := by omega
    rw [h0, h1, e]
    exact onto0 (dw2G T _ _ hf hl 2560 (by omega) _ _ _) (fill8 _ _)
  · idx_vars x
    have e : (x0 : ℕ) = 0 := by omega
    rw [h0, h1, e]
    exact onto0 (dw1G T _ _ hf hl 2560 (by omega) _ _ _) (fill8 _ _)
  · idx_vars x
    have e : (x0 : ℕ) = 0 := by omega
    rw [h0, h1, e]
    exact onto0 (dw0G T _ _ hf hl 2560 (by omega) _ _ _) (fill8 _ _)
  · idx_vars x
    have e : (x0 : ℕ) = 0 := by omega
    rw [h0, h1, e]
    exact onto0 (dw2V T _ _ hf hl 2304 5120 (by omega) rfl _ _ _) (fill8 _ _)
  · idx_vars x
    have e : (x0 : ℕ) = 0 := by omega
    rw [h0, h1, e]
    exact onto0 (dw1V T _ _ hf hl 2304 5120 (by omega) rfl _ _ _) (fill8 _ _)
  · idx_vars x
    have e : (x0 : ℕ) = 0 := by omega
    rw [h0, h1, e]
    exact onto0 (dw0V T _ _ hf hl 2304 5120 (by omega) rfl _ _ _) (fill8 _ _)
  · idx_vars x
    have e : (x0 : ℕ) = 0 := by omega
    rw [h0, h1, e]
    exact onto0 (dw2G T _ _ hf hl 2304 (by omega) _ _ _) (fill8 _ _)
  · idx_vars x
    have e : (x0 : ℕ) = 0 := by omega
    rw [h0, h1, e]
    exact onto0 (dw1G T _ _ hf hl 2304 (by omega) _ _ _) (fill8 _ _)
  · idx_vars x
    have e : (x0 : ℕ) = 0 := by omega
    rw [h0, h1, e]
    exact onto0 (dw0G T _ _ hf hl 2304 (by omega) _ _ _) (fill8 _ _)
  · idx_vars x
    have e : (x0 : ℕ) = 0 := by omega
    rw [h0, h1, e]
    exact onto0 (dw2V T _ _ hf hl 2048 4864 (by omega) rfl _ _ _) (fill8 _ _)
  · idx_vars x
    have e : (x0 : ℕ) = 0 := by omega
    rw [h0, h1, e]
    exact onto0 (dw1V T _ _ hf hl 2048 4864 (by omega) rfl _ _ _) (fill8 _ _)
  · idx_vars x
    have e : (x0 : ℕ) = 0 := by omega
    rw [h0, h1, e]
    exact onto0 (dw0V T _ _ hf hl 2048 4864 (by omega) rfl _ _ _) (fill8 _ _)
  · idx_vars x
    have e : (x0 : ℕ) = 0 := by omega
    rw [h0, h1, e]
    exact onto0 (dw2G T _ _ hf hl 2048 (by omega) _ _ _) (fill8 _ _)
  · idx_vars x
    have e : (x0 : ℕ) = 0 := by omega
    rw [h0, h1, e]
    exact onto0 (dw1G T _ _ hf hl 2048 (by omega) _ _ _) (fill8 _ _)
  · idx_vars x
    have e : (x0 : ℕ) = 0 := by omega
    rw [h0, h1, e]
    exact onto0 (dw0G T _ _ hf hl 2048 (by omega) _ _ _) (fill8 _ _)
  · idx_vars x
    have e : (x0 : ℕ) = 0 := by omega
    rw [h0, h1, e]
    exact onto0 (dw2V T _ _ hf hl 1792 4608 (by omega) rfl _ _ _) (fill8 _ _)
  · idx_vars x
    have e : (x0 : ℕ) = 0 := by omega
    rw [h0, h1, e]
    exact onto0 (dw1V T _ _ hf hl 1792 4608 (by omega) rfl _ _ _) (fill8 _ _)
  · idx_vars x
    have e : (x0 : ℕ) = 0 := by omega
    rw [h0, h1, e]
    exact onto0 (dw0V T _ _ hf hl 1792 4608 (by omega) rfl _ _ _) (fill8 _ _)
  · idx_vars x
    have e : (x0 : ℕ) = 0 := by omega
    rw [h0, h1, e]
    exact onto0 (dw2G T _ _ hf hl 1792 (by omega) _ _ _) (fill8 _ _)
  · idx_vars x
    have e : (x0 : ℕ) = 0 := by omega
    rw [h0, h1, e]
    exact onto0 (dw1G T _ _ hf hl 1792 (by omega) _ _ _) (fill8 _ _)
  · idx_vars x
    have e : (x0 : ℕ) = 0 := by omega
    rw [h0, h1, e]
    exact onto0 (dw0G T _ _ hf hl 1792 (by omega) _ _ _) (fill8 _ _)
  · idx_vars x
    have e : (x0 : ℕ) = 0 := by omega
    rw [h0, h1, e]
    exact onto0 (dw2V T _ _ hf hl 1536 4352 (by omega) rfl _ _ _) (fill8 _ _)
  · idx_vars x
    have e : (x0 : ℕ) = 0 := by omega
    rw [h0, h1, e]
    exact onto0 (dw1V T _ _ hf hl 1536 4352 (by omega) rfl _ _ _) (fill8 _ _)
  · idx_vars x
    have e : (x0 : ℕ) = 0 := by omega
    rw [h0, h1, e]
    exact onto0 (dw0V T _ _ hf hl 1536 4352 (by omega) rfl _ _ _) (fill8 _ _)
  · idx_vars x
    have e : (x0 : ℕ) = 0 := by omega
    rw [h0, h1, e]
    exact onto0 (dw2G T _ _ hf hl 1536 (by omega) _ _ _) (fill8 _ _)
  · idx_vars x
    have e : (x0 : ℕ) = 0 := by omega
    rw [h0, h1, e]
    exact onto0 (dw1G T _ _ hf hl 1536 (by omega) _ _ _) (fill8 _ _)
  · idx_vars x
    have e : (x0 : ℕ) = 0 := by omega
    rw [h0, h1, e]
    exact onto0 (dw0G T _ _ hf hl 1536 (by omega) _ _ _) (fill8 _ _)
  · idx_vars x
    have e : (x0 : ℕ) = 0 := by omega
    rw [h0, h1, e]
    exact onto0 (dw2V T _ _ hf hl 1280 4096 (by omega) rfl _ _ _) (fill8 _ _)
  · idx_vars x
    have e : (x0 : ℕ) = 0 := by omega
    rw [h0, h1, e]
    exact onto0 (dw1V T _ _ hf hl 1280 4096 (by omega) rfl _ _ _) (fill8 _ _)
  · idx_vars x
    have e : (x0 : ℕ) = 0 := by omega
    rw [h0, h1, e]
    exact onto0 (dw0V T _ _ hf hl 1280 4096 (by omega) rfl _ _ _) (fill8 _ _)
  · idx_vars x
    have e : (x0 : ℕ) = 0 := by omega
    rw [h0, h1, e]
    exact onto0 (dw2G T _ _ hf hl 1280 (by omega) _ _ _) (fill8 _ _)
  · idx_vars x
    have e : (x0 : ℕ) = 0 := by omega
    rw [h0, h1, e]
    exact onto0 (dw1G T _ _ hf hl 1280 (by omega) _ _ _) (fill8 _ _)
  · idx_vars x
    have e : (x0 : ℕ) = 0 := by omega
    rw [h0, h1, e]
    exact onto0 (dw0G T _ _ hf hl 1280 (by omega) _ _ _) (fill8 _ _)
  · idx_vars x
    have e : (x0 : ℕ) = 0 := by omega
    rw [h0, h1, e]
    exact onto0 (dw2V T _ _ hf hl 1024 3840 (by omega) rfl _ _ _) (fill8 _ _)
  · idx_vars x
    have e : (x0 : ℕ) = 0 := by omega
    rw [h0, h1, e]
    exact onto0 (dw1V T _ _ hf hl 1024 3840 (by omega) rfl _ _ _) (fill8 _ _)
  · idx_vars x
    have e : (x0 : ℕ) = 0 := by omega
    rw [h0, h1, e]
    exact onto0 (dw0V T _ _ hf hl 1024 3840 (by omega) rfl _ _ _) (fill8 _ _)
  · idx_vars x
    have e : (x0 : ℕ) = 0 := by omega
    rw [h0, h1, e]
    exact onto0 (dw2G T _ _ hf hl 1024 (by omega) _ _ _) (fill8 _ _)
  · idx_vars x
    have e : (x0 : ℕ) = 0 := by omega
    rw [h0, h1, e]
    exact onto0 (dw1G T _ _ hf hl 1024 (by omega) _ _ _) (fill8 _ _)
  · idx_vars x
    have e : (x0 : ℕ) = 0 := by omega
    rw [h0, h1, e]
    exact onto0 (dw0G T _ _ hf hl 1024 (by omega) _ _ _) (fill8 _ _)
  · idx_vars x
    have e : (x0 : ℕ) = 0 := by omega
    rw [h0, h1, e]
    exact onto0 (dw2V T _ _ hf hl 768 3584 (by omega) rfl _ _ _) (fill8 _ _)
  · idx_vars x
    have e : (x0 : ℕ) = 0 := by omega
    rw [h0, h1, e]
    exact onto0 (dw1V T _ _ hf hl 768 3584 (by omega) rfl _ _ _) (fill8 _ _)
  · idx_vars x
    have e : (x0 : ℕ) = 0 := by omega
    rw [h0, h1, e]
    exact onto0 (dw0V T _ _ hf hl 768 3584 (by omega) rfl _ _ _) (fill8 _ _)
  · idx_vars x
    have e : (x0 : ℕ) = 0 := by omega
    rw [h0, h1, e]
    exact onto0 (dw2G T _ _ hf hl 768 (by omega) _ _ _) (fill8 _ _)
  · idx_vars x
    have e : (x0 : ℕ) = 0 := by omega
    rw [h0, h1, e]
    exact onto0 (dw1G T _ _ hf hl 768 (by omega) _ _ _) (fill8 _ _)
  · idx_vars x
    have e : (x0 : ℕ) = 0 := by omega
    rw [h0, h1, e]
    exact onto0 (dw0G T _ _ hf hl 768 (by omega) _ _ _) (fill8 _ _)
  · idx_vars x
    have e : (x0 : ℕ) = 0 := by omega
    rw [h0, h1, e]
    exact onto0 (dw2V T _ _ hf hl 512 3328 (by omega) rfl _ _ _) (fill8 _ _)
  · idx_vars x
    have e : (x0 : ℕ) = 0 := by omega
    rw [h0, h1, e]
    exact onto0 (dw1V T _ _ hf hl 512 3328 (by omega) rfl _ _ _) (fill8 _ _)
  · idx_vars x
    have e : (x0 : ℕ) = 0 := by omega
    rw [h0, h1, e]
    exact onto0 (dw0V T _ _ hf hl 512 3328 (by omega) rfl _ _ _) (fill8 _ _)
  · idx_vars x
    have e : (x0 : ℕ) = 0 := by omega
    rw [h0, h1, e]
    exact onto0 (dw2G T _ _ hf hl 512 (by omega) _ _ _) (fill8 _ _)
  · idx_vars x
    have e : (x0 : ℕ) = 0 := by omega
    rw [h0, h1, e]
    exact onto0 (dw1G T _ _ hf hl 512 (by omega) _ _ _) (fill8 _ _)
  · idx_vars x
    have e : (x0 : ℕ) = 0 := by omega
    rw [h0, h1, e]
    exact onto0 (dw0G T _ _ hf hl 512 (by omega) _ _ _) (fill8 _ _)
  · idx_vars x
    have e : (x0 : ℕ) = 0 := by omega
    rw [h0, h1, e]
    exact onto0 (dw2V T _ _ hf hl 256 3072 (by omega) rfl _ _ _) (fill8 _ _)
  · idx_vars x
    have e : (x0 : ℕ) = 0 := by omega
    rw [h0, h1, e]
    exact onto0 (dw1V T _ _ hf hl 256 3072 (by omega) rfl _ _ _) (fill8 _ _)
  · idx_vars x
    have e : (x0 : ℕ) = 0 := by omega
    rw [h0, h1, e]
    exact onto0 (dw0V T _ _ hf hl 256 3072 (by omega) rfl _ _ _) (fill8 _ _)
  · idx_vars x
    have e : (x0 : ℕ) = 0 := by omega
    rw [h0, h1, e]
    exact onto0 (dw2G T _ _ hf hl 256 (by omega) _ _ _) (fill8 _ _)
  · idx_vars x
    have e : (x0 : ℕ) = 0 := by omega
    rw [h0, h1, e]
    exact onto0 (dw1G T _ _ hf hl 256 (by omega) _ _ _) (fill8 _ _)
  · idx_vars x
    have e : (x0 : ℕ) = 0 := by omega
    rw [h0, h1, e]
    exact onto0 (dw0G T _ _ hf hl 256 (by omega) _ _ _) (fill8 _ _)
  · idx_vars x
    have e : (x0 : ℕ) = 0 := by omega
    rw [h0, h1, e]
    exact onto0 (dw2V T _ _ hf hl 0 2816 (by omega) rfl _ _ _) (fill8 _ _)
  · idx_vars x
    have e : (x0 : ℕ) = 0 := by omega
    rw [h0, h1, e]
    exact onto0 (dw1V T _ _ hf hl 0 2816 (by omega) rfl _ _ _) (fill8 _ _)
  · idx_vars x
    have e : (x0 : ℕ) = 0 := by omega
    rw [h0, h1, e]
    exact onto0 (dw0V T _ _ hf hl 0 2816 (by omega) rfl _ _ _) (fill8 _ _)
  · idx_vars x
    have e : (x0 : ℕ) = 0 := by omega
    rw [h0, h1, e]
    exact (onto0 (dw2G T _ _ hf hl 0 (by omega) _ _ _) (fill8 _ _)).trans (by rw [Nat.zero_add])
  · idx_vars x
    have e : (x0 : ℕ) = 0 := by omega
    rw [h0, h1, e]
    exact (onto0 (dw1G T _ _ hf hl 0 (by omega) _ _ _) (fill8 _ _)).trans (by rw [Nat.zero_add])
  · idx_vars x
    have e : (x0 : ℕ) = 0 := by omega
    rw [h0, h1, e]
    exact (onto0 (dw0G T _ _ hf hl 0 (by omega) _ _ _) (fill8 _ _)).trans (by rw [Nat.zero_add])

/-- Every further tile adds to it. -/
theorem out8_B (t : Fin cfg0.N) (h : ¬ t.val % 32 = 0) (y : S3x5632.Idx) :
    (outsAt0 m c t.val t.isLt).2.1 y = (outsAt0 m c (t.val - 1) (by have := t.2; omega)).2.1 y + part (XX m c) (UU m c) (AA m c) t.val (y 0 : ℕ) (y 1 : ℕ) := by
  have T := tile m c t
  have hf := firstBit_at t
  have hl := lastBit_at t
  rw [outsAt0_B m c t h]
  frame_out
  generalize outsAt0 m c (t.val - 1) _ = P
  canon_tiles x h
  · idx_vars x
    have e : (x0 : ℕ) = 0 := by omega
    rw [h0, h1, e]
    exact onto (dw2V T _ _ hf hl 2560 5376 (by omega) rfl _ _ _) (row_of (n := 3) P.2.1 2 5376 _ _ _ y (by omega) (by omega))
  · idx_vars x
    have e : (x0 : ℕ) = 0 := by omega
    rw [h0, h1, e]
    exact onto (dw1V T _ _ hf hl 2560 5376 (by omega) rfl _ _ _) (row_of (n := 3) P.2.1 1 5376 _ _ _ y (by omega) (by omega))
  · idx_vars x
    have e : (x0 : ℕ) = 0 := by omega
    rw [h0, h1, e]
    exact onto (dw0V T _ _ hf hl 2560 5376 (by omega) rfl _ _ _) (row_of (n := 3) P.2.1 0 5376 _ _ _ y (by omega) (by omega))
  · idx_vars x
    have e : (x0 : ℕ) = 0 := by omega
    rw [h0, h1, e]
    exact onto (dw2G T _ _ hf hl 2560 (by omega) _ _ _) (row_of (n := 3) P.2.1 2 2560 _ _ _ y (by omega) (by omega))
  · idx_vars x
    have e : (x0 : ℕ) = 0 := by omega
    rw [h0, h1, e]
    exact onto (dw1G T _ _ hf hl 2560 (by omega) _ _ _) (row_of (n := 3) P.2.1 1 2560 _ _ _ y (by omega) (by omega))
  · idx_vars x
    have e : (x0 : ℕ) = 0 := by omega
    rw [h0, h1, e]
    exact onto (dw0G T _ _ hf hl 2560 (by omega) _ _ _) (row_of (n := 3) P.2.1 0 2560 _ _ _ y (by omega) (by omega))
  · idx_vars x
    have e : (x0 : ℕ) = 0 := by omega
    rw [h0, h1, e]
    exact onto (dw2V T _ _ hf hl 2304 5120 (by omega) rfl _ _ _) (row_of (n := 3) P.2.1 2 5120 _ _ _ y (by omega) (by omega))
  · idx_vars x
    have e : (x0 : ℕ) = 0 := by omega
    rw [h0, h1, e]
    exact onto (dw1V T _ _ hf hl 2304 5120 (by omega) rfl _ _ _) (row_of (n := 3) P.2.1 1 5120 _ _ _ y (by omega) (by omega))
  · idx_vars x
    have e : (x0 : ℕ) = 0 := by omega
    rw [h0, h1, e]
    exact onto (dw0V T _ _ hf hl 2304 5120 (by omega) rfl _ _ _) (row_of (n := 3) P.2.1 0 5120 _ _ _ y (by omega) (by omega))
  · idx_vars x
    have e : (x0 : ℕ) = 0 := by omega
    rw [h0, h1, e]
    exact onto (dw2G T _ _ hf hl 2304 (by omega) _ _ _) (row_of (n := 3) P.2.1 2 2304 _ _ _ y (by omega) (by omega))
  · idx_vars x
    have e : (x0 : ℕ) = 0 := by omega
    rw [h0, h1, e]
    exact onto (dw1G T _ _ hf hl 2304 (by omega) _ _ _) (row_of (n := 3) P.2.1 1 2304 _ _ _ y (by omega) (by omega))
  · idx_vars x
    have e : (x0 : ℕ) = 0 := by omega
    rw [h0, h1, e]
    exact onto (dw0G T _ _ hf hl 2304 (by omega) _ _ _) (row_of (n := 3) P.2.1 0 2304 _ _ _ y (by omega) (by omega))
  · idx_vars x
    have e : (x0 : ℕ) = 0 := by omega
    rw [h0, h1, e]
    exact onto (dw2V T _ _ hf hl 2048 4864 (by omega) rfl _ _ _) (row_of (n := 3) P.2.1 2 4864 _ _ _ y (by omega) (by omega))
  · idx_vars x
    have e : (x0 : ℕ) = 0 := by omega
    rw [h0, h1, e]
    exact onto (dw1V T _ _ hf hl 2048 4864 (by omega) rfl _ _ _) (row_of (n := 3) P.2.1 1 4864 _ _ _ y (by omega) (by omega))
  · idx_vars x
    have e : (x0 : ℕ) = 0 := by omega
    rw [h0, h1, e]
    exact onto (dw0V T _ _ hf hl 2048 4864 (by omega) rfl _ _ _) (row_of (n := 3) P.2.1 0 4864 _ _ _ y (by omega) (by omega))
  · idx_vars x
    have e : (x0 : ℕ) = 0 := by omega
    rw [h0, h1, e]
    exact onto (dw2G T _ _ hf hl 2048 (by omega) _ _ _) (row_of (n := 3) P.2.1 2 2048 _ _ _ y (by omega) (by omega))
  · idx_vars x
    have e : (x0 : ℕ) = 0 := by omega
    rw [h0, h1, e]
    exact onto (dw1G T _ _ hf hl 2048 (by omega) _ _ _) (row_of (n := 3) P.2.1 1 2048 _ _ _ y (by omega) (by omega))
  · idx_vars x
    have e : (x0 : ℕ) = 0 := by omega
    rw [h0, h1, e]
    exact onto (dw0G T _ _ hf hl 2048 (by omega) _ _ _) (row_of (n := 3) P.2.1 0 2048 _ _ _ y (by omega) (by omega))
  · idx_vars x
    have e : (x0 : ℕ) = 0 := by omega
    rw [h0, h1, e]
    exact onto (dw2V T _ _ hf hl 1792 4608 (by omega) rfl _ _ _) (row_of (n := 3) P.2.1 2 4608 _ _ _ y (by omega) (by omega))
  · idx_vars x
    have e : (x0 : ℕ) = 0 := by omega
    rw [h0, h1, e]
    exact onto (dw1V T _ _ hf hl 1792 4608 (by omega) rfl _ _ _) (row_of (n := 3) P.2.1 1 4608 _ _ _ y (by omega) (by omega))
  · idx_vars x
    have e : (x0 : ℕ) = 0 := by omega
    rw [h0, h1, e]
    exact onto (dw0V T _ _ hf hl 1792 4608 (by omega) rfl _ _ _) (row_of (n := 3) P.2.1 0 4608 _ _ _ y (by omega) (by omega))
  · idx_vars x
    have e : (x0 : ℕ) = 0 := by omega
    rw [h0, h1, e]
    exact onto (dw2G T _ _ hf hl 1792 (by omega) _ _ _) (row_of (n := 3) P.2.1 2 1792 _ _ _ y (by omega) (by omega))
  · idx_vars x
    have e : (x0 : ℕ) = 0 := by omega
    rw [h0, h1, e]
    exact onto (dw1G T _ _ hf hl 1792 (by omega) _ _ _) (row_of (n := 3) P.2.1 1 1792 _ _ _ y (by omega) (by omega))
  · idx_vars x
    have e : (x0 : ℕ) = 0 := by omega
    rw [h0, h1, e]
    exact onto (dw0G T _ _ hf hl 1792 (by omega) _ _ _) (row_of (n := 3) P.2.1 0 1792 _ _ _ y (by omega) (by omega))
  · idx_vars x
    have e : (x0 : ℕ) = 0 := by omega
    rw [h0, h1, e]
    exact onto (dw2V T _ _ hf hl 1536 4352 (by omega) rfl _ _ _) (row_of (n := 3) P.2.1 2 4352 _ _ _ y (by omega) (by omega))
  · idx_vars x
    have e : (x0 : ℕ) = 0 := by omega
    rw [h0, h1, e]
    exact onto (dw1V T _ _ hf hl 1536 4352 (by omega) rfl _ _ _) (row_of (n := 3) P.2.1 1 4352 _ _ _ y (by omega) (by omega))
  · idx_vars x
    have e : (x0 : ℕ) = 0 := by omega
    rw [h0, h1, e]
    exact onto (dw0V T _ _ hf hl 1536 4352 (by omega) rfl _ _ _) (row_of (n := 3) P.2.1 0 4352 _ _ _ y (by omega) (by omega))
  · idx_vars x
    have e : (x0 : ℕ) = 0 := by omega
    rw [h0, h1, e]
    exact onto (dw2G T _ _ hf hl 1536 (by omega) _ _ _) (row_of (n := 3) P.2.1 2 1536 _ _ _ y (by omega) (by omega))
  · idx_vars x
    have e : (x0 : ℕ) = 0 := by omega
    rw [h0, h1, e]
    exact onto (dw1G T _ _ hf hl 1536 (by omega) _ _ _) (row_of (n := 3) P.2.1 1 1536 _ _ _ y (by omega) (by omega))
  · idx_vars x
    have e : (x0 : ℕ) = 0 := by omega
    rw [h0, h1, e]
    exact onto (dw0G T _ _ hf hl 1536 (by omega) _ _ _) (row_of (n := 3) P.2.1 0 1536 _ _ _ y (by omega) (by omega))
  · idx_vars x
    have e : (x0 : ℕ) = 0 := by omega
    rw [h0, h1, e]
    exact onto (dw2V T _ _ hf hl 1280 4096 (by omega) rfl _ _ _) (row_of (n := 3) P.2.1 2 4096 _ _ _ y (by omega) (by omega))
  · idx_vars x
    have e : (x0 : ℕ) = 0 := by omega
    rw [h0, h1, e]
    exact onto (dw1V T _ _ hf hl 1280 4096 (by omega) rfl _ _ _) (row_of (n := 3) P.2.1 1 4096 _ _ _ y (by omega) (by omega))
  · idx_vars x
    have e : (x0 : ℕ) = 0 := by omega
    rw [h0, h1, e]
    exact onto (dw0V T _ _ hf hl 1280 4096 (by omega) rfl _ _ _) (row_of (n := 3) P.2.1 0 4096 _ _ _ y (by omega) (by omega))
  · idx_vars x
    have e : (x0 : ℕ) = 0 := by omega
    rw [h0, h1, e]
    exact onto (dw2G T _ _ hf hl 1280 (by omega) _ _ _) (row_of (n := 3) P.2.1 2 1280 _ _ _ y (by omega) (by omega))
  · idx_vars x
    have e : (x0 : ℕ) = 0 := by omega
    rw [h0, h1, e]
    exact onto (dw1G T _ _ hf hl 1280 (by omega) _ _ _) (row_of (n := 3) P.2.1 1 1280 _ _ _ y (by omega) (by omega))
  · idx_vars x
    have e : (x0 : ℕ) = 0 := by omega
    rw [h0, h1, e]
    exact onto (dw0G T _ _ hf hl 1280 (by omega) _ _ _) (row_of (n := 3) P.2.1 0 1280 _ _ _ y (by omega) (by omega))
  · idx_vars x
    have e : (x0 : ℕ) = 0 := by omega
    rw [h0, h1, e]
    exact onto (dw2V T _ _ hf hl 1024 3840 (by omega) rfl _ _ _) (row_of (n := 3) P.2.1 2 3840 _ _ _ y (by omega) (by omega))
  · idx_vars x
    have e : (x0 : ℕ) = 0 := by omega
    rw [h0, h1, e]
    exact onto (dw1V T _ _ hf hl 1024 3840 (by omega) rfl _ _ _) (row_of (n := 3) P.2.1 1 3840 _ _ _ y (by omega) (by omega))
  · idx_vars x
    have e : (x0 : ℕ) = 0 := by omega
    rw [h0, h1, e]
    exact onto (dw0V T _ _ hf hl 1024 3840 (by omega) rfl _ _ _) (row_of (n := 3) P.2.1 0 3840 _ _ _ y (by omega) (by omega))
  · idx_vars x
    have e : (x0 : ℕ) = 0 := by omega
    rw [h0, h1, e]
    exact onto (dw2G T _ _ hf hl 1024 (by omega) _ _ _) (row_of (n := 3) P.2.1 2 1024 _ _ _ y (by omega) (by omega))
  · idx_vars x
    have e : (x0 : ℕ) = 0 := by omega
    rw [h0, h1, e]
    exact onto (dw1G T _ _ hf hl 1024 (by omega) _ _ _) (row_of (n := 3) P.2.1 1 1024 _ _ _ y (by omega) (by omega))
  · idx_vars x
    have e : (x0 : ℕ) = 0 := by omega
    rw [h0, h1, e]
    exact onto (dw0G T _ _ hf hl 1024 (by omega) _ _ _) (row_of (n := 3) P.2.1 0 1024 _ _ _ y (by omega) (by omega))
  · idx_vars x
    have e : (x0 : ℕ) = 0 := by omega
    rw [h0, h1, e]
    exact onto (dw2V T _ _ hf hl 768 3584 (by omega) rfl _ _ _) (row_of (n := 3) P.2.1 2 3584 _ _ _ y (by omega) (by omega))
  · idx_vars x
    have e : (x0 : ℕ) = 0 := by omega
    rw [h0, h1, e]
    exact onto (dw1V T _ _ hf hl 768 3584 (by omega) rfl _ _ _) (row_of (n := 3) P.2.1 1 3584 _ _ _ y (by omega) (by omega))
  · idx_vars x
    have e : (x0 : ℕ) = 0 := by omega
    rw [h0, h1, e]
    exact onto (dw0V T _ _ hf hl 768 3584 (by omega) rfl _ _ _) (row_of (n := 3) P.2.1 0 3584 _ _ _ y (by omega) (by omega))
  · idx_vars x
    have e : (x0 : ℕ) = 0 := by omega
    rw [h0, h1, e]
    exact onto (dw2G T _ _ hf hl 768 (by omega) _ _ _) (row_of (n := 3) P.2.1 2 768 _ _ _ y (by omega) (by omega))
  · idx_vars x
    have e : (x0 : ℕ) = 0 := by omega
    rw [h0, h1, e]
    exact onto (dw1G T _ _ hf hl 768 (by omega) _ _ _) (row_of (n := 3) P.2.1 1 768 _ _ _ y (by omega) (by omega))
  · idx_vars x
    have e : (x0 : ℕ) = 0 := by omega
    rw [h0, h1, e]
    exact onto (dw0G T _ _ hf hl 768 (by omega) _ _ _) (row_of (n := 3) P.2.1 0 768 _ _ _ y (by omega) (by omega))
  · idx_vars x
    have e : (x0 : ℕ) = 0 := by omega
    rw [h0, h1, e]
    exact onto (dw2V T _ _ hf hl 512 3328 (by omega) rfl _ _ _) (row_of (n := 3) P.2.1 2 3328 _ _ _ y (by omega) (by omega))
  · idx_vars x
    have e : (x0 : ℕ) = 0 := by omega
    rw [h0, h1, e]
    exact onto (dw1V T _ _ hf hl 512 3328 (by omega) rfl _ _ _) (row_of (n := 3) P.2.1 1 3328 _ _ _ y (by omega) (by omega))
  · idx_vars x
    have e : (x0 : ℕ) = 0 := by omega
    rw [h0, h1, e]
    exact onto (dw0V T _ _ hf hl 512 3328 (by omega) rfl _ _ _) (row_of (n := 3) P.2.1 0 3328 _ _ _ y (by omega) (by omega))
  · idx_vars x
    have e : (x0 : ℕ) = 0 := by omega
    rw [h0, h1, e]
    exact onto (dw2G T _ _ hf hl 512 (by omega) _ _ _) (row_of (n := 3) P.2.1 2 512 _ _ _ y (by omega) (by omega))
  · idx_vars x
    have e : (x0 : ℕ) = 0 := by omega
    rw [h0, h1, e]
    exact onto (dw1G T _ _ hf hl 512 (by omega) _ _ _) (row_of (n := 3) P.2.1 1 512 _ _ _ y (by omega) (by omega))
  · idx_vars x
    have e : (x0 : ℕ) = 0 := by omega
    rw [h0, h1, e]
    exact onto (dw0G T _ _ hf hl 512 (by omega) _ _ _) (row_of (n := 3) P.2.1 0 512 _ _ _ y (by omega) (by omega))
  · idx_vars x
    have e : (x0 : ℕ) = 0 := by omega
    rw [h0, h1, e]
    exact onto (dw2V T _ _ hf hl 256 3072 (by omega) rfl _ _ _) (row_of (n := 3) P.2.1 2 3072 _ _ _ y (by omega) (by omega))
  · idx_vars x
    have e : (x0 : ℕ) = 0 := by omega
    rw [h0, h1, e]
    exact onto (dw1V T _ _ hf hl 256 3072 (by omega) rfl _ _ _) (row_of (n := 3) P.2.1 1 3072 _ _ _ y (by omega) (by omega))
  · idx_vars x
    have e : (x0 : ℕ) = 0 := by omega
    rw [h0, h1, e]
    exact onto (dw0V T _ _ hf hl 256 3072 (by omega) rfl _ _ _) (row_of (n := 3) P.2.1 0 3072 _ _ _ y (by omega) (by omega))
  · idx_vars x
    have e : (x0 : ℕ) = 0 := by omega
    rw [h0, h1, e]
    exact onto (dw2G T _ _ hf hl 256 (by omega) _ _ _) (row_of (n := 3) P.2.1 2 256 _ _ _ y (by omega) (by omega))
  · idx_vars x
    have e : (x0 : ℕ) = 0 := by omega
    rw [h0, h1, e]
    exact onto (dw1G T _ _ hf hl 256 (by omega) _ _ _) (row_of (n := 3) P.2.1 1 256 _ _ _ y (by omega) (by omega))
  · idx_vars x
    have e : (x0 : ℕ) = 0 := by omega
    rw [h0, h1, e]
    exact onto (dw0G T _ _ hf hl 256 (by omega) _ _ _) (row_of (n := 3) P.2.1 0 256 _ _ _ y (by omega) (by omega))
  · idx_vars x
    have e : (x0 : ℕ) = 0 := by omega
    rw [h0, h1, e]
    exact onto (dw2V T _ _ hf hl 0 2816 (by omega) rfl _ _ _) (row_of (n := 3) P.2.1 2 2816 _ _ _ y (by omega) (by omega))
  · idx_vars x
    have e : (x0 : ℕ) = 0 := by omega
    rw [h0, h1, e]
    exact onto (dw1V T _ _ hf hl 0 2816 (by omega) rfl _ _ _) (row_of (n := 3) P.2.1 1 2816 _ _ _ y (by omega) (by omega))
  · idx_vars x
    have e : (x0 : ℕ) = 0 := by omega
    rw [h0, h1, e]
    exact onto (dw0V T _ _ hf hl 0 2816 (by omega) rfl _ _ _) (row_of (n := 3) P.2.1 0 2816 _ _ _ y (by omega) (by omega))
  · idx_vars x
    have e : (x0 : ℕ) = 0 := by omega
    rw [h0, h1, e]
    exact (onto (dw2G T _ _ hf hl 0 (by omega) _ _ _) (row_of (n := 3) P.2.1 2 0 _ _ _ y (by omega) (by omega))).trans (by rw [Nat.zero_add])
  · idx_vars x
    have e : (x0 : ℕ) = 0 := by omega
    rw [h0, h1, e]
    exact (onto (dw1G T _ _ hf hl 0 (by omega) _ _ _) (row_of (n := 3) P.2.1 1 0 _ _ _ y (by omega) (by omega))).trans (by rw [Nat.zero_add])
  · idx_vars x
    have e : (x0 : ℕ) = 0 := by omega
    rw [h0, h1, e]
    exact (onto (dw0G T _ _ hf hl 0 (by omega) _ _ _) (row_of (n := 3) P.2.1 0 0 _ _ _ y (by omega) (by omega))).trans (by rw [Nat.zero_add])

/-- The gradient of the taps after the run. -/
theorem final8 : (dats m 0 c).arrAt 8 cfg0.N
    = fun i : S3x5632.Idx => ∑ n : Fin 8192, tapRow (XX m c) (UU m c) (AA m c) (i 0 : ℕ) (n : ℕ) (i 1 : ℕ) := by
  refine (dats m 0 c).arrAt_eq_of_covers 8 _ (by decide +kernel) fun t hf y => ?_
  blk_simp
  rw [after0_8, Pipeline.eq_sum_fin_of_reset_step_apply_of_flush (fun n h => (outsAt0 m c n h).2.1) 32 (fun _ => 0)
    (fun p j => part (XX m c) (UU m c) (AA m c) p.val (j 0 : ℕ) (j 1 : ℕ))
    (fun t h j => by rw [out8_A m c t h, zero_add])
    (fun t h j => out8_B m c t h j)
    t ((flush0_8 t).mp hf) _, zero_add]
  rw [(idx t).2.2.2.2.2.2.2.2.1]
  show ∑ s : Fin 32, part (XX m c) (UU m c) (AA m c) (32 * (t.val / 32) + s.val) (y 0 : ℕ) (y 1 : ℕ)
    = ∑ n : Fin 8192, tapRow (XX m c) (UU m c) (AA m c) (0 * 3 + (y 0 : ℕ)) (n : ℕ) (0 * 5632 + (y 1 : ℕ))
  have ht : t.val / 32 = 0 := by have := lt32 t; omega
  simp only [ht, Nat.zero_mul, Nat.zero_add, Nat.mul_zero]
  refine Fin.sum_mul_add_congr fun s k hl => ?_
  show _ = tapRow _ _ _ _ (s.val * 256 + k.val) _
  rw [Nat.mul_comm 256]

end Cert.SiluBwdIdeal.Rows
-- ==== Proof.SiluGradDb.lean ====
module

public import proofs.«01_k».proof.Proof.SiluGradTiles
/-! # The gradient of the bias after the run -/
@[expose] public section

set_option maxRecDepth 16384
noncomputable section
open Idealize.ShloMosaic Idealize.ShloMosaic.TcCoe Idealize.SL.Sem
namespace Cert.SiluBwdIdeal.Rows
open Cert.SiluBwdIdeal Cert.SiluBwdIdeal.Gen Cert.Silus
variable (m : (ℓ : Loc nD τ sig) → Buf (Elt Ideal) ℓ) (c : Dev nD)

/-- The first tile sets the gradient of the bias. -/
theorem out9_A (t : Fin cfg0.N) (h : t.val % 32 = 0) (y : S1x5632.Idx) :
    (outsAt0 m c t.val t.isLt).2.2 y = share (UU m c) (AA m c) t.val (y 1 : ℕ) := by
  have T := tile m c t
  have hf := firstBit_at t
  have hl := lastBit_at t
  rw [outsAt0_A m c t h]
  frame_open
  simp (disch := decide) only [↓View.readCov_skip, ↓View.readCov_fill]
  frame_out
  refine (canon_over [_] y [_, _, _, _, _, _, _, _, _, _, _, _, _, _, _, _, _, _, _, _, _, _] (View.cover_of_tiledL _ ![1, 256] (by sl_kernel_rfl) y)).trans ?_
  canon_tiles x h
  · idx_vars x
    have e : (x0 : ℕ) = 0 := by omega
    rw [h1]
    exact onto0 (dbV T _ hl 2560 5376 (by omega) rfl _ _ _) (fill9 _ _)
  · idx_vars x
    have e : (x0 : ℕ) = 0 := by omega
    rw [h1]
    exact onto0 (dbG T _ hl 2560 (by omega) _ _ _) (fill9 _ _)
  · idx_vars x
    have e : (x0 : ℕ) = 0 := by omega
    rw [h1]
    exact onto0 (dbV T _ hl 2304 5120 (by omega) rfl _ _ _) (fill9 _ _)
  · idx_vars x
    have e : (x0 : ℕ) = 0 := by omega
    rw [h1]
    exact onto0 (dbG T _ hl 2304 (by omega) _ _ _) (fill9 _ _)
  · idx_vars x
    have e : (x0 : ℕ) = 0 := by omega
    rw [h1]
    exact onto0 (dbV T _ hl 2048 4864 (by omega) rfl _ _ _) (fill9 _ _)
  · idx_vars x
    have e : (x0 : ℕ) = 0 := by omega
    rw [h1]
    exact onto0 (dbG T _ hl 2048 (by omega) _ _ _) (fill9 _ _)
  · idx_vars x
    have e : (x0 : ℕ) = 0 := by omega
    rw [h1]
    exact onto0 (dbV T _ hl 1792 4608 (by omega) rfl _ _ _) (fill9 _ _)
  · idx_vars x
    have e : (x0 : ℕ) = 0 := by omega
    rw [h1]
    exact onto0 (dbG T _ hl 1792 (by omega) _ _ _) (fill9 _ _)
  · idx_vars x
    have e : (x0 : ℕ) = 0 := by omega
    rw [h1]
    exact onto0 (dbV T _ hl 1536 4352 (by omega) rfl _ _ _) (fill9 _ _)
  · idx_vars x
    have e : (x0 : ℕ) = 0 := by omega
    rw [h1]
    exact onto0 (dbG T _ hl 1536 (by omega) _ _ _) (fill9 _ _)
  · idx_vars x
    have e : (x0 : ℕ) = 0 := by omega
    rw [h1]
    exact onto0 (dbV T _ hl 1280 4096 (by omega) rfl _ _ _) (fill9 _ _)
  · idx_vars x
    have e : (x0 : ℕ) = 0 := by omega
    rw [h1]
    exact onto0 (dbG T _ hl 1280 (by omega) _ _ _) (fill9 _ _)
  · idx_vars x
    have e : (x0 : ℕ) = 0 := by omega
    rw [h1]
    exact onto0 (dbV T _ hl 1024 3840 (by omega) rfl _ _ _) (fill9 _ _)
  · idx_vars x
    have e : (x0 : ℕ) = 0 := by omega
    rw [h1]
    exact onto0 (dbG T _ hl 1024 (by omega) _ _ _) (fill9 _ _)
  · idx_vars x
    have e : (x0 : ℕ) = 0 := by omega
    rw [h1]
    exact onto0 (dbV T _ hl 768 3584 (by omega) rfl _ _ _) (fill9 _ _)
  · idx_vars x
    have e : (x0 : ℕ) = 0 := by omega
    rw [h1]
    exact onto0 (dbG T _ hl 768 (by omega) _ _ _) (fill9 _ _)
  · idx_vars x
    have e : (x0 : ℕ) = 0 := by omega
    rw [h1]
    exact onto0 (dbV T _ hl 512 3328 (by omega) rfl _ _ _) (fill9 _ _)
  · idx_vars x
    have e : (x0 : ℕ) = 0 := by omega
    rw [h1]
    exact onto0 (dbG T _ hl 512 (by omega) _ _ _) (fill9 _ _)
  · idx_vars x
    have e : (x0 : ℕ) = 0 := by omega
    rw [h1]
    exact onto0 (dbV T _ hl 256 3072 (by omega) rfl _ _ _) (fill9 _ _)
  · idx_vars x
    have e : (x0 : ℕ) = 0 := by omega
    rw [h1]
    exact onto0 (dbG T _ hl 256 (by omega) _ _ _) (fill9 _ _)
  · idx_vars x
    have e : (x0 : ℕ) = 0 := by omega
    rw [h1]
    exact onto0 (dbV T _ hl 0 2816 (by omega) rfl _ _ _) (fill9 _ _)
  · idx_vars x
    have e : (x0 : ℕ) = 0 := by omega
    rw [h1]
    exact (onto0 (dbG T _ hl 0 (by omega) _ _ _) (fill9 _ _)).trans (by rw [Nat.zero_add])

/-- Every further tile adds to it. -/
theorem out9_B (t : Fin cfg0.N) (h : ¬ t.val % 32 = 0) (y : S1x5632.Idx) :
    (outsAt0 m c t.val t.isLt).2.2 y = (outsAt0 m c (t.val - 1) (by have := t.2; omega)).2.2 y + share (UU m c) (AA m c) t.val (y 1 : ℕ) := by
  have T := tile m c t
  have hf := firstBit_at t
  have hl := lastBit_at t
  rw [outsAt0_B m c t h]
  frame_out
  generalize outsAt0 m c (t.val - 1) _ = P
  canon_tiles x h
  · idx_vars x
    have e : (x0 : ℕ) = 0 := by omega
    rw [h1]
    exact onto (dbV T _ hl 2560 5376 (by omega) rfl _ _ _) (row_of (n := 1) P.2.2 0 5376 _ _ _ y (by omega) (by omega))
  · idx_vars x
    have e : (x0 : ℕ) = 0 := by omega
    rw [h1]
    exact onto (dbG T _ hl 2560 (by omega) _ _ _) (row_of (n := 1) P.2.2 0 2560 _ _ _ y (by omega) (by omega))
  · idx_vars x
    have e : (x0 : ℕ) = 0 := by omega
    rw [h1]
    exact onto (dbV T _ hl 2304 5120 (by omega) rfl _ _ _) (row_of (n := 1) P.2.2 0 5120 _ _ _ y (by omega) (by omega))
  · idx_vars x
    have e : (x0 : ℕ) = 0 := by omega
    rw [h1]
    exact onto (dbG T _ hl 2304 (by omega) _ _ _) (row_of (n := 1) P.2.2 0 2304 _ _ _ y (by omega) (by omega))
  · idx_vars x
    have e : (x0 : ℕ) = 0 := by omega
    rw [h1]
    exact onto (dbV T _ hl 2048 4864 (by omega) rfl _ _ _) (row_of (n := 1) P.2.2 0 4864 _ _ _ y (by omega) (by omega))
  · idx_vars x
    have e : (x0 : ℕ) = 0 := by omega
    rw [h1]
    exact onto (dbG T _ hl 2048 (by omega) _ _ _) (row_of (n := 1) P.2.2 0 2048 _ _ _ y (by omega) (by omega))
  · idx_vars x
    have e : (x0 : ℕ) = 0 := by omega
    rw [h1]
    exact onto (dbV T _ hl 1792 4608 (by omega) rfl _ _ _) (row_of (n := 1) P.2.2 0 4608 _ _ _ y (by omega) (by omega))
  · idx_vars x
    have e : (x0 : ℕ) = 0 := by omega
    rw [h1]
    exact onto (dbG T _ hl 1792 (by omega) _ _ _) (row_of (n := 1) P.2.2 0 1792 _ _ _ y (by omega) (by omega))
  · idx_vars x
    have e : (x0 : ℕ) = 0 := by omega
    rw [h1]
    exact onto (dbV T _ hl 1536 4352 (by omega) rfl _ _ _) (row_of (n := 1) P.2.2 0 4352 _ _ _ y (by omega) (by omega))
  · idx_vars x
    have e : (x0 : ℕ) = 0 := by omega
    rw [h1]
    exact onto (dbG T _ hl 1536 (by omega) _ _ _) (row_of (n := 1) P.2.2 0 1536 _ _ _ y (by omega) (by omega))
  · idx_vars x
    have e : (x0 : ℕ) = 0 := by omega
    rw [h1]
    exact onto (dbV T _ hl 1280 4096 (by omega) rfl _ _ _) (row_of (n := 1) P.2.2 0 4096 _ _ _ y (by omega) (by omega))
  · idx_vars x
    have e : (x0 : ℕ) = 0 := by omega
    rw [h1]
    exact onto (dbG T _ hl 1280 (by omega) _ _ _) (row_of (n := 1) P.2.2 0 1280 _ _ _ y (by omega) (by omega))
  · idx_vars x
    have e : (x0 : ℕ) = 0 := by omega
    rw [h1]
    exact onto (dbV T _ hl 1024 3840 (by omega) rfl _ _ _) (row_of (n := 1) P.2.2 0 3840 _ _ _ y (by omega) (by omega))
  · idx_vars x
    have e : (x0 : ℕ) = 0 := by omega
    rw [h1]
    exact onto (dbG T _ hl 1024 (by omega) _ _ _) (row_of (n := 1) P.2.2 0 1024 _ _ _ y (by omega) (by omega))
  · idx_vars x
    have e : (x0 : ℕ) = 0 := by omega
    rw [h1]
    exact onto (dbV T _ hl 768 3584 (by omega) rfl _ _ _) (row_of (n := 1) P.2.2 0 3584 _ _ _ y (by omega) (by omega))
  · idx_vars x
    have e : (x0 : ℕ) = 0 := by omega
    rw [h1]
    exact onto (dbG T _ hl 768 (by omega) _ _ _) (row_of (n := 1) P.2.2 0 768 _ _ _ y (by omega) (by omega))
  · idx_vars x
    have e : (x0 : ℕ) = 0 := by omega
    rw [h1]
    exact onto (dbV T _ hl 512 3328 (by omega) rfl _ _ _) (row_of (n := 1) P.2.2 0 3328 _ _ _ y (by omega) (by omega))
  · idx_vars x
    have e : (x0 : ℕ) = 0 := by omega
    rw [h1]
    exact onto (dbG T _ hl 512 (by omega) _ _ _) (row_of (n := 1) P.2.2 0 512 _ _ _ y (by omega) (by omega))
  · idx_vars x
    have e : (x0 : ℕ) = 0 := by omega
    rw [h1]
    exact onto (dbV T _ hl 256 3072 (by omega) rfl _ _ _) (row_of (n := 1) P.2.2 0 3072 _ _ _ y (by omega) (by omega))
  · idx_vars x
    have e : (x0 : ℕ) = 0 := by omega
    rw [h1]
    exact onto (dbG T _ hl 256 (by omega) _ _ _) (row_of (n := 1) P.2.2 0 256 _ _ _ y (by omega) (by omega))
  · idx_vars x
    have e : (x0 : ℕ) = 0 := by omega
    rw [h1]
    exact onto (dbV T _ hl 0 2816 (by omega) rfl _ _ _) (row_of (n := 1) P.2.2 0 2816 _ _ _ y (by omega) (by omega))
  · idx_vars x
    have e : (x0 : ℕ) = 0 := by omega
    rw [h1]
    exact (onto (dbG T _ hl 0 (by omega) _ _ _) (row_of (n := 1) P.2.2 0 0 _ _ _ y (by omega) (by omega))).trans (by rw [Nat.zero_add])

/-- The gradient of the bias after the run. -/
theorem final9 : (dats m 0 c).arrAt 9 cfg0.N
    = fun i : S1x5632.Idx => ∑ n : Fin 8192, DUs (UU m c) (AA m c) 0 (n : ℕ) (i 1 : ℕ) := by
  refine (dats m 0 c).arrAt_eq_of_covers 9 _ (by decide +kernel) fun t hf y => ?_
  blk_simp
  rw [after0_9, Pipeline.eq_sum_fin_of_reset_step_apply_of_flush (fun n h => (outsAt0 m c n h).2.2) 32 (fun _ => 0)
    (fun p j => share (UU m c) (AA m c) p.val (j 1 : ℕ))
    (fun t h j => by rw [out9_A m c t h, zero_add])
    (fun t h j => out9_B m c t h j)
    t ((flush0_9 t).mp hf) _, zero_add]
  rw [(idx t).2.2.2.2.2.2.2.2.2]
  show ∑ s : Fin 32, share (UU m c) (AA m c) (32 * (t.val / 32) + s.val) (y 1 : ℕ)
    = ∑ n : Fin 8192, DUs (UU m c) (AA m c) 0 (n : ℕ) (0 * 5632 + (y 1 : ℕ))
  have ht : t.val / 32 = 0 := by have := lt32 t; omega
  simp only [ht, Nat.zero_mul, Nat.zero_add, Nat.mul_zero]
  refine Fin.sum_mul_add_congr fun s k hl => ?_
  show _ = DUs _ _ _ (s.val * 256 + k.val) _
  rw [Nat.mul_comm 256]

end Cert.SiluBwdIdeal.Rows
-- ==== Proof.SiluGradRef.lean ====
module

public import proofs.«01_k».proof.Proof.SiluGradSpec
public import proofs.«01_k».proof.Proof.GateRef
public import proofs.«01_k».proof.Proof.Gen.SiluBwdRefIdeal.Run
public import Idealize.ShloMosaic.Lib.Pipeline.ValueKit
/-! # The three gradients as the reference computes them -/
@[expose] public section

set_option maxRecDepth 16384
noncomputable section
open Idealize.ShloMosaic Idealize.ShloMosaic.TcCoe Idealize.SL.Sem
namespace Cert.SiluBwdRefIdeal.Entries
open Cert.SiluBwdRefIdeal Cert.SiluBwdRefIdeal.Gen Cert.Silus
open Cert.Gate (flat flat_of)
open Cert.ReferenceIdeal.Entries (sum_columns)

variable (X U : FVec Ideal S8192x5632 .bf16) (A : FVec Ideal S8192x2816 .bf16) (K : FVec Ideal S3x5632 .f32)

/-- The convolution's output, the cotangent, the gates, the gated half and the logistic function of the gates. -/
def UR : FVec Ideal S2x4096x5632 .f32 := shapeCast _ (extf .f32 U bitsLt_bf16_f32) shapeCasts_S8192x5632_S2x4096x5632
def AR : FVec Ideal S2x4096x2816 .f32 := shapeCast _ (extf .f32 A bitsLt_bf16_f32) shapeCasts_S8192x2816_S2x4096x2816
def GG : FVec Ideal S2x4096x2816 .f32 := extractStridedSlice S2x4096x2816 ![0, 0, 0] (UR U) slices_S2x4096x5632_S2x4096x2816_0_0_0
def VV : FVec Ideal S2x4096x2816 .f32 := extractStridedSlice S2x4096x2816 ![0, 0, 2816] (UR U) slices_S2x4096x5632_S2x4096x2816_0_0_2816
def ones : FVec Ideal S2x4096x2816 .f32 := broadcastInDim S2x4096x2816 ![] bcast_S_S2x4096x2816 (constant S_ .f32 0x3F800000#32)
def SS : FVec Ideal S2x4096x2816 .f32 := Host.divf ones (addf ones (Host.exp (Host.negf (GG U))))

/-- The two halves of the gated unit's gradient, and both side by side. -/
def half1 : FVec Ideal S2x4096x2816 .f32 :=
  addf (mulf (mulf (AR A) (VV U)) (SS U)) (mulf (mulf (GG U) (mulf (AR A) (VV U))) (mulf (SS U) (subf ones (SS U))))
def half2 : FVec Ideal S2x4096x2816 .f32 := mulf (mulf (GG U) (SS U)) (AR A)
def DGR : FVec Ideal S2x4096x5632 .f32 :=
  concatenate S2x4096x5632 2 [⟨S2x4096x2816, half1 U A⟩, ⟨S2x4096x2816, half2 U A⟩] concatenates_S2x4096x2816_S2x4096x2816_S2x4096x5632_d2

/-- The padded input and the taps. -/
def ZP : FVec Ideal S2x4098x5632 .f32 :=
  concatenate S2x4098x5632 1 [⟨S2x2x5632, (broadcastInDim S2x2x5632 ![] bcast_S_S2x2x5632 (constant S_ .f32 0x00000000#32))⟩, ⟨S2x4096x5632, (shapeCast _ (extf .f32 X bitsLt_bf16_f32) shapeCasts_S8192x5632_S2x4096x5632)⟩] concatenates_S2x2x5632_S2x4096x5632_S2x4098x5632_d1
def W0 : FVec Ideal S2x4096x5632 .f32 := broadcastInDim S2x4096x5632 ![0, 1, 2] bcast_S1x1x5632_S2x4096x5632_0_1_2 (broadcastInDim S1x1x5632 ![2] bcast_S5632_S1x1x5632_2 (shapeCast _ (extractStridedSlice S1x5632 ![0, 0] K slices_S3x5632_S1x5632_0_0) shapeCasts_S1x5632_S5632))
def W1 : FVec Ideal S2x4096x5632 .f32 := broadcastInDim S2x4096x5632 ![0, 1, 2] bcast_S1x1x5632_S2x4096x5632_0_1_2 (broadcastInDim S1x1x5632 ![2] bcast_S5632_S1x1x5632_2 (shapeCast _ (extractStridedSlice S1x5632 ![1, 0] K slices_S3x5632_S1x5632_1_0) shapeCasts_S1x5632_S5632))
def W2 : FVec Ideal S2x4096x5632 .f32 := broadcastInDim S2x4096x5632 ![0, 1, 2] bcast_S1x1x5632_S2x4096x5632_0_1_2 (broadcastInDim S1x1x5632 ![2] bcast_S5632_S1x1x5632_2 (shapeCast _ (extractStridedSlice S1x5632 ![2, 0] K slices_S3x5632_S1x5632_2_0) shapeCasts_S1x5632_S5632))

/-- The gradient of the input, the tap sums, and the three results. -/
def DZR : FVec Ideal S2x4096x5632 .f32 :=
  extractStridedSlice S2x4096x5632 ![0, 2, 0] (addf (addf (pad S2x4098x5632 ![0, 2, 0] ![0, 0, 0] ![0, 0, 0] (mulf (DGR U A) (W2 K)) (constant S_ .f32 0x00000000#32) pads_S2x4096x5632_S2x4098x5632_000_200_000 h_S_) (pad S2x4098x5632 ![0, 1, 0] ![0, 1, 0] ![0, 0, 0] (mulf (DGR U A) (W1 K)) (constant S_ .f32 0x00000000#32) pads_S2x4096x5632_S2x4098x5632_000_110_000 h_S_)) (pad S2x4098x5632 ![0, 0, 0] ![0, 2, 0] ![0, 0, 0] (mulf (DGR U A) (W0 K)) (constant S_ .f32 0x00000000#32) pads_S2x4096x5632_S2x4098x5632_000_020_000 h_S_)) slices_S2x4098x5632_S2x4096x5632_0_2_0
def DXR : FVec Ideal S8192x5632 .bf16 := truncf .bf16 (shapeCast _ (DZR U A K) shapeCasts_S2x4096x5632_S8192x5632) bitsLt_bf16_f32
def allRows (Z : FVec Ideal S2x4096x5632 .f32) : FVec Ideal S5632 .f32 :=
  Host.reduceAdd (shapeCast _ (Host.reduceAdd Z (constant S_ .f32 0x00000000#32) reducesTo_S2x4096x5632_S5632_d0_1 h_S_) shapeCasts_S5632_S1x1x5632) (constant S_ .f32 0x00000000#32) reducesTo_S1x1x5632_S5632_d0_1 h_S_
def tapSum (Z : FVec Ideal S2x4096x5632 .f32) : FVec Ideal S1x5632 .f32 :=
  broadcastInDim S1x5632 ![1] bcast_S5632_S1x5632_1 (allRows (mulf Z (DGR U A)))
def DWR : FVec Ideal S3x5632 .f32 :=
  addf (addf (pad S3x5632 ![2, 0] ![0, 0] ![0, 0] (tapSum U A (extractStridedSlice S2x4096x5632 ![0, 2, 0] (ZP X) slices_S2x4098x5632_S2x4096x5632_0_2_0)) (constant S_ .f32 0x00000000#32) pads_S1x5632_S3x5632_200_000 h_S_) (pad S3x5632 ![1, 0] ![1, 0] ![0, 0] (tapSum U A (extractStridedSlice S2x4096x5632 ![0, 1, 0] (ZP X) slices_S2x4098x5632_S2x4096x5632_0_1_0)) (constant S_ .f32 0x00000000#32) pads_S1x5632_S3x5632_110_000 h_S_)) (pad S3x5632 ![0, 0] ![2, 0] ![0, 0] (tapSum U A (extractStridedSlice S2x4096x5632 ![0, 0, 0] (ZP X) slices_S2x4098x5632_S2x4096x5632_0_0_0)) (constant S_ .f32 0x00000000#32) pads_S1x5632_S3x5632_020_000 h_S_)
def DBR : FVec Ideal S1x5632 .f32 := shapeCast _ (allRows (DGR U A)) shapeCasts_S5632_S1x5632

/-- The arrays as functions of plain numbers. -/
abbrev wide (Z : FVec Ideal S8192x5632 .bf16) : ℕ → ℕ → EReal := flat (a := 8192) (b := 5632) Z
abbrev narrow (Z : FVec Ideal S8192x2816 .bf16) : ℕ → ℕ → EReal := flat (a := 8192) (b := 2816) Z
abbrev taps (Z : FVec Ideal S3x5632 .f32) : ℕ → ℕ → EReal := flat (a := 3) (b := 5632) Z

theorem UR_at (b : Fin 2) (s : Fin 4096) (e : Fin 5632) (n j : ℕ) (hn : n = 4096 * b + s) (hj : j = e) : UR U (ix3 b s e) = (wide U) n j := by
  pointwise [UR]
  exact flat_of U _ _ _ _ (by show n = (b : ℕ) * 4096 + s; omega) hj
theorem AR_at (b : Fin 2) (s : Fin 4096) (e : Fin 2816) (n : ℕ) (hn : n = 4096 * b + s) : AR A (ix3 b s e) = (narrow A) n e := by
  pointwise [AR]
  exact flat_of A _ _ _ _ (by show n = (b : ℕ) * 4096 + s; omega) rfl
theorem GG_at (b : Fin 2) (s : Fin 4096) (e : Fin 2816) (n : ℕ) (hn : n = 4096 * b + s) : GG U (ix3 b s e) = (wide U) n e := by
  pointwise [GG]
  exact UR_at U _ _ _ _ _ hn rfl
theorem VV_at (b : Fin 2) (s : Fin 4096) (e : Fin 2816) (n : ℕ) (hn : n = 4096 * b + s) : VV U (ix3 b s e) = (wide U) n (2816 + e) := by
  pointwise [VV]
  exact UR_at U _ _ _ _ _ hn rfl
theorem SS_at (b : Fin 2) (s : Fin 4096) (e : Fin 2816) (n : ℕ) (hn : n = 4096 * b + s) : SS U (ix3 b s e) = Ideal.logistic ((wide U) n e) := by
  rw [← GG_at U b s e n hn]
  pointwise [SS, ones, Ideal.logistic]

/-- The gated unit's gradient at an entry. -/
theorem DGR_at (hF : Bounded (wide U) (narrow A)) (b : Fin 2) (s : Fin 4096) (e : Fin 5632) (n : ℕ) (hn : n = 4096 * b + s) :
    DGR U A (ix3 b s e) = DG (wide U) (narrow A) n e := by
  have he := e.2
  pointwise [DGR]
  unfold DG
  by_cases h : (e : ℕ) < 2816
  · refine (dif_pos h).trans (Eq.trans ?_ (if_pos h).symm)
    refine Eq.trans ?_ (slope _ _ _ (hF.cot n e) (hF.gated n (2816 + e) (by omega)))
    pointwise [half1, ones]
    rw [AR_at A _ _ _ n hn, VV_at U _ _ _ n hn, SS_at U _ _ _ n hn, GG_at U _ _ _ n hn]
  · refine (dif_neg h).trans (Eq.trans ?_ (if_neg h).symm)
    pointwise [half2]
    rw [AR_at A _ _ _ n hn, SS_at U _ _ _ n hn, GG_at U _ _ _ n hn, mul_comm]

theorem W0_at (b : Fin 2) (s : Fin 4096) (d : Fin 5632) : W0 K (ix3 b s d) = (taps K) 0 d := by
  pointwise [W0]
  exact flat_of K _ _ _ _ rfl rfl
theorem W1_at (b : Fin 2) (s : Fin 4096) (d : Fin 5632) : W1 K (ix3 b s d) = (taps K) 1 d := by
  pointwise [W1]
  exact flat_of K _ _ _ _ rfl rfl
theorem W2_at (b : Fin 2) (s : Fin 4096) (d : Fin 5632) : W2 K (ix3 b s d) = (taps K) 2 d := by
  pointwise [W2]
  exact flat_of K _ _ _ _ rfl rfl

/-- Row `s` of the padded input is the input `j` rows before row `s + j - 2`. -/
theorem ZP_at (b : Fin 2) (s : Fin 4098) (d : Fin 5632) (n j : ℕ) (hj : j ≤ 2) (hs : s < 4096 + 2 - j) (h2 : 2 ≤ (s : ℕ) + j)
    (hn : n = 4096 * b + s + j - 2) : ZP X (ix3 b s d) = Xs (wide X) j n d := by
  have hb := b.2
  pointwise [ZP]
  unfold Xs
  by_cases h : (s : ℕ) < 2
  · exact (dif_pos h).trans (if_pos (by omega)).symm
  · refine (dif_neg h).trans (Eq.trans ?_ (if_neg (by omega)).symm)
    exact flat_of X _ _ _ _ (by show n - j = (b : ℕ) * 4096 + ((s : ℕ) - 2); omega) rfl

theorem later_at (hF : Bounded (wide U) (narrow A)) (b : Fin 2) (s : Fin 4096) (d : Fin 5632) (n j : ℕ) (hn : n + j = 4096 * b + s) (hs : j ≤ (s : ℕ)) :
    DGR U A (ix3 b s d) = DUs (wide U) (narrow A) j n d := by
  have hb := b.2
  unfold DUs
  rw [if_neg (by omega)]
  exact DGR_at U A hF b s d (n + j) hn

theorem DZR_at (hF : Bounded (wide U) (narrow A)) (b : Fin 2) (s : Fin 4096) (d : Fin 5632) (n : ℕ) (hn : n = 4096 * b + s) :
    DZR U A K (ix3 b s d) = DX (wide U) (narrow A) (taps K) n d := by
  have hs := s.2
  pointwise [DZR]
  unfold DX
  refine congrArg₂ (· + ·) (congrArg₂ (· + ·) ?_ ?_) ?_
  · rw [later_at U A hF b s d n 0 hn (by omega), W2_at, mul_comm]
  · by_cases h : (s : ℕ) + 1 < 4096
    · refine (dif_pos (by omega)).trans ?_
      rw [later_at U A hF b _ d n 1 (by show n + 1 = 4096 * (b : ℕ) + (2 + s - 1); omega) (by show 1 ≤ 2 + (s : ℕ) - 1; omega), W1_at, mul_comm]
    · refine (dif_neg (by omega)).trans ?_
      unfold DUs; rw [if_pos (by omega), mul_zero]
  · by_cases h : 2 + (s : ℕ) < 4096
    · refine (dif_pos h).trans ?_
      rw [later_at U A hF b _ d n 2 (by show n + 2 = 4096 * (b : ℕ) + (2 + s); omega) (by show 2 ≤ 2 + (s : ℕ); omega), W0_at, mul_comm]
    · refine (dif_neg h).trans ?_
      unfold DUs; rw [if_pos (by omega), mul_zero]

theorem DXR_at (hF : Bounded (wide U) (narrow A)) (n : Fin 8192) (e : Fin 5632) : DXR U A K (ix2 n e) = DX (wide U) (narrow A) (taps K) n e := by
  have hn : (n : ℕ) = 4096 * ((n : ℕ) / 4096) + (n : ℕ) % 4096 := by omega
  pointwise [DXR]
  exact DZR_at U A K hF _ _ _ n hn

theorem allRows_at (Z) (d : Fin 5632) : allRows Z (ix1 d) = ∑ b : Fin 2, ∑ s : Fin 4096, Z (ix3 b s d) := by
  refine (sum_columns _ _ _ d).trans ?_
  pointwise
  rw [Finset.sum_const, Finset.sum_const]
  show 1 • (1 • Ideal.hostReduceAdd reducesTo_S2x4096x5632_S5632_d0_1 Z 0 (ix1 d)) = _
  rw [one_smul, one_smul]
  refine (sum_columns _ _ _ d).trans ?_
  rw [zero_add]

theorem tapSum_at (Z) (p : Fin 1) (d : Fin 5632) :
    tapSum U A Z (ix2 p d) = ∑ b : Fin 2, ∑ s : Fin 4096, Z (ix3 b s d) * DGR U A (ix3 b s d) := by
  pointwise [tapSum]
  exact allRows_at _ d

/-- The sum for the tap that reads `j` rows earlier. -/
theorem tap_at (hF : Bounded (wide U) (narrow A)) (i : ℕ) (hi : i ≤ 2) (h : S2x4098x5632.Slices ![0, i, 0] S2x4096x5632) (p : Fin 1) (d : Fin 5632) :
    tapSum U A (extractStridedSlice S2x4096x5632 ![0, i, 0] (ZP X) h) (ix2 p d) = ∑ n : Fin 8192, tapRow (wide X) (wide U) (narrow A) i n d := by
  refine (tapSum_at U A _ p d).trans ?_
  pointwise
  refine Fin.sum_mul_add_congr fun b s hl => ?_
  have hs := s.2
  show _ = tapRow (wide X) (wide U) (narrow A) i (b * 4096 + s) d
  unfold tapRow
  rw [later_at U A hF b s d (b * 4096 + s) 0 (by omega) (by omega), mul_comm]
  rw [ZP_at X b _ d (b * 4096 + s) (2 - i) (by omega) (by show i + (s : ℕ) < _; omega) (by show 2 ≤ i + (s : ℕ) + (2 - i); omega) (by show (b : ℕ) * 4096 + s = 4096 * b + (i + s) + (2 - i) - 2; omega)]

/-- The gradient of the taps at an entry. -/
theorem DWR_at (hF : Bounded (wide U) (narrow A)) (i : Fin 3) (d : Fin 5632) : DWR X U A (ix2 i d) = ∑ n : Fin 8192, tapRow (wide X) (wide U) (narrow A) i n d := by
  pointwise [DWR]
  have hi := i.2
  rcases (show (i : ℕ) = 0 ∨ (i : ℕ) = 1 ∨ (i : ℕ) = 2 by omega) with h | h | h
  · rw [dif_neg (by omega), dif_neg (by omega), dif_pos (by omega), zero_add, zero_add]
    exact (tap_at X U A hF 0 (by omega) _ _ d).trans (by rw [h])
  · rw [dif_neg (by omega), dif_pos (by omega), dif_neg (by omega), zero_add, add_zero]
    exact (tap_at X U A hF 1 (by omega) _ _ d).trans (by rw [h])
  · rw [dif_pos (by omega), dif_neg (by omega), dif_neg (by omega), add_zero, add_zero]
    exact (tap_at X U A hF 2 (by omega) _ _ d).trans (by rw [h])

/-- The gradient of the bias at an entry. -/
theorem DBR_at (hF : Bounded (wide U) (narrow A)) (i : Fin 1) (d : Fin 5632) : DBR U A (ix2 i d) = ∑ n : Fin 8192, DUs (wide U) (narrow A) 0 n d := by
  pointwise [DBR]
  refine (allRows_at _ d).trans (Fin.sum_mul_add_congr fun b s hl => ?_)
  show _ = DUs (wide U) (narrow A) 0 (b * 4096 + s) d
  exact later_at U A hF b s d _ 0 (by omega) (by omega)

end Cert.SiluBwdRefIdeal.Entries
-- ==== Proof.SiluGradFinite.lean ====
module

public import proofs.«01_k».proof.Pre_finite
public import proofs.«01_k».proof.Proof.Gen.Pre_finite
public import proofs.«01_k».proof.Proof.SiluGradSpec
public import Idealize.ShloMosaic.Lib.Pipeline.ValueKit
/-! # What the condition on the gradient of the gated unit says of its arrays -/
@[expose] public section

set_option maxRecDepth 16384
noncomputable section
open Idealize.ShloMosaic
namespace Cert.Silus
open Cert.Gate (flat flat_of)

/-- A value strictly between the infinities is neither. -/
theorem between (x : EReal) (h : FloatOps.cmpf (F := Ideal) (φ := .f32) .olt x (FloatOps.ofBits (F := Ideal) .f32 0x7F800000#32) = 1#1)
    (h' : FloatOps.cmpf (F := Ideal) (φ := .f32) .ogt x (FloatOps.ofBits (F := Ideal) .f32 0xFF800000#32) = 1#1) : x ≠ ⊤ ∧ x ≠ ⊥ := by
  have t : Ideal.ofBits .f32 0x7F800000#32 = ⊤ := by simp [Ideal.ofBits, Ideal.ieee]
  have b : Ideal.ofBits .f32 0xFF800000#32 = ⊥ := by simp [Ideal.ofBits, Ideal.ieee]
  change Ideal.cmp .olt x (Ideal.ofBits .f32 0x7F800000#32) = 1#1 at h
  change Ideal.cmp .ogt x (Ideal.ofBits .f32 0xFF800000#32) = 1#1 at h'
  rw [t] at h
  rw [b] at h'
  constructor
  · rintro rfl; revert h; simp [Ideal.cmp]
  · rintro rfl; revert h'; simp [Ideal.cmp]

/-- The condition: no gated entry and no entry of the cotangent is an infinity. -/
theorem bounded_of (X U : FVec Ideal Cert.Pre_finite.S8192x5632 .bf16) (A : FVec Ideal Cert.Pre_finite.S8192x2816 .bf16) (K : FVec Ideal Cert.Pre_finite.S3x5632 .f32)
    (h : Cert.Pre_finite.fn (F := Ideal) X U A K = fun _ => 1#1) : Bounded (flat (a := 8192) (b := 5632) U) (flat (a := 8192) (b := 2816) A) := by
  have andi_one (a b : BitVec 1) : IntOp.andi a b = 1#1 ↔ a = 1#1 ∧ b = 1#1 := by revert a b; decide
  have pre := fun y => congrFun h y
  simp only [Cert.Pre_finite.fn, andi, andi_one] at pre
  constructor
  · intro n e he
    by_cases hb : n < 8192 ∧ e < 5632
    · have p := pre (ix2 (⟨n, hb.1⟩ : Fin 8192) (⟨e - 2816, by omega⟩ : Fin 2816))
      have q : extractStridedSlice Cert.Pre_finite.S8192x2816 ![0, 2816] U Cert.Pre_finite.Facts.slices_S8192x5632_S8192x2816_0_2816
          (ix2 (⟨n, hb.1⟩ : Fin 8192) (⟨e - 2816, by omega⟩ : Fin 2816)) = flat (a := 8192) (b := 5632) U n e := by
        pointwise []
        exact (flat_of (a := 8192) (b := 5632) U _ _ _ _ (by first | rfl | omega) (by show e = 2816 + (e - 2816); omega))
      rw [← q]
      exact between _ p.1.1.1 p.1.1.2
    · unfold flat; rw [dif_neg hb]; exact ⟨EReal.zero_ne_top, EReal.zero_ne_bot⟩
  · intro n e
    by_cases hb : n < 8192 ∧ e < 2816
    · have p := pre (ix2 (⟨n, hb.1⟩ : Fin 8192) (⟨e, hb.2⟩ : Fin 2816))
      unfold flat; rw [dif_pos hb]
      exact between _ p.1.2 p.2
    · unfold flat; rw [dif_neg hb]; exact ⟨EReal.zero_ne_top, EReal.zero_ne_bot⟩

end Cert.Silus
-- ==== Proof.SiluBwdSame.lean ====
module

public import proofs.«01_k».proof.Defs
public import proofs.«01_k».proof.Proof.SiluGradDx
public import proofs.«01_k».proof.Proof.SiluGradDw
public import proofs.«01_k».proof.Proof.SiluGradDb
public import proofs.«01_k».proof.Proof.SiluGradRef
public import proofs.«01_k».proof.Proof.SiluGradFinite
public import Idealize.ShloMosaic.Lib.Claim
/-! # SiluBwd: kernel and reference of the gradient of the convolution with the gated unit give the same arrays -/
@[expose] public section

set_option maxRecDepth 16384
noncomputable section
open Idealize.ShloMosaic Idealize.ShloMosaic.TcCoe Idealize.SL.Sem
namespace Cert.SiluBwdIdeal.Rows
open Cert.SiluBwdIdeal Cert.SiluBwdIdeal.Gen Cert.Silus

local instance : Cert.SiluBwdIdeal.Facts := Cert.SiluBwdIdeal.Gen.facts
local instance : Cert.SiluBwdRefIdeal.Facts := Cert.SiluBwdRefIdeal.Gen.facts
local instance : Cert.Pre_finite.Facts := Cert.Pre_finite.Gen.facts

/-- The reference ends, keeps its arguments, and has no counters that could be left standing. -/
theorem frameR : Cert.quiescent_SiluBwdRefIdeal := by
  intro m g _
  refine θ_run_mono (Cert.SiluBwdRefIdeal.Value.run m g) fun r h => ⟨fun c => (h c).2.2.2, ?_⟩
  exact sem_eq_zero_of_no_sems rfl _

section
variable (m' : (ℓ : Loc Cert.SiluBwdRefIdeal.nD Cert.SiluBwdRefIdeal.τ Cert.SiluBwdRefIdeal.sig) → Buf (Elt Ideal) ℓ) (c : Dev Cert.SiluBwdRefIdeal.nD)

/-- The reference's first array under its short name. -/
theorem first : Cert.SiluBwdRefIdeal.Value.res_main_v78 m' c
    = Cert.SiluBwdRefIdeal.Entries.DXR (m' ((c : Thread Cert.SiluBwdRefIdeal.nD Cert.SiluBwdRefIdeal.τ).loc Cert.SiluBwdRefIdeal.main_arg1)) (m' ((c : Thread Cert.SiluBwdRefIdeal.nD Cert.SiluBwdRefIdeal.τ).loc Cert.SiluBwdRefIdeal.main_arg2)) (m' ((c : Thread Cert.SiluBwdRefIdeal.nD Cert.SiluBwdRefIdeal.τ).loc Cert.SiluBwdRefIdeal.main_arg3)) := by
  rfl

/-- The reference's second array under its short name. -/
theorem second : Cert.SiluBwdRefIdeal.Value.res_main_v72 m' c
    = Cert.SiluBwdRefIdeal.Entries.DWR (m' ((c : Thread Cert.SiluBwdRefIdeal.nD Cert.SiluBwdRefIdeal.τ).loc Cert.SiluBwdRefIdeal.main_arg0)) (m' ((c : Thread Cert.SiluBwdRefIdeal.nD Cert.SiluBwdRefIdeal.τ).loc Cert.SiluBwdRefIdeal.main_arg1)) (m' ((c : Thread Cert.SiluBwdRefIdeal.nD Cert.SiluBwdRefIdeal.τ).loc Cert.SiluBwdRefIdeal.main_arg2)) := by
  rfl
end

/-- Call and reference give the same three arrays when no gated entry and no cotangent is an infinity. -/
theorem same : Cert.algebraic_SiluBwdIdeal_SiluBwdRefIdeal_pre_finite := by
  pair_intro
  · run_from Cert.SiluBwdIdeal.Value.run_blocks m g
  · refine θ_run_mono (Cert.SiluBwdRefIdeal.Value.run m' g') fun r h c => ?_
    have B := bounded_of _ _ _ _ (hpre c)
    refine ⟨(h c).1.trans ((first m' c).trans ?_), (h c).2.1.trans ((second m' c).trans ?_),
      (Eq.trans (b := Cert.SiluBwdRefIdeal.Entries.DBR (m' ((c : Thread Cert.SiluBwdRefIdeal.nD Cert.SiluBwdRefIdeal.τ).loc Cert.SiluBwdRefIdeal.main_arg1)) (m' ((c : Thread Cert.SiluBwdRefIdeal.nD Cert.SiluBwdRefIdeal.τ).loc Cert.SiluBwdRefIdeal.main_arg2))) (h c).2.2.1 ?_), (h c).2.2.2⟩
    · rw [final7, (hagree c).2.1, (hagree c).2.2.1, (hagree c).2.2.2]
      funext i
      idx_vars i
      exact Cert.SiluBwdRefIdeal.Entries.DXR_at _ _ _ B i0 i1
    · rw [final8, (hagree c).1, (hagree c).2.1, (hagree c).2.2.1]
      funext i
      idx_vars i
      exact Cert.SiluBwdRefIdeal.Entries.DWR_at _ _ _ B i0 i1
    · rw [final9, (hagree c).2.1, (hagree c).2.2.1]
      funext i
      idx_vars i
      exact Cert.SiluBwdRefIdeal.Entries.DBR_at _ _ B i0 i1

end Cert.SiluBwdIdeal.Rows
-- ==== Proof.SiluBlocks.lean ====
module

public import proofs.«01_k».proof.Proof.SiluSpec
public import proofs.«01_k».proof.Proof.Gen.SiluIdeal.Value
public import Idealize.ShloMosaic.Lib.Pipeline.ValueKit
/-! # The convolution and the gated unit on one chunk of 256 columns of a tile -/
@[expose] public section

set_option maxRecDepth 16384
noncomputable section
open Idealize.ShloMosaic Idealize.SL.Sem
namespace Cert.SiluIdeal.Rows
open Cert.SiluIdeal Cert.SiluIdeal.Gen Cert.Silus

/-- The test "first tile of a sequence", as the body computes it. -/
def atStart (i : grid0.Coords) : BitVec 1 :=
  Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32

/-- Halo and tile of a chunk, one under the other. -/
def stacked (first : BitVec 1) (h : Vec Ideal S16x256 .bf16) (x : Vec Ideal S256x256 .bf16) : FVec Ideal S272x256 .f32 :=
  concatenate S272x256 0 [⟨S16x256, Scalar.select first (broadcast S16x256 (Scalar.ofBits .f32 0x00000000#32)) (extf .f32 h bitsLt_bf16_f32)⟩,
    ⟨S256x256, extf .f32 x bitsLt_bf16_f32⟩] concatenates_S16x256_S256x256_S272x256_d0

/-- The convolution of a chunk. -/
def conv (first : BitVec 1) (h : Vec Ideal S16x256 .bf16) (x : Vec Ideal S256x256 .bf16) (p q r b : Vec Ideal S1x256 .f32) :
    FVec Ideal S256x256 .f32 :=
  extractStridedSlice S256x256 ![16, 0] (addf (addf (addf
    (mulf (broadcastTo S272x256 p broadcasts_S1x256_S272x256) (dynamicRotate 0 2#32 none (stacked first h x) rotates_S272x256_d0))
    (mulf (broadcastTo S272x256 q broadcasts_S1x256_S272x256) (dynamicRotate 0 1#32 none (stacked first h x) rotates_S272x256_d0)))
    (mulf (broadcastTo S272x256 r broadcasts_S1x256_S272x256) (stacked first h x)))
    (broadcastTo S272x256 b broadcasts_S1x256_S272x256)) slices_S272x256_o16_0_S256x256

/-- The gated unit of a chunk. -/
def unit (g v : FVec Ideal S256x256 .f32) : FVec Ideal S256x256 .bf16 :=
  truncf .bf16 (mulf (mulf g (divf (broadcast S256x256 (Scalar.ofBits .f32 0x3F800000#32))
    (addf (broadcast S256x256 (Scalar.ofBits .f32 0x3F800000#32)) (exp (subf (broadcast S256x256 (Scalar.ofBits .f32 0x00000000#32)) g))))) v)
    bitsLt_bf16_f32

/-- The blocks of tile `t` are the rows of the arguments that belong to it. -/
structure Tile (t : ℕ) (X W : ℕ → ℕ → EReal) (b : ℕ → EReal) (x0 : Vec Ideal S256x5632 .bf16) (x1 : Vec Ideal S16x5632 .bf16)
    (x2 : Vec Ideal S3x5632 .f32) (x3 : Vec Ideal S1x5632 .f32) : Prop where
  cur : ∀ (a : Fin 256) (e : Fin 5632), x0 (ix2 a e) = X (256 * t + a) e
  prev : t % 16 ≠ 0 → ∀ (a : Fin 16) (e : Fin 5632), x1 (ix2 a e) = X (256 * t + a - 16) e
  taps : ∀ (k : Fin 3) (e : Fin 5632), x2 (ix2 k e) = W k e
  bias : ∀ (k : Fin 1) (e : Fin 5632), x3 (ix2 k e) = b e

variable {t : ℕ} {X W : ℕ → ℕ → EReal} {b : ℕ → EReal} {x0 : Vec Ideal S256x5632 .bf16} {x1 : Vec Ideal S16x5632 .bf16}
  {x2 : Vec Ideal S3x5632 .f32} {x3 : Vec Ideal S1x5632 .f32}

/-- Reading a chunk of a matrix. -/
theorem chunk_at {φ : EltTy} {n c : ℕ} (P : Vec Ideal (⟨2, ![n, 5632]⟩ : Shape) φ) (k off : ℕ) (inb) (p : Fin c) (d : Fin 256)
    (r : Fin n) (e : Fin 5632) (hr : (r : ℕ) = k + p) (he : (e : ℕ) = off + d) :
    View.ld P (Rect.unit ![k, off] ![c, 256] inb) (ix2 p d) = P (ix2 r e) := by
  refine View.ld_unit_apply_of P _ _ inb _ _ fun a => ?_
  match a with
  | ⟨0, _⟩ => exact hr
  | ⟨1, _⟩ => exact he

section

/-- The pieces of the chunk that starts at column `off`. -/
abbrev cH (x1 : Vec Ideal S16x5632 .bf16) (off : ℕ)
    (ih : ∀ a : Fin S16x5632.rank, (![0, off] : Fin 2 → ℕ) a + S16x256.size a ≤ S16x5632.size a) : Vec Ideal S16x256 .bf16 := View.ld x1 (Rect.unit (s := S16x5632) ![0, off] S16x256.size ih)
abbrev cX (x0 : Vec Ideal S256x5632 .bf16) (off : ℕ)
    (ix : ∀ a : Fin S256x5632.rank, (![0, off] : Fin 2 → ℕ) a + S256x256.size a ≤ S256x5632.size a) : Vec Ideal S256x256 .bf16 := View.ld x0 (Rect.unit (s := S256x5632) ![0, off] S256x256.size ix)
abbrev cW (x2 : Vec Ideal S3x5632 .f32) (k off : ℕ)
    (iw : ∀ a : Fin S3x5632.rank, (![k, off] : Fin 2 → ℕ) a + S1x256.size a ≤ S3x5632.size a) : Vec Ideal S1x256 .f32 := View.ld x2 (Rect.unit (s := S3x5632) ![k, off] S1x256.size iw)
abbrev cB (x3 : Vec Ideal S1x5632 .f32) (off : ℕ)
    (ib : ∀ a : Fin S1x5632.rank, (![0, off] : Fin 2 → ℕ) a + S1x256.size a ≤ S1x5632.size a) : Vec Ideal S1x256 .f32 := View.ld x3 (Rect.unit (s := S1x5632) ![0, off] S1x256.size ib)

theorem stacked_at (off : ℕ) (hoff : off + 256 ≤ 5632)
    (ih : ∀ a : Fin S16x5632.rank, (![0, off] : Fin 2 → ℕ) a + S16x256.size a ≤ S16x5632.size a) (ix : ∀ a : Fin S256x5632.rank, (![0, off] : Fin 2 → ℕ) a + S256x256.size a ≤ S256x5632.size a)
    (T : Tile t X W b x0 x1 x2 x3) (i : grid0.Coords) (hf : atStart i = if t % 16 = 0 then 1#1 else 0#1)
    (j : ℕ) (hj : j ≤ 2) (a : Fin 256) (r : Fin 272) (hr : (r : ℕ) + j = 16 + a) (d : Fin 256) :
    stacked (atStart i) (cH x1 off ih) (cX x0 off ix) (ix2 r d) = Xs X j (256 * t + a) (off + d) := by
  have ha := a.2
  have hd := d.2
  generalize hH : cH x1 off ih = H
  generalize hX : cX x0 off ix = C
  unfold Xs
  pointwise [stacked]
  rw [hf]
  by_cases h : (r : ℕ) < 16
  · refine (dif_pos h).trans ?_
    by_cases ht : t % 16 = 0
    · rw [if_pos ht]; exact (if_pos (by omega)).symm
    · rw [if_neg ht]
      refine Eq.trans ?_ (if_neg (by omega)).symm
      subst hH
      refine (chunk_at x1 0 off ih ⟨r, h⟩ d ⟨r, h⟩ ⟨off + d, by omega⟩ (by simp) rfl).trans ((T.prev ht _ _).trans ?_)
      exact congrArg₂ X (by show 256 * t + (r : ℕ) - 16 = _; omega) rfl
  · refine (dif_neg h).trans (Eq.trans ?_ (if_neg (by omega)).symm)
    subst hX
    refine (chunk_at x0 0 off ix ⟨(r : ℕ) - 16, by omega⟩ d ⟨(r : ℕ) - 16, by omega⟩ ⟨off + d, by omega⟩ (by simp) rfl).trans ((T.cur _ _).trans ?_)
    exact congrArg₂ X (by show 256 * t + ((r : ℕ) - 16) = _; omega) rfl

/-- The convolution of a chunk at an entry. -/
theorem conv_at (off : ℕ) (hoff : off + 256 ≤ 5632)
    (ih : ∀ a : Fin S16x5632.rank, (![0, off] : Fin 2 → ℕ) a + S16x256.size a ≤ S16x5632.size a) (ix : ∀ a : Fin S256x5632.rank, (![0, off] : Fin 2 → ℕ) a + S256x256.size a ≤ S256x5632.size a)
    (ip : ∀ a : Fin S3x5632.rank, (![0, off] : Fin 2 → ℕ) a + S1x256.size a ≤ S3x5632.size a)
    (iq : ∀ a : Fin S3x5632.rank, (![1, off] : Fin 2 → ℕ) a + S1x256.size a ≤ S3x5632.size a)
    (ir : ∀ a : Fin S3x5632.rank, (![2, off] : Fin 2 → ℕ) a + S1x256.size a ≤ S3x5632.size a)
    (ib : ∀ a : Fin S1x5632.rank, (![0, off] : Fin 2 → ℕ) a + S1x256.size a ≤ S1x5632.size a)
    (T : Tile t X W b x0 x1 x2 x3) (i : grid0.Coords) (hf : atStart i = if t % 16 = 0 then 1#1 else 0#1)
    (a : Fin 256) (d : Fin 256) :
    conv (atStart i) (cH x1 off ih) (cX x0 off ix) (cW x2 0 off ip) (cW x2 1 off iq) (cW x2 2 off ir) (cB x3 off ib) (ix2 a d)
      = CV X W b (256 * t + a) (off + d) := by
  have ha := a.2
  have hd := d.2
  have e : ∀ p q r c, conv (atStart i) (cH x1 off ih) (cX x0 off ix) p q r c (ix2 a d)
      = p (ix2 0 d) * stacked (atStart i) (cH x1 off ih) (cX x0 off ix) (ix2 ⟨(16 + (a : ℕ) + 272 - 2) % 272, by omega⟩ d)
        + q (ix2 0 d) * stacked (atStart i) (cH x1 off ih) (cX x0 off ix) (ix2 ⟨(16 + (a : ℕ) + 272 - 1) % 272, by omega⟩ d)
        + r (ix2 0 d) * stacked (atStart i) (cH x1 off ih) (cX x0 off ix) (ix2 ⟨16 + (a : ℕ), by omega⟩ d) + c (ix2 0 d) := by
    intro p q r c
    unfold conv
    generalize stacked (atStart i) (cH x1 off ih) (cX x0 off ix) = Z
    pointwise
  rw [e, stacked_at off hoff ih ix T i hf 2 (by omega) a _ (by simp only []; omega) d,
    stacked_at off hoff ih ix T i hf 1 (by omega) a _ (by simp only []; omega) d, stacked_at off hoff ih ix T i hf 0 (by omega) a _ rfl d]
  have hw : ∀ (k : ℕ) (hk : k < 3) (iw), cW x2 k off iw (ix2 0 d) = W k (off + d) := fun k hk iw =>
    (chunk_at x2 k off iw 0 d ⟨k, hk⟩ ⟨off + d, by omega⟩ rfl rfl).trans (T.taps _ _)
  rw [hw 0 (by omega), hw 1 (by omega), hw 2 (by omega),
    show cB x3 off ib (ix2 0 d) = b (off + d) from (chunk_at x3 0 off ib 0 d 0 ⟨off + d, by omega⟩ rfl rfl).trans (T.bias _ _)]
  rfl
end

/-- The gated unit at an entry. -/
theorem unit_at (g v : FVec Ideal S256x256 .f32) (i : S256x256.Idx) : unit g v i = g i * Ideal.logistic (g i) * v i := by
  pointwise [unit, Ideal.logistic]
  rw [zero_sub]

end Cert.SiluIdeal.Rows
-- ==== Proof.SiluArrays.lean ====
module

public import proofs.«01_k».proof.Proof.SiluBlocks
public import proofs.«01_k».proof.Proof.GateSpec
/-! # The convolution and the gated unit: the two result arrays of the call -/
@[expose] public section

set_option maxRecDepth 16384
noncomputable section
open Idealize.ShloMosaic Idealize.ShloMosaic.TcCoe Idealize.SL.Sem
namespace Cert.SiluIdeal.Rows
open Cert.SiluIdeal Cert.SiluIdeal.Gen Cert.Silus
open Cert.Gate (flat flat_of)

variable {t : ℕ} {X W : ℕ → ℕ → EReal} {b : ℕ → EReal} {B0 : Vec Ideal S256x5632 .bf16} {B1 : Vec Ideal S16x5632 .bf16}
  {B2 : Vec Ideal S3x5632 .f32} {B3 : Vec Ideal S1x5632 .f32}

/-- A stored chunk of the convolution. -/
theorem store_at (off : ℕ) (hoff : off + 256 ≤ 5632) (ih ix ip iq ir ib) (T : Tile t X W b B0 B1 B2 B3) (i : grid0.Coords)
    (hf : atStart i = if t % 16 = 0 then 1#1 else 0#1) (a : Fin 256) (d : Fin 256) :
    (truncf .bf16 (conv (atStart i) (cH B1 off ih) (cX B0 off ix) (cW B2 0 off ip) (cW B2 1 off iq) (cW B2 2 off ir) (cB B3 off ib))
      bitsLt_bf16_f32 : FVec Ideal S256x256 .bf16) (ix2 a d) = CV X W b (256 * t + a) (off + d) :=
  conv_at off hoff ih ix ip iq ir ib T i hf a d

/-- A stored chunk of the gated unit. -/
theorem gated_at (off off' : ℕ) (hoff : off' + 256 ≤ 5632) (he : off' = 2816 + off) (ih ix ip iq ir ib jh jx jp jq jr jb)
    (T : Tile t X W b B0 B1 B2 B3) (i : grid0.Coords)
    (hf : atStart i = if t % 16 = 0 then 1#1 else 0#1) (a : Fin 256) (d : Fin 256) :
    unit (conv (atStart i) (cH B1 off ih) (cX B0 off ix) (cW B2 0 off ip) (cW B2 1 off iq) (cW B2 2 off ir) (cB B3 off ib))
      (conv (atStart i) (cH B1 off' jh) (cX B0 off' jx) (cW B2 0 off' jp) (cW B2 1 off' jq) (cW B2 2 off' jr) (cB B3 off' jb)) (ix2 a d)
      = GU (CV X W b) (256 * t + a) (off + d) := by
  rw [unit_at, conv_at off (by omega) ih ix ip iq ir ib T i hf a d, conv_at off' hoff jh jx jp jq jr jb T i hf a d, he, Nat.add_assoc]
  rfl

/-- The tile of the convolution. -/
theorem tileU (T : Tile t X W b B0 B1 B2 B3) (i : grid0.Coords) (hf : atStart i = if t % 16 = 0 then 1#1 else 0#1)
    (y : S256x5632.Idx) : out0_4 (F := Ideal) i B0 B1 B2 B3 y = CV X W b (256 * t + (y 0 : ℕ)) (y 1 : ℕ) := by
  unfold out0_4
  canon_tiles x h
  · idx_vars x
    rw [h0, h1]
    exact store_at 5376 (by omega) _ _ _ _ _ _ T i hf _ _
  · idx_vars x
    rw [h0, h1]
    exact store_at 2560 (by omega) _ _ _ _ _ _ T i hf _ _
  · idx_vars x
    rw [h0, h1]
    exact store_at 5120 (by omega) _ _ _ _ _ _ T i hf _ _
  · idx_vars x
    rw [h0, h1]
    exact store_at 2304 (by omega) _ _ _ _ _ _ T i hf _ _
  · idx_vars x
    rw [h0, h1]
    exact store_at 4864 (by omega) _ _ _ _ _ _ T i hf _ _
  · idx_vars x
    rw [h0, h1]
    exact store_at 2048 (by omega) _ _ _ _ _ _ T i hf _ _
  · idx_vars x
    rw [h0, h1]
    exact store_at 4608 (by omega) _ _ _ _ _ _ T i hf _ _
  · idx_vars x
    rw [h0, h1]
    exact store_at 1792 (by omega) _ _ _ _ _ _ T i hf _ _
  · idx_vars x
    rw [h0, h1]
    exact store_at 4352 (by omega) _ _ _ _ _ _ T i hf _ _
  · idx_vars x
    rw [h0, h1]
    exact store_at 1536 (by omega) _ _ _ _ _ _ T i hf _ _
  · idx_vars x
    rw [h0, h1]
    exact store_at 4096 (by omega) _ _ _ _ _ _ T i hf _ _
  · idx_vars x
    rw [h0, h1]
    exact store_at 1280 (by omega) _ _ _ _ _ _ T i hf _ _
  · idx_vars x
    rw [h0, h1]
    exact store_at 3840 (by omega) _ _ _ _ _ _ T i hf _ _
  · idx_vars x
    rw [h0, h1]
    exact store_at 1024 (by omega) _ _ _ _ _ _ T i hf _ _
  · idx_vars x
    rw [h0, h1]
    exact store_at 3584 (by omega) _ _ _ _ _ _ T i hf _ _
  · idx_vars x
    rw [h0, h1]
    exact store_at 768 (by omega) _ _ _ _ _ _ T i hf _ _
  · idx_vars x
    rw [h0, h1]
    exact store_at 3328 (by omega) _ _ _ _ _ _ T i hf _ _
  · idx_vars x
    rw [h0, h1]
    exact store_at 512 (by omega) _ _ _ _ _ _ T i hf _ _
  · idx_vars x
    rw [h0, h1]
    exact store_at 3072 (by omega) _ _ _ _ _ _ T i hf _ _
  · idx_vars x
    rw [h0, h1]
    exact store_at 256 (by omega) _ _ _ _ _ _ T i hf _ _
  · idx_vars x
    rw [h0, h1]
    exact store_at 2816 (by omega) _ _ _ _ _ _ T i hf _ _
  · idx_vars x
    rw [h0, h1]
    exact (store_at 0 (by omega) _ _ _ _ _ _ T i hf _ _).trans (by rw [Nat.zero_add])

/-- The tile of the gated unit. -/
theorem tileO (T : Tile t X W b B0 B1 B2 B3) (i : grid0.Coords) (hf : atStart i = if t % 16 = 0 then 1#1 else 0#1)
    (y : S256x2816.Idx) : out0_5 (F := Ideal) i B0 B1 B2 B3 y = GU (CV X W b) (256 * t + (y 0 : ℕ)) (y 1 : ℕ) := by
  unfold out0_5
  canon_tiles x h
  · idx_vars x
    rw [h0, h1]
    exact gated_at 2560 5376 (by omega) rfl _ _ _ _ _ _ _ _ _ _ _ _ T i hf _ _
  · idx_vars x
    rw [h0, h1]
    exact gated_at 2304 5120 (by omega) rfl _ _ _ _ _ _ _ _ _ _ _ _ T i hf _ _
  · idx_vars x
    rw [h0, h1]
    exact gated_at 2048 4864 (by omega) rfl _ _ _ _ _ _ _ _ _ _ _ _ T i hf _ _
  · idx_vars x
    rw [h0, h1]
    exact gated_at 1792 4608 (by omega) rfl _ _ _ _ _ _ _ _ _ _ _ _ T i hf _ _
  · idx_vars x
    rw [h0, h1]
    exact gated_at 1536 4352 (by omega) rfl _ _ _ _ _ _ _ _ _ _ _ _ T i hf _ _
  · idx_vars x
    rw [h0, h1]
    exact gated_at 1280 4096 (by omega) rfl _ _ _ _ _ _ _ _ _ _ _ _ T i hf _ _
  · idx_vars x
    rw [h0, h1]
    exact gated_at 1024 3840 (by omega) rfl _ _ _ _ _ _ _ _ _ _ _ _ T i hf _ _
  · idx_vars x
    rw [h0, h1]
    exact gated_at 768 3584 (by omega) rfl _ _ _ _ _ _ _ _ _ _ _ _ T i hf _ _
  · idx_vars x
    rw [h0, h1]
    exact gated_at 512 3328 (by omega) rfl _ _ _ _ _ _ _ _ _ _ _ _ T i hf _ _
  · idx_vars x
    rw [h0, h1]
    exact gated_at 256 3072 (by omega) rfl _ _ _ _ _ _ _ _ _ _ _ _ T i hf _ _
  · idx_vars x
    rw [h0, h1]
    exact (gated_at 0 2816 (by omega) rfl _ _ _ _ _ _ _ _ _ _ _ _ T i hf _ _).trans (by rw [Nat.zero_add])

variable (m : (ℓ : Loc nD τ sig) → Buf (Elt Ideal) ℓ) (c : Dev nD)

theorem lt32 (t : Fin cfg0.N) : t.val < 32 := lt_of_lt_of_eq t.2 N_0

/-- Where every window stands at a grid point. -/
theorem idx : ∀ t : Fin cfg0.N, win0_0.index t = ![t.val, 0] ∧ win0_1.index t = ![t.val * 16 - 1, 0]
    ∧ win0_2.index t = ![0, 0] ∧ win0_3.index t = ![0, 0] ∧ win0_4.index t = ![t.val, 0] ∧ win0_5.index t = ![t.val, 0] :=
  (by decide +kernel : ∀ t : Fin grid0.N, _)

theorem atStart_at : ∀ t : Fin cfg0.N, atStart (grid0.coords t) = if t.val % 16 = 0 then 1#1 else 0#1 :=
  (by decide +kernel : ∀ t : Fin grid0.N, _)

/-- The three arguments as functions of plain numbers. -/
def XX : ℕ → ℕ → EReal := flat (a := 8192) (b := 5632) (m ((c : Thread nD τ).loc main_arg0))
def WW : ℕ → ℕ → EReal := flat (a := 3) (b := 5632) (m ((c : Thread nD τ).loc main_arg1))
def BB : ℕ → EReal := flat (a := 1) (b := 5632) (m ((c : Thread nD τ).loc main_arg2)) 0

theorem tile (t : Fin cfg0.N) : Tile t.val (XX m c) (WW m c) (BB m c) (iblk m c 0 t) (iblk m c 1 t) (iblk m c 2 t) (iblk m c 3 t) where
  cur a e := by
    have := lt32 t
    refine Eq.trans ?_ (flat_of (a := 8192) (b := 5632) (m ((c : Thread nD τ).loc main_arg0)) ⟨256 * t + a, by omega⟩ e _ _ rfl rfl)
    blk_ext [iblk, V, idx t]
  prev ht a e := by
    have := lt32 t
    refine Eq.trans ?_ (flat_of (a := 8192) (b := 5632) (m ((c : Thread nD τ).loc main_arg0)) ⟨256 * t + a - 16, by omega⟩ e _ _ rfl rfl)
    blk_ext [iblk, V, idx t]
  taps k e := by
    refine Eq.trans ?_ (flat_of (a := 3) (b := 5632) (m ((c : Thread nD τ).loc main_arg1)) k e _ _ rfl rfl)
    blk_ext [iblk, V, idx t]
  bias k e := by
    refine Eq.trans ?_ (flat_of (a := 1) (b := 5632) (m ((c : Thread nD τ).loc main_arg2)) k e 0 _ (by omega) rfl)
    blk_ext [iblk, V, idx t]

/-- The convolution after the run. -/
theorem final4 : (dats m 0 c).arrAt 4 cfg0.N = fun i : S8192x5632.Idx => CV (XX m c) (WW m c) (BB m c) (i 0 : ℕ) (i 1 : ℕ) := by
  refine (dats m 0 c).arrAt_eq_of_covers 4 _ (by decide +kernel) fun t _ y => ?_
  blk_simp
  rw [after0_4]
  refine (tileU (tile m c t) _ (atStart_at t) y).trans ?_
  idx_vars y
  rw [(idx t).2.2.2.2.1]
  show CV _ _ _ (256 * t.val + (y0 : ℕ)) (y1 : ℕ) = CV _ _ _ (t.val * 256 + (y0 : ℕ)) (0 * 5632 + (y1 : ℕ))
  rw [Nat.mul_comm t.val, Nat.zero_mul, Nat.zero_add]

/-- The gated unit after the run. -/
theorem final5 : (dats m 0 c).arrAt 5 cfg0.N = fun i : S8192x2816.Idx => GU (CV (XX m c) (WW m c) (BB m c)) (i 0 : ℕ) (i 1 : ℕ) := by
  refine (dats m 0 c).arrAt_eq_of_covers 5 _ (by decide +kernel) fun t _ y => ?_
  blk_simp
  rw [after0_5]
  refine (tileO (tile m c t) _ (atStart_at t) y).trans ?_
  idx_vars y
  rw [(idx t).2.2.2.2.2]
  show GU _ (256 * t.val + (y0 : ℕ)) (y1 : ℕ) = GU _ (t.val * 256 + (y0 : ℕ)) (0 * 2816 + (y1 : ℕ))
  rw [Nat.mul_comm t.val, Nat.zero_mul, Nat.zero_add]

end Cert.SiluIdeal.Rows
-- ==== Proof.SiluRef.lean ====
module

public import proofs.«01_k».proof.Proof.SiluSpec
public import proofs.«01_k».proof.Proof.GateSpec
public import proofs.«01_k».proof.Proof.Gen.SiluRefIdeal.Run
public import Idealize.ShloMosaic.Lib.Pipeline.ValueKit
/-! # The convolution and the gated unit as the reference computes them -/
@[expose] public section

set_option maxRecDepth 16384
noncomputable section
open Idealize.ShloMosaic Idealize.ShloMosaic.TcCoe Idealize.SL.Sem
namespace Cert.SiluRefIdeal.Entries
open Cert.SiluRefIdeal Cert.SiluRefIdeal.Gen Cert.Silus
open Cert.Gate (flat flat_of)

variable (X : FVec Ideal S8192x5632 .bf16) (K : FVec Ideal S3x5632 .f32) (B : FVec Ideal S1x5632 .f32)

/-- The padded input, the taps and the bias the reference's terms are made of. -/
def ZP : FVec Ideal S2x4098x5632 .f32 :=
  concatenate S2x4098x5632 1 [⟨S2x2x5632, (broadcastInDim S2x2x5632 ![] bcast_S_S2x2x5632 (constant S_ .f32 0x00000000#32))⟩, ⟨S2x4096x5632, (shapeCast _ (extf .f32 X bitsLt_bf16_f32) shapeCasts_S8192x5632_S2x4096x5632)⟩] concatenates_S2x2x5632_S2x4096x5632_S2x4098x5632_d1
def W0 : FVec Ideal S2x4096x5632 .f32 := broadcastInDim S2x4096x5632 ![0, 1, 2] bcast_S1x1x5632_S2x4096x5632_0_1_2 (broadcastInDim S1x1x5632 ![2] bcast_S5632_S1x1x5632_2 (shapeCast _ (extractStridedSlice S1x5632 ![0, 0] K slices_S3x5632_S1x5632_0_0) shapeCasts_S1x5632_S5632))
def W1 : FVec Ideal S2x4096x5632 .f32 := broadcastInDim S2x4096x5632 ![0, 1, 2] bcast_S1x1x5632_S2x4096x5632_0_1_2 (broadcastInDim S1x1x5632 ![2] bcast_S5632_S1x1x5632_2 (shapeCast _ (extractStridedSlice S1x5632 ![1, 0] K slices_S3x5632_S1x5632_1_0) shapeCasts_S1x5632_S5632))
def W2 : FVec Ideal S2x4096x5632 .f32 := broadcastInDim S2x4096x5632 ![0, 1, 2] bcast_S1x1x5632_S2x4096x5632_0_1_2 (broadcastInDim S1x1x5632 ![2] bcast_S5632_S1x1x5632_2 (shapeCast _ (extractStridedSlice S1x5632 ![2, 0] K slices_S3x5632_S1x5632_2_0) shapeCasts_S1x5632_S5632))
def BR : FVec Ideal S2x4096x5632 .f32 := broadcastInDim S2x4096x5632 ![0, 1, 2] bcast_S1x1x5632_S2x4096x5632_0_1_2 (broadcastInDim S1x1x5632 ![2] bcast_S5632_S1x1x5632_2 (shapeCast _ B shapeCasts_S1x5632_S5632))

/-- The convolution, by sequences. -/
def CR : FVec Ideal S2x4096x5632 .f32 :=
  addf (addf (addf (mulf (extractStridedSlice S2x4096x5632 ![0, 0, 0] (ZP X) slices_S2x4098x5632_S2x4096x5632_0_0_0) (W0 K)) (mulf (extractStridedSlice S2x4096x5632 ![0, 1, 0] (ZP X) slices_S2x4098x5632_S2x4096x5632_0_1_0) (W1 K))) (mulf (extractStridedSlice S2x4096x5632 ![0, 2, 0] (ZP X) slices_S2x4098x5632_S2x4096x5632_0_2_0) (W2 K))) (BR B)

/-- The gated unit of an array, by sequences. -/
def unitR (Z : FVec Ideal S2x4096x5632 .f32) : FVec Ideal S2x4096x2816 .f32 :=
  mulf (mulf (extractStridedSlice S2x4096x2816 ![0, 0, 0] Z slices_S2x4096x5632_S2x4096x2816_0_0_0) (Host.divf (broadcastInDim S2x4096x2816 ![] bcast_S_S2x4096x2816 (constant S_ .f32 0x3F800000#32)) (addf (broadcastInDim S2x4096x2816 ![] bcast_S_S2x4096x2816 (constant S_ .f32 0x3F800000#32)) (Host.exp (Host.negf (extractStridedSlice S2x4096x2816 ![0, 0, 0] Z slices_S2x4096x5632_S2x4096x2816_0_0_0)))))) (extractStridedSlice S2x4096x2816 ![0, 0, 2816] Z slices_S2x4096x5632_S2x4096x2816_0_0_2816)

/-- The two arrays of the reference. -/
def CRR : FVec Ideal S8192x5632 .bf16 := truncf .bf16 (shapeCast _ (CR X K B) shapeCasts_S2x4096x5632_S8192x5632) bitsLt_bf16_f32
def URR : FVec Ideal S8192x2816 .bf16 := truncf .bf16 (shapeCast _ (unitR (CR X K B)) shapeCasts_S2x4096x2816_S8192x2816) bitsLt_bf16_f32

theorem W0_at (b : Fin 2) (s : Fin 4096) (d : Fin 5632) : W0 K (ix3 b s d) = (flat (a := 3) (b := 5632) K) 0 d := by
  pointwise [W0]
  exact flat_of K _ _ _ _ rfl rfl
theorem W1_at (b : Fin 2) (s : Fin 4096) (d : Fin 5632) : W1 K (ix3 b s d) = (flat (a := 3) (b := 5632) K) 1 d := by
  pointwise [W1]
  exact flat_of K _ _ _ _ rfl rfl
theorem W2_at (b : Fin 2) (s : Fin 4096) (d : Fin 5632) : W2 K (ix3 b s d) = (flat (a := 3) (b := 5632) K) 2 d := by
  pointwise [W2]
  exact flat_of K _ _ _ _ rfl rfl
theorem BR_at (b : Fin 2) (s : Fin 4096) (d : Fin 5632) : BR B (ix3 b s d) = (flat (a := 1) (b := 5632) B) 0 d := by
  pointwise [BR]
  exact flat_of B _ _ _ _ rfl rfl

/-- Row `s` of the padded input is the input `j` rows before row `s + j - 2`. -/
theorem ZP_at (b : Fin 2) (s : Fin 4098) (d : Fin 5632) (n j : ℕ) (hj : j ≤ 2) (hs : s < 4096 + 2 - j) (h2 : 2 ≤ (s : ℕ) + j)
    (hn : n = 4096 * b + s + j - 2) : ZP X (ix3 b s d) = Xs (flat (a := 8192) (b := 5632) X) j n d := by
  have hb := b.2
  pointwise [ZP]
  unfold Xs
  by_cases h : (s : ℕ) < 2
  · exact (dif_pos h).trans (if_pos (by omega)).symm
  · refine (dif_neg h).trans (Eq.trans ?_ (if_neg (by omega)).symm)
    exact flat_of X _ _ _ _ (by show n - j = (b : ℕ) * 4096 + ((s : ℕ) - 2); omega) rfl

theorem CR_at (b : Fin 2) (s : Fin 4096) (d : Fin 5632) (n : ℕ) (hn : n = 4096 * b + s) :
    CR X K B (ix3 b s d) = CV (flat (a := 8192) (b := 5632) X) (flat (a := 3) (b := 5632) K) (flat (a := 1) (b := 5632) B 0) n d := by
  have hs := s.2
  pointwise [CR]
  unfold CV
  rw [W0_at, W1_at, W2_at, BR_at,
    ZP_at X b _ d n 2 (by omega) (by show (s : ℕ) < _; omega) (by omega) (by show n = 4096 * (b : ℕ) + s + 2 - 2; omega),
    ZP_at X b _ d n 1 (by omega) (by show 1 + (s : ℕ) < _; omega) (by show 2 ≤ 1 + (s : ℕ) + 1; omega) (by show n = 4096 * (b : ℕ) + (1 + s) + 1 - 2; omega),
    ZP_at X b _ d n 0 (by omega) (by show 2 + (s : ℕ) < _; omega) (by show 2 ≤ 2 + (s : ℕ) + 0; omega) (by show n = 4096 * (b : ℕ) + (2 + s) + 0 - 2; omega)]
  rw [mul_comm (Xs _ 2 n d), mul_comm (Xs _ 1 n d), mul_comm (Xs _ 0 n d)]

theorem unitR_at (Z : FVec Ideal S2x4096x5632 .f32) (b : Fin 2) (s : Fin 4096) (d : Fin 2816) :
    unitR Z (ix3 b s d) = Z (ix3 b s ⟨d, by omega⟩) * Ideal.logistic (Z (ix3 b s ⟨d, by omega⟩)) * Z (ix3 b s ⟨2816 + d, by omega⟩) := by
  pointwise [unitR, Ideal.logistic]

theorem CRR_at (n : Fin 8192) (d : Fin 5632) :
    CRR X K B (ix2 n d) = CV (flat (a := 8192) (b := 5632) X) (flat (a := 3) (b := 5632) K) (flat (a := 1) (b := 5632) B 0) n d := by
  have hn : (n : ℕ) = 4096 * ((n : ℕ) / 4096) + (n : ℕ) % 4096 := by omega
  pointwise [CRR]
  exact CR_at X K B _ _ _ n hn

theorem URR_at (n : Fin 8192) (d : Fin 2816) :
    URR X K B (ix2 n d) = GU (CV (flat (a := 8192) (b := 5632) X) (flat (a := 3) (b := 5632) K) (flat (a := 1) (b := 5632) B 0)) n d := by
  have hn : (n : ℕ) = 4096 * ((n : ℕ) / 4096) + (n : ℕ) % 4096 := by omega
  pointwise [URR]
  refine (unitR_at _ _ _ _).trans ?_
  rw [CR_at X K B _ _ _ n hn, CR_at X K B _ _ _ n hn]
  rfl

end Cert.SiluRefIdeal.Entries
-- ==== Proof.SiluSame.lean ====
module

public import proofs.«01_k».proof.Defs
public import proofs.«01_k».proof.Proof.SiluArrays
public import proofs.«01_k».proof.Proof.SiluRef
public import Idealize.ShloMosaic.Lib.Claim
/-! # Silu: kernel and reference of the convolution with the gated unit give the same arrays -/
@[expose] public section

set_option maxRecDepth 16384
noncomputable section
open Idealize.ShloMosaic Idealize.ShloMosaic.TcCoe Idealize.SL.Sem
namespace Cert.SiluIdeal.Rows
open Cert.SiluIdeal Cert.SiluIdeal.Gen Cert.Silus

local instance : Cert.SiluIdeal.Facts := Cert.SiluIdeal.Gen.facts
local instance : Cert.SiluRefIdeal.Facts := Cert.SiluRefIdeal.Gen.facts

/-- The reference ends, keeps its arguments, and has no counters that could be left standing. -/
theorem frameR : Cert.quiescent_SiluRefIdeal := by
  intro m g _
  refine θ_run_mono (Cert.SiluRefIdeal.Value.run m g) fun r h => ⟨fun c => (h c).2.2, ?_⟩
  exact sem_eq_zero_of_no_sems rfl _

/-- The reference's second array under its short name. -/
theorem second (m' : (ℓ : Loc Cert.SiluRefIdeal.nD Cert.SiluRefIdeal.τ Cert.SiluRefIdeal.sig) → Buf (Elt Ideal) ℓ) (c : Dev Cert.SiluRefIdeal.nD) :
    Cert.SiluRefIdeal.Value.res_main_v35 m' c = Cert.SiluRefIdeal.Entries.URR (m' ((c : Thread Cert.SiluRefIdeal.nD Cert.SiluRefIdeal.τ).loc Cert.SiluRefIdeal.main_arg0)) (m' ((c : Thread Cert.SiluRefIdeal.nD Cert.SiluRefIdeal.τ).loc Cert.SiluRefIdeal.main_arg1)) (m' ((c : Thread Cert.SiluRefIdeal.nD Cert.SiluRefIdeal.τ).loc Cert.SiluRefIdeal.main_arg2)) := by
  rfl

/-- Call and reference give the same two arrays. -/
theorem same : Cert.algebraic_SiluIdeal_SiluRefIdeal := by
  pair_intro
  · run_from Cert.SiluIdeal.Value.run_blocks m g
  · refine θ_run_mono (Cert.SiluRefIdeal.Value.run m' g') fun r h c => ?_
    refine ⟨(Eq.trans (b := Cert.SiluRefIdeal.Entries.CRR (m' ((c : Thread Cert.SiluRefIdeal.nD Cert.SiluRefIdeal.τ).loc Cert.SiluRefIdeal.main_arg0)) (m' ((c : Thread Cert.SiluRefIdeal.nD Cert.SiluRefIdeal.τ).loc Cert.SiluRefIdeal.main_arg1)) (m' ((c : Thread Cert.SiluRefIdeal.nD Cert.SiluRefIdeal.τ).loc Cert.SiluRefIdeal.main_arg2))) (h c).1 ?_), (h c).2.1.trans ((second m' c).trans ?_), (h c).2.2⟩
    · rw [final4, (hagree c).1, (hagree c).2.1, (hagree c).2.2]
      funext i
      idx_vars i
      exact Cert.SiluRefIdeal.Entries.CRR_at _ _ _ i0 i1
    · rw [final5, (hagree c).1, (hagree c).2.1, (hagree c).2.2]
      funext i
      idx_vars i
      exact Cert.SiluRefIdeal.Entries.URR_at _ _ _ i0 i1

end Cert.SiluIdeal.Rows
-- ==== Proof.GateFwdArrays.lean ====
module

public import proofs.«01_k».proof.Proof.GateSpec
public import proofs.«01_k».proof.Proof.Gen.GateFwdIdeal.Value
public import Idealize.ShloMosaic.Lib.Pipeline.ValueKit
/-! # The gated convolution: the result array of the call

The same tiles of 256 rows as the gradient has, with one halo of 16 rows above. -/
@[expose] public section

set_option maxRecDepth 16384
noncomputable section
open Idealize.ShloMosaic Idealize.ShloMosaic.TcCoe Idealize.SL.Sem
namespace Cert.Gate

/-- The gated convolution at an entry. -/
def FW (U W : ℕ → ℕ → EReal) (n d : ℕ) : EReal :=
  U n d * (W 0 d * Zs U 2 n d + W 1 d * Zs U 1 n d + W 2 d * Zs U 0 n d)

end Cert.Gate

namespace Cert.GateFwdIdeal.Rows
open Cert.GateFwdIdeal Cert.GateFwdIdeal.Gen Cert.Gate

/-- The test "first tile of a sequence", as the body computes it. -/
def atStart (i : grid0.Coords) : BitVec 1 :=
  Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32

/-- The halo's product, zero at the start of a sequence, and the product over halo and tile. -/
def above (i : grid0.Coords) (x1 : Vec Ideal S16x3072 .bf16) : FVec Ideal S16x1024 .f32 :=
  Scalar.select (atStart i) (broadcast S16x1024 (Scalar.ofBits .f32 0x00000000#32))
    (mulf (extractStridedSlice S16x1024 ![0, 1024] (extf .f32 x1 bitsLt_bf16_f32) slices_S16x3072_o0_1024_S16x1024)
      (extractStridedSlice S16x1024 ![0, 2048] (extf .f32 x1 bitsLt_bf16_f32) slices_S16x3072_o0_2048_S16x1024))
def stacked (i : grid0.Coords) (x0 : Vec Ideal S256x3072 .bf16) (x1 : Vec Ideal S16x3072 .bf16) : FVec Ideal S272x1024 .f32 :=
  concatenate S272x1024 0 [⟨S16x1024, above i x1⟩, ⟨S256x1024,
    mulf (extractStridedSlice S256x1024 ![0, 1024] (extf .f32 x0 bitsLt_bf16_f32) slices_S256x3072_o0_1024_S256x1024)
      (extractStridedSlice S256x1024 ![0, 2048] (extf .f32 x0 bitsLt_bf16_f32) slices_S256x3072_o0_2048_S256x1024)⟩]
    concatenates_S16x1024_S256x1024_S272x1024_d0

/-- The blocks of tile `t` are the rows of `U` and `W` that belong to it. -/
structure Tile (t : ℕ) (U W : ℕ → ℕ → EReal) (x0 : Vec Ideal S256x3072 .bf16) (x1 : Vec Ideal S16x3072 .bf16)
    (x2 : Vec Ideal S3x1024 .f32) : Prop where
  cur : ∀ (a : Fin 256) (e : Fin 3072) (n k : ℕ), 256 * t + a = n → (e : ℕ) = k → x0 (ix2 a e) = U n k
  prev : t % 16 ≠ 0 → ∀ (a : Fin 16) (e : Fin 3072) (n k : ℕ), 256 * t + a - 16 = n → (e : ℕ) = k → x1 (ix2 a e) = U n k
  taps : ∀ (k : Fin 3) (e : Fin 1024), x2 (ix2 k e) = W k e

variable {t : ℕ} {U W : ℕ → ℕ → EReal} {x0 : Vec Ideal S256x3072 .bf16} {x1 : Vec Ideal S16x3072 .bf16} {x2 : Vec Ideal S3x1024 .f32}

theorem above_at (i : grid0.Coords) (x1 : Vec Ideal S16x3072 .bf16) (r : Fin 16) (d : Fin 1024) :
    above i x1 (ix2 r d) = Scalar.select (atStart i) 0 (x1 (ix2 r ⟨1024 + d, by omega⟩) * x1 (ix2 r ⟨2048 + d, by omega⟩)) := by
  pointwise [above, atStart]

/-- Row `16 + a - j` of the stacked product is the product `j` rows before row `a` of the tile. -/
theorem stacked_at (T : Tile t U W x0 x1 x2) (i : grid0.Coords) (hf : atStart i = if t % 16 = 0 then 1#1 else 0#1)
    (j : ℕ) (hj : j ≤ 2) (a : Fin 256) (r : Fin 272) (hr : (r : ℕ) + j = 16 + a) (d : Fin 1024) :
    stacked i x0 x1 (ix2 r d) = Zs U j (256 * t + a) d := by
  have ha := a.2
  unfold Zs
  pointwise [stacked]
  by_cases h : (r : ℕ) < 16
  · refine (dif_pos h).trans ?_
    refine (above_at i x1 _ d).trans ?_
    rw [hf]
    by_cases ht : t % 16 = 0
    · rw [if_pos ht]; exact (if_pos (by omega)).symm
    · rw [if_neg ht]
      exact (congrArg₂ (· * ·) (T.prev ht _ _ _ _ (by show 256 * t + (r : ℕ) - 16 = _; omega) rfl)
        (T.prev ht _ _ _ _ (by show 256 * t + (r : ℕ) - 16 = _; omega) rfl)).trans (if_neg (by omega)).symm
  · refine (dif_neg h).trans ?_
    exact (congrArg₂ (· * ·) (T.cur _ _ _ _ (by show 256 * t + ((r : ℕ) - 16) = _; omega) rfl)
      (T.cur _ _ _ _ (by show 256 * t + ((r : ℕ) - 16) = _; omega) rfl)).trans (if_neg (by omega)).symm

/-- What the body computes at a row of the tile. -/
theorem body_at (T : Tile t U W x0 x1 x2) (i : grid0.Coords) (hf : atStart i = if t % 16 = 0 then 1#1 else 0#1)
    (a : Fin 256) (d : Fin 1024) : k0_pay1 (F := Ideal) i x0 x1 x2 (ix2 a d) = FW U W (256 * t + a) d := by
  have ha := a.2
  have e : k0_pay1 (F := Ideal) i x0 x1 x2 (ix2 a d) = x0 (ix2 a ⟨d, by omega⟩)
      * (x2 (ix2 0 d) * stacked i x0 x1 (ix2 ⟨(16 + (a : ℕ) + 272 - 2) % 272, by omega⟩ d)
        + x2 (ix2 1 d) * stacked i x0 x1 (ix2 ⟨(16 + (a : ℕ) + 272 - 1) % 272, by omega⟩ d)
        + x2 (ix2 2 d) * stacked i x0 x1 (ix2 ⟨16 + (a : ℕ), by omega⟩ d)) := by
    pointwise [k0_pay1, stacked, above, atStart]
  rw [e, T.cur a _ _ d rfl rfl, T.taps, T.taps, T.taps, stacked_at T i hf 2 (by omega) a _ (by simp only []; omega) d,
    stacked_at T i hf 1 (by omega) a _ (by simp only []; omega) d, stacked_at T i hf 0 (by omega) a _ rfl d]
  rfl

variable (m : (ℓ : Loc nD τ sig) → Buf (Elt Ideal) ℓ) (c : Dev nD)

theorem lt32 (t : Fin cfg0.N) : t.val < 32 := lt_of_lt_of_eq t.2 N_0

/-- Where every window stands at a grid point. -/
theorem idx : ∀ t : Fin cfg0.N, win0_0.index t = ![t.val, 0] ∧ win0_1.index t = ![t.val * 16 - 1, 0]
    ∧ win0_2.index t = ![0, 0] ∧ win0_3.index t = ![t.val, 0] := (by decide +kernel : ∀ t : Fin grid0.N, _)

theorem atStart_at : ∀ t : Fin cfg0.N, atStart (grid0.coords t) = if t.val % 16 = 0 then 1#1 else 0#1 :=
  (by decide +kernel : ∀ t : Fin grid0.N, _)

/-- The two arguments as functions of plain numbers. -/
def UU : ℕ → ℕ → EReal := flat (a := 8192) (b := 3072) (m ((c : Thread nD τ).loc main_arg0))
def WW : ℕ → ℕ → EReal := flat (a := 3) (b := 1024) (m ((c : Thread nD τ).loc main_arg1))

theorem tile (t : Fin cfg0.N) : Tile t.val (UU m c) (WW m c) (iblk m c 0 t) (iblk m c 1 t) (iblk m c 2 t) where
  cur a e n k hn hk := by
    have := lt32 t
    refine Eq.trans ?_ (flat_of (a := 8192) (b := 3072) (m ((c : Thread nD τ).loc main_arg0)) ⟨256 * t + a, by omega⟩ e _ _ hn.symm hk.symm)
    blk_ext [iblk, V, idx t]
  prev ht a e n k hn hk := by
    have := lt32 t
    refine Eq.trans ?_ (flat_of (a := 8192) (b := 3072) (m ((c : Thread nD τ).loc main_arg0)) ⟨256 * t + a - 16, by omega⟩ e _ _ hn.symm hk.symm)
    blk_ext [iblk, V, idx t]
  taps k e := by
    refine Eq.trans ?_ (flat_of (a := 3) (b := 1024) (m ((c : Thread nD τ).loc main_arg1)) k e _ _ rfl rfl)
    blk_ext [iblk, V, idx t]

/-- The result after the run. -/
theorem final3 : (dats m 0 c).arrAt 3 cfg0.N = fun i : S8192x1024.Idx => FW (UU m c) (WW m c) (i 0 : ℕ) (i 1 : ℕ) := by
  refine (dats m 0 c).arrAt_eq_of_covers 3 _ (by decide +kernel) fun t _ y => ?_
  blk_simp
  rw [after0_3]
  frame_out
  idx_vars y
  refine (body_at (tile m c t) _ (atStart_at t) _ _).trans ?_
  rw [(idx t).2.2.2]
  show FW _ _ (256 * t.val + (y0 : ℕ)) (y1 : ℕ) = FW _ _ (t.val * 256 + (y0 : ℕ)) (0 * 1024 + (y1 : ℕ))
  rw [Nat.mul_comm t.val, Nat.zero_mul, Nat.zero_add]

end Cert.GateFwdIdeal.Rows
-- ==== Proof.GateFwdSame.lean ====
module

public import proofs.«01_k».proof.Defs
public import proofs.«01_k».proof.Proof.GateFwdArrays
public import proofs.«01_k».proof.Proof.GateRef
public import proofs.«01_k».proof.Proof.Gen.GateFwdRefIdeal.Run
public import Idealize.ShloMosaic.Lib.Claim
/-! # GateFwd: kernel and reference of the gated convolution give the same array -/
@[expose] public section

set_option maxRecDepth 16384
noncomputable section
open Idealize.ShloMosaic Idealize.ShloMosaic.TcCoe Idealize.SL.Sem
namespace Cert.GateFwdRefIdeal.Rows
open Cert.ReferenceIdeal Cert.ReferenceIdeal.Gen Cert.ReferenceIdeal.Entries Cert.Gate

variable (X : FVec Ideal S8192x3072 .bf16) (K : FVec Ideal S3x1024 .f32)

/-- The gate times the convolution, by sequences. -/
def BZ : FVec Ideal S2x4096x1024 .f32 :=
  mulf (extractStridedSlice S2x4096x1024 ![0, 0, 0] (UR X) slices_S2x4096x3072_S2x4096x1024_0_0_0) (addf (addf (mulf (extractStridedSlice S2x4096x1024 ![0, 0, 0] (ZP X) slices_S2x4098x1024_S2x4096x1024_0_0_0) (W0 K)) (mulf (extractStridedSlice S2x4096x1024 ![0, 1, 0] (ZP X) slices_S2x4098x1024_S2x4096x1024_0_1_0) (W1 K))) (mulf (extractStridedSlice S2x4096x1024 ![0, 2, 0] (ZP X) slices_S2x4098x1024_S2x4096x1024_0_2_0) (W2 K)))

theorem BZ_at (b : Fin 2) (s : Fin 4096) (d : Fin 1024) (n : ℕ) (hn : n = 4096 * b + s) :
    BZ X K (ix3 b s d) = FW (flat (a := 8192) (b := 3072) X) (flat (a := 3) (b := 1024) K) n d := by
  have hs := s.2
  pointwise [BZ]
  unfold FW
  rw [UR_at X b s _ n d hn rfl, W0_at, W1_at, W2_at,
    ZP_at X b _ d n 2 (by omega) (by show (s : ℕ) < _; omega) (by omega) (by show n = 4096 * (b : ℕ) + s + 2 - 2; omega),
    ZP_at X b _ d n 1 (by omega) (by show 1 + (s : ℕ) < _; omega) (by show 2 ≤ 1 + (s : ℕ) + 1; omega) (by show n = 4096 * (b : ℕ) + (1 + s) + 1 - 2; omega),
    ZP_at X b _ d n 0 (by omega) (by show 2 + (s : ℕ) < _; omega) (by show 2 ≤ 2 + (s : ℕ) + 0; omega) (by show n = 4096 * (b : ℕ) + (2 + s) + 0 - 2; omega)]
  ac_rfl

/-- The reference's array. -/
def FWR : FVec Ideal S8192x1024 .bf16 := truncf .bf16 (shapeCast _ (BZ X K) Cert.GateFwdRefIdeal.Gen.facts.shapeCasts_S2x4096x1024_S8192x1024) bitsLt_bf16_f32

theorem FWR_at (n : Fin 8192) (d : Fin 1024) : FWR X K (ix2 n d) = FW (flat (a := 8192) (b := 3072) X) (flat (a := 3) (b := 1024) K) n d := by
  have hn : (n : ℕ) = 4096 * ((n : ℕ) / 4096) + (n : ℕ) % 4096 := by omega
  pointwise [FWR]
  exact BZ_at X K _ _ _ n hn

end Cert.GateFwdRefIdeal.Rows

namespace Cert.GateFwdIdeal.Rows
open Cert.GateFwdIdeal Cert.GateFwdIdeal.Gen Cert.Gate

local instance : Cert.GateFwdIdeal.Facts := Cert.GateFwdIdeal.Gen.facts
local instance : Cert.GateFwdRefIdeal.Facts := Cert.GateFwdRefIdeal.Gen.facts

/-- The reference ends, keeps its arguments, and has no counters that could be left standing. -/
theorem frameR : Cert.quiescent_GateFwdRefIdeal := by
  intro m g _
  refine θ_run_mono (Cert.GateFwdRefIdeal.Value.run m g) fun r h => ⟨fun c => (h c).2, ?_⟩
  exact sem_eq_zero_of_no_sems rfl _

/-- Call and reference give the same array. -/
theorem same : Cert.algebraic_GateFwdIdeal_GateFwdRefIdeal := by
  pair_intro
  · run_from Cert.GateFwdIdeal.Value.run_blocks m g
  · refine θ_run_mono (Cert.GateFwdRefIdeal.Value.run m' g') fun r h c => ?_
    refine ⟨(Eq.trans (b := Cert.GateFwdRefIdeal.Rows.FWR (m' ((c : Thread Cert.GateFwdRefIdeal.nD Cert.GateFwdRefIdeal.τ).loc Cert.GateFwdRefIdeal.main_arg0)) (m' ((c : Thread Cert.GateFwdRefIdeal.nD Cert.GateFwdRefIdeal.τ).loc Cert.GateFwdRefIdeal.main_arg1))) (h c).1 ?_), (h c).2⟩
    rw [final3, (hagree c).1, (hagree c).2]
    funext i
    idx_vars i
    exact Cert.GateFwdRefIdeal.Rows.FWR_at _ _ i0 i1

end Cert.GateFwdIdeal.Rows
-- ==== Proof.NormSpec.lean ====
module

public import proofs.«01_k».proof.Proof.ProductSpec
/-! # The root-mean-square norm, row by row

Every row of a matrix is divided by the root of the mean of its squares (a small number added under the root) and then scaled
by a gain per column. -/
@[expose] public section

noncomputable section
open Idealize.ShloMosaic Cert.Products
namespace Cert.Norms

/-- The number of columns, and the number added under the root, as they are written in the programs. -/
abbrev width : EReal := Ideal.ofBits FTy.f32 1149239296#32
abbrev eps : EReal := Ideal.ofBits FTy.f32 897988541#32

/-- The mean of the squares of a row, with the small number added. -/
def mean {a b : ℕ} (x : Mat a b) (r : Fin a) : EReal := Ideal.div (∑ k, x (ix2 r k) * x (ix2 r k)) width + eps

/-- The factor a row is scaled by. -/
def scale {a b : ℕ} (x : Mat a b) (r : Fin a) : EReal := Ideal.rsqrt (mean x r)

/-- The norm with gain `g`. -/
def normed {a b : ℕ} (x : Mat a b) (g : Mat 1 b) : Mat a b := fun i => x i * scale x (i 0) * g (ix2 0 (i 1))

end Cert.Norms
-- ==== Proof.NormSame.lean ====
module

public import proofs.«01_k».proof.Defs
public import proofs.«01_k».proof.Proof.NormSpec
public import proofs.«01_k».proof.Proof.Gen.NormIdeal.Frame
public import proofs.«01_k».proof.Proof.Gen.NormRefIdeal
public import Idealize.ShloMosaic.Lib.Claim
/-! # Norm: the norm before a layer -/
@[expose] public section

set_option maxRecDepth 16384
noncomputable section
open Idealize.ShloMosaic Idealize.ShloMosaic.TcCoe Idealize.SL.Sem Cert.Products Cert.Norms
namespace Cert.NormIdeal.Rows
open Cert.NormIdeal Cert.NormIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The rows under gain 1. -/
abbrev target0 : S8192x1024.Idx → EReal := normed (a := 8192) (b := 1024) (m ((c : Thread nD τ).loc main_arg0)) (m ((c : Thread nD τ).loc main_arg1))

/-- Every tile of rows the call writes is normed as it should be, and the tiles fill the array. -/
theorem final0 : (dats m 0 c).arrAt 2 cfg0.N = target0 m c := by
  refine (dats m 0 c).arrAt_eq_of_covers 2 _ (by decide +kernel) fun t hf y => ?_
  blk_simp; rw [after0_2]; frame_out
  pointwise [k0_pay1, normed, scale, mean]
  blk_point [iblk, V, idx t]
end

local instance : Cert.NormIdeal.Facts := Cert.NormIdeal.Gen.facts
local instance : Cert.NormRefIdeal.Facts := Cert.NormRefIdeal.Gen.facts

/-- The reference ends, keeps its arguments, and has no counters that could be left standing. -/
theorem frameR : Cert.quiescent_NormRefIdeal := by
  intro m g _
  hlo_run
  · exact fun _ => ⟨trivial, trivial⟩
  · exact sem_eq_zero_of_no_sems rfl _

/-- Call and reference norm the rows alike. -/
theorem same : Cert.algebraic_NormIdeal_NormRefIdeal := by
  pair_intro
  · run_from Cert.NormIdeal.Gen.run_main m g
  · hlo_run
    rw [final0]
    funext i
    pointwise [target0, normed, scale, mean]

end Cert.NormIdeal.Rows
-- ==== Proof.NormFirstSame.lean ====
module

public import proofs.«01_k».proof.Defs
public import proofs.«01_k».proof.Proof.NormSpec
public import proofs.«01_k».proof.Proof.Gen.NormFirstIdeal.Frame
public import proofs.«01_k».proof.Proof.Gen.NormFirstRefIdeal
public import Idealize.ShloMosaic.Lib.Claim
/-! # NormFirst: the norm of the first layer, which waits for a token -/
@[expose] public section

set_option maxRecDepth 16384
noncomputable section
open Idealize.ShloMosaic Idealize.ShloMosaic.TcCoe Idealize.SL.Sem Cert.Products Cert.Norms
namespace Cert.NormFirstIdeal.Rows
open Cert.NormFirstIdeal Cert.NormFirstIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The rows under gain 1. -/
abbrev target0 : S8192x1024.Idx → EReal := normed (a := 8192) (b := 1024) (m ((c : Thread nD τ).loc main_arg0)) (m ((c : Thread nD τ).loc main_arg1))

/-- Every tile of rows the call writes is normed as it should be, and the tiles fill the array. -/
theorem final0 : (dats m 0 c).arrAt 2 cfg0.N = target0 m c := by
  refine (dats m 0 c).arrAt_eq_of_covers 2 _ (by decide +kernel) fun t hf y => ?_
  blk_simp; rw [after0_2]; unfold outsAt0; frame_out
  pointwise [k0_pay1, normed, scale, mean]
  blk_point [iblk, V, idx t]
end

local instance : Cert.NormFirstIdeal.Facts := Cert.NormFirstIdeal.Gen.facts
local instance : Cert.NormFirstRefIdeal.Facts := Cert.NormFirstRefIdeal.Gen.facts

/-- The reference ends, keeps its arguments, and has no counters that could be left standing. -/
theorem frameR : Cert.quiescent_NormFirstRefIdeal := by
  intro m g _
  hlo_run
  · exact fun _ => ⟨trivial, trivial, trivial⟩
  · exact sem_eq_zero_of_no_sems rfl _

/-- Call and reference norm the rows alike. -/
theorem same : Cert.algebraic_NormFirstIdeal_NormFirstRefIdeal := by
  pair_intro
  · run_from Cert.NormFirstIdeal.Gen.run_main m g
  · hlo_run
    rw [final0]
    funext i
    pointwise [target0, normed, scale, mean]

end Cert.NormFirstIdeal.Rows
-- ==== Proof.NormTwoSame.lean ====
module

public import proofs.«01_k».proof.Defs
public import proofs.«01_k».proof.Proof.NormSpec
public import proofs.«01_k».proof.Proof.Gen.NormTwoIdeal.Frame
public import proofs.«01_k».proof.Proof.Gen.NormTwoRefIdeal
public import Idealize.ShloMosaic.Lib.Claim
/-! # NormTwo: one set of rows under two gains -/
@[expose] public section

set_option maxRecDepth 16384
noncomputable section
open Idealize.ShloMosaic Idealize.ShloMosaic.TcCoe Idealize.SL.Sem Cert.Products Cert.Norms
namespace Cert.NormTwoIdeal.Rows
open Cert.NormTwoIdeal Cert.NormTwoIdeal.Gen

section
variable (m : (ℓ : Loc nD τ sig) → Buf (Elt Ideal) ℓ) (c : Dev nD)

/-- Where each window stands at a grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- The rows under gain 1. -/
abbrev target0 : S8192x1024.Idx → EReal := normed (a := 8192) (b := 1024) (m ((c : Thread nD τ).loc main_arg0)) (m ((c : Thread nD τ).loc main_arg1))

/-- Every tile of rows the call writes is normed as it should be, and the tiles fill the array. -/
theorem final0 : (dats m 0 c).arrAt 3 cfg0.N = target0 m c := by
  refine (dats m 0 c).arrAt_eq_of_covers 3 _ (by decide +kernel) fun t hf y => ?_
  blk_simp; rw [after0_3]; frame_out
  pointwise [k0_pay2, k0_pay1, normed, scale, mean]
  blk_point [iblk, V, idx t]

/-- The rows under gain 2. -/
abbrev target1 : S8192x1024.Idx → EReal := normed (a := 8192) (b := 1024) (m ((c : Thread nD τ).loc main_arg0)) (m ((c : Thread nD τ).loc main_arg2))

/-- Every tile of rows the call writes is normed as it should be, and the tiles fill the array. -/
theorem final1 : (dats m 0 c).arrAt 4 cfg0.N = target1 m c := by
  refine (dats m 0 c).arrAt_eq_of_covers 4 _ (by decide +kernel) fun t hf y => ?_
  blk_simp; rw [after0_4]; frame_out
  pointwise [k0_pay3, k0_pay1, normed, scale, mean]
  blk_point [iblk, V, idx t]
end

local instance : Cert.NormTwoIdeal.Facts := Cert.NormTwoIdeal.Gen.facts
local instance : Cert.NormTwoRefIdeal.Facts := Cert.NormTwoRefIdeal.Gen.facts

/-- The reference ends, keeps its arguments, and has no counters that could be left standing. -/
theorem frameR : Cert.quiescent_NormTwoRefIdeal := by
  intro m g _
  hlo_run
  · exact fun _ => ⟨trivial, trivial, trivial⟩
  · exact sem_eq_zero_of_no_sems rfl _

/-- Call and reference norm the rows alike. -/
theorem same : Cert.algebraic_NormTwoIdeal_NormTwoRefIdeal := by
  pair_intro
  · run_from Cert.NormTwoIdeal.Gen.run_main m g
  · hlo_run
    · rw [final0]
      funext i
      pointwise [target0, normed, scale, mean]
    · rw [final1]
      funext i
      pointwise [target1, normed, scale, mean]

end Cert.NormTwoIdeal.Rows
-- ==== Proof.NormGradSpec.lean ====
module

public import proofs.«01_k».proof.Proof.NormSpec
/-! # The gradient of the root-mean-square norm

Two ways of writing it: with the normed row, as the call does, and with the derivative of the inverse root, as the chain rule
gives it. They agree on every row of extended reals: where a row holds an infinity the factor is zero and so are both, and
elsewhere the factor is a positive real, which may be taken into and out of any sum. -/
@[expose] public section

noncomputable section
open Idealize.ShloMosaic Cert.Products
namespace Cert.Norms

/-- Minus one half, as it is written in the programs. -/
abbrev minusHalf : EReal := Ideal.ofBits FTy.f32 3204448256#32

theorem width_eq : width = ((1024 : ℝ) : EReal) := by
  simp [Ideal.ofBits, Ideal.ieee, -EReal.coe_mul]; norm_num

theorem minusHalf_eq : minusHalf = ((-(1 / 2) : ℝ) : EReal) := by
  simp [Ideal.ofBits, Ideal.ieee, -EReal.coe_mul, -EReal.coe_neg]; norm_num

theorem eps_eq : ∃ e : ℝ, 0 < e ∧ eps = (e : EReal) := by
  refine ⟨_, ?_, by simp [Ideal.ofBits, Ideal.ieee, -EReal.coe_mul]; rfl⟩
  norm_num

/-- A nonnegative real factor leaves a sum. -/
theorem sum_scale {n : ℕ} (c : ℝ) (hc : 0 ≤ c) (f : Fin n → EReal) : ∑ k, (c : EReal) * f k = (c : EReal) * ∑ k, f k := by
  induction n with
  | zero => simp
  | succ n ih =>
    rw [Fin.sum_univ_succ, Fin.sum_univ_succ, ih,
      EReal.left_distrib_of_nonneg_of_ne_top (EReal.coe_nonneg.mpr hc) (EReal.coe_ne_top c)]

/-- Twice the same nonpositive multiple. -/
theorem twice (c : ℝ) (hc : 0 ≤ c) (P : EReal) :
    ((-c : ℝ) : EReal) * P + ((-c : ℝ) : EReal) * P = ((-(c + c) : ℝ) : EReal) * P := by
  have h := EReal.right_distrib_of_nonneg (c := -P) (EReal.coe_nonneg.mpr hc) (EReal.coe_nonneg.mpr hc)
  rw [← EReal.coe_add] at h
  simp only [EReal.coe_neg, EReal.neg_mul]
  simpa only [mul_neg] using h.symm

theorem square_nonneg (a : EReal) : 0 ≤ a * a := by
  induction a with
  | bot => simp
  | top => simp
  | coe r => rw [← EReal.coe_mul]; exact EReal.coe_nonneg.mpr (mul_self_nonneg r)

/-- The mean under the root is a positive real or infinite. -/
theorem mean_cases {a b : ℕ} (x : Mat a b) (r : Fin a) : mean x r = ⊤ ∨ ∃ v : ℝ, 0 < v ∧ mean x r = (v : EReal) := by
  obtain ⟨e, he, hE⟩ := eps_eq
  have h : (e : EReal) ≤ mean x r := by
    unfold mean
    rw [hE, width_eq, Ideal.div_coe (by norm_num)]
    have h1 : 0 ≤ (∑ k, x (ix2 r k) * x (ix2 r k)) * ((1 / 1024 : ℝ) : EReal) :=
      mul_nonneg (Finset.sum_nonneg fun k _ => square_nonneg _) (EReal.coe_nonneg.mpr (by norm_num))
    simpa using add_le_add_left h1 (e : EReal)
  generalize mean x r = v at h
  induction v with
  | bot => exact absurd (le_bot_iff.mp h) (EReal.coe_ne_bot e)
  | top => exact Or.inl rfl
  | coe v => exact Or.inr ⟨v, lt_of_lt_of_le he (EReal.coe_le_coe_iff.mp h), rfl⟩

/-- What a row hands back, written with the normed row: `t` is the cotangent times the gain. -/
def backRow {n : ℕ} (v : EReal) (x t : Fin n → EReal) (i : Fin n) : EReal :=
  Ideal.rsqrt v * (t i - x i * Ideal.rsqrt v * Ideal.div (∑ k, t k * (x k * Ideal.rsqrt v)) width)

/-- The cotangent of a square, by the chain rule through root, mean and square. -/
def slope {n : ℕ} (v : EReal) (x t : Fin n → EReal) : EReal :=
  Ideal.div ((∑ k, x k * t k) * (minusHalf * Ideal.div (Ideal.rsqrt v) v)) width

/-- The two agree. -/
theorem chain_eq {n : ℕ} (v : EReal) (hv : v = ⊤ ∨ ∃ w : ℝ, 0 < w ∧ v = (w : EReal)) (x t : Fin n → EReal) (i : Fin n) :
    t i * Ideal.rsqrt v + x i * slope v x t + slope v x t * x i = backRow v x t i := by
  unfold backRow slope
  rw [width_eq, minusHalf_eq]
  rcases hv with rfl | ⟨w, hw, rfl⟩
  · have h0 : Ideal.rsqrt ⊤ = 0 := rfl
    have h1 : Ideal.div 0 ⊤ = 0 := by unfold Ideal.div; rw [if_neg (by simp), zero_mul]
    have h2 : Ideal.div 0 ((1024 : ℝ) : EReal) = 0 := by rw [Ideal.div_coe (by norm_num), zero_mul]
    rw [h0, h1]
    simp only [mul_zero, zero_mul, h2, add_zero]
  · have hρ : Ideal.rsqrt (w : EReal) = (((Real.sqrt w)⁻¹ : ℝ) : EReal) := by
      show (if w < 0 then ⊥ else if w = 0 then ⊤ else (((Real.sqrt w)⁻¹ : ℝ) : EReal)) = _
      rw [if_neg (not_lt.mpr hw.le), if_neg hw.ne']
    have hpos : 0 < (Real.sqrt w)⁻¹ := inv_pos.mpr (Real.sqrt_pos.mpr hw)
    have hsq : 1 / w = (Real.sqrt w)⁻¹ * (Real.sqrt w)⁻¹ := by
      rw [← mul_inv, Real.mul_self_sqrt hw.le, one_div]
    rw [hρ, Ideal.div_coe hw.ne', Ideal.div_coe (by norm_num), Ideal.div_coe (by norm_num), hsq]
    generalize (Real.sqrt w)⁻¹ = ρ at hpos
    rw [show (∑ k, t k * (x k * (ρ : EReal))) = (ρ : EReal) * ∑ k, x k * t k by
      rw [← sum_scale ρ hpos.le]; exact Finset.sum_congr rfl fun k _ => by ac_rfl]
    generalize (∑ k, x k * t k) = s
    rw [EReal.mul_sub_of_nonneg_of_ne_top (EReal.coe_nonneg.mpr hpos.le) (EReal.coe_ne_top ρ), sub_eq_add_neg, add_assoc]
    refine congrArg₂ (· + ·) (mul_comm _ _) ?_
    have e : x i * (s * (((-(1 / 2) : ℝ) : EReal) * ((ρ : EReal) * ((ρ * ρ : ℝ) : EReal))) * ((1 / 1024 : ℝ) : EReal))
        = ((-(ρ * ρ * ρ / 2048) : ℝ) : EReal) * (x i * s) := by
      rw [show (-(ρ * ρ * ρ / 2048) : ℝ) = -(1 / 2) * (ρ * (ρ * ρ)) * (1 / 1024) by ring]
      simp only [EReal.coe_mul]
      ac_rfl
    rw [mul_comm _ (x i), e, twice _ (by positivity)]
    rw [show (-(ρ * ρ * ρ / 2048 + ρ * ρ * ρ / 2048) : ℝ) = -(ρ * ρ * ρ * (1 / 1024)) by ring, EReal.coe_neg, EReal.neg_mul]
    refine congrArg (-·) ?_
    simp only [EReal.coe_mul]
    ac_rfl

/-- What the norm hands back to its rows, for cotangent `d` and gain `g`. -/
def gradRows {a b : ℕ} (x : Mat a b) (g : Mat 1 b) (d : Mat a b) : Mat a b :=
  fun i => backRow (mean x (i 0)) (fun k => x (ix2 (i 0) k)) (fun k => d (ix2 (i 0) k) * g (ix2 0 k)) (i 1)

/-- The chain rule's way of writing it, with the sums over a single entry that it leaves. -/
theorem chain_rows {a b : ℕ} (x : Mat a b) (g : Mat 1 b) (d : Mat a b) (i : (⟨2, ![a, b]⟩ : Shape).Idx) :
    d i * g (ix2 0 (i 1)) * Ideal.rsqrt (mean x (i 0))
        + x i * (∑ _u : Fin 1, slope (mean x (i 0)) (fun k => x (ix2 (i 0) k)) (fun k => d (ix2 (i 0) k) * g (ix2 0 k)))
        + (∑ _u : Fin 1, slope (mean x (i 0)) (fun k => x (ix2 (i 0) k)) (fun k => d (ix2 (i 0) k) * g (ix2 0 k))) * x i
      = gradRows x g d i := by
  rw [Finset.sum_const, Finset.card_univ, Fintype.card_fin, one_smul]
  have h := chain_eq (mean x (i 0)) (mean_cases x (i 0)) (fun k => x (ix2 (i 0) k)) (fun k => d (ix2 (i 0) k) * g (ix2 0 k)) (i 1)
  simp only [ix2_eta] at h
  exact h

/-- The share of row `n` in the gradient of the gain. -/
def gainShare {a b : ℕ} (x d : Mat a b) (n : ℕ) (j : Fin b) : EReal :=
  if h : n < a then d (ix2 ⟨n, h⟩ j) * (x (ix2 ⟨n, h⟩ j) * scale x ⟨n, h⟩) else 0

/-- What the norm hands back to its gain. -/
def gradGain {a b : ℕ} (x d : Mat a b) : Mat 1 b := fun i => ∑ n : Fin a, gainShare x d n (i 1)

/-- The gradient of the gain, factors the other way round. -/
theorem gain_chain {a b : ℕ} (x d : Mat a b) (i : (⟨2, ![1, b]⟩ : Shape).Idx) :
    ∑ n : Fin a, x (ix2 n (i 1)) * scale x n * d (ix2 n (i 1)) = gradGain x d i :=
  Finset.sum_congr rfl fun n _ => by unfold gainShare; rw [dif_pos n.2]; exact mul_comm _ _

end Cert.Norms
-- ==== Proof.NormBwdSame.lean ====
module

public import proofs.«01_k».proof.Defs
public import proofs.«01_k».proof.Proof.NormGradSpec
public import proofs.«01_k».proof.Proof.Gen.NormBwdIdeal.Frame
public import proofs.«01_k».proof.Proof.Gen.NormBwdRefIdeal
public import Idealize.ShloMosaic.Lib.Claim
/-! # NormBwd: the gradient of the norm before a layer -/
@[expose] public section

set_option maxRecDepth 16384
noncomputable section
open Idealize.ShloMosaic Idealize.ShloMosaic.TcCoe Idealize.SL.Sem Cert.Products Cert.Norms
namespace Cert.NormBwdIdeal.Rows
open Cert.NormBwdIdeal Cert.NormBwdIdeal.Gen

section
variable (m : (ℓ : Loc nD τ sig) → Buf (Elt Ideal) ℓ) (c : Dev nD)

/-- There are eight tiles. -/
theorem lt8 (t : Fin cfg0.N) : t.val < 8 := lt_of_lt_of_eq t.2 N_0

/-- Where each window stands at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- The gradient of the rows on top of what came past the layer. -/
abbrev rows : Mat 8192 1024 := onto (m ((c : Thread nD τ).loc main_arg1))
  (gradRows (m ((c : Thread nD τ).loc main_arg0)) (m ((c : Thread nD τ).loc main_arg2)) (m ((c : Thread nD τ).loc main_arg3)))

/-- The gradient of the gain. -/
abbrev gain : Mat 1 1024 := gradGain (m ((c : Thread nD τ).loc main_arg0)) (m ((c : Thread nD τ).loc main_arg3))

/-- The gradient of the rows after the run. -/
theorem final4 : (dats m 0 c).arrAt 4 cfg0.N = rows m c := by
  refine (dats m 0 c).arrAt_eq_of_covers 4 _ (by decide +kernel) fun t hf y => ?_
  blk_simp; rw [after0_4]
  by_cases h0 : t.val % 8 = 0
  on_goal 1 => rw [outsAt0_A m c t h0 (by have := lt8 t; omega)]
  on_goal 2 => rw [outsAt0_B m c t h0 (by omega)]
  all_goals
    frame_out
    pointwise [k0_pay2, k0_pay3, k0_pay4, k0_pay5, onto, gradRows, backRow, mean]
    blk_point [iblk, V, idx t]

/-- The same in the short format. -/
theorem final5 : (dats m 0 c).arrAt 5 cfg0.N = rows m c := by
  refine (dats m 0 c).arrAt_eq_of_covers 5 _ (by decide +kernel) fun t hf y => ?_
  blk_simp; rw [after0_5]
  by_cases h0 : t.val % 8 = 0
  on_goal 1 => rw [outsAt0_A m c t h0 (by have := lt8 t; omega)]
  on_goal 2 => rw [outsAt0_B m c t h0 (by omega)]
  all_goals
    frame_out
    pointwise [k0_pay1, k0_pay2, k0_pay3, k0_pay4, k0_pay5, onto, gradRows, backRow, mean]
    blk_point [iblk, V, idx t]

/-- The share of tile `t` in the gradient of the gain. -/
def part (t : ℕ) (j : S1x1024.Idx) : EReal :=
  ∑ a : Fin 1024, gainShare (a := 8192) (b := 1024) (m ((c : Thread nD τ).loc main_arg0)) (m ((c : Thread nD τ).loc main_arg3)) (1024 * t + a) (j 1)

/-- What the body sums over the rows of its tile. -/
theorem part_at (t : Fin cfg0.N) (y : S1x1024.Idx) : k0_pay6 (F := Ideal) (iblk m c 0 t) (iblk m c 3 t) y = part m c t.val y := by
  have := lt8 t
  unfold part
  pointwise [k0_pay2, k0_pay3, k0_pay4, k0_pay6]
  refine Fin.sum_fin_congr fun a => ?_
  have ha := a.2
  refine Eq.trans ?_ (dif_pos (by omega)).symm
  unfold scale mean
  blk_point [iblk, V, idx t]

/-- The first tile sets the gradient of the gain. -/
theorem out6_A (t : Fin cfg0.N) (h0 : t.val % 8 = 0) (h1 : ¬ 1 ≤ t.val) (y : S1x1024.Idx) :
    (outsAt0 m c t.val t.isLt).2.2 y = part m c t.val y := by
  rw [outsAt0_A m c t h0 h1]
  frame_out
  exact part_at m c t y

/-- Every further tile adds to it. -/
theorem out6_B (t : Fin cfg0.N) (h0 : ¬ t.val % 8 = 0) (h1 : 1 ≤ t.val) (y : S1x1024.Idx) :
    (outsAt0 m c t.val t.isLt).2.2 y = (outsAt0 m c (t.val - 1) (by have := t.2; omega)).2.2 y + part m c t.val y := by
  rw [outsAt0_B m c t h0 h1, ← part_at m c t y]
  frame_out
  pointwise [k0_pay7]

/-- The gradient of the gain after the run. -/
theorem final6 : (dats m 0 c).arrAt 6 cfg0.N = gain m c := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0)
    (fun p j => part m c p.val j)
    (fun t h j => by rw [out6_A m c t h (by have := lt8 t; omega), zero_add])
    (fun t h j => out6_B m c t h (by omega) j)
    t ((flush0_6 t).mp hf) _, zero_add]
  have ht : t.val / 8 = 0 := by have := lt8 t; omega
  unfold gain gradGain part
  simp only [ht, Nat.zero_mul, Nat.zero_add, Nat.mul_zero]
  refine Fin.sum_mul_add_congr fun s k hl => ?_
  rw [Nat.mul_comm 1024]
  refine congrArg (gainShare _ _ _) (Fin.ext ?_)
  blk_simp
  show (y 1 : ℕ) = _
  have e := congrFun (idx t).2.2.2.2.2.2 1
  simp only [e]
  simp
end

local instance : Cert.NormBwdIdeal.Facts := Cert.NormBwdIdeal.Gen.facts
local instance : Cert.NormBwdRefIdeal.Facts := Cert.NormBwdRefIdeal.Gen.facts

/-- The reference ends, keeps its arguments, and has no counters that could be left standing. -/
theorem frameR : Cert.quiescent_NormBwdRefIdeal := by
  intro m g _
  hlo_run
  · exact fun _ => ⟨trivial, trivial, trivial, trivial⟩
  · exact sem_eq_zero_of_no_sems rfl _

/-- Call and reference give the same three arrays. -/
theorem same : Cert.algebraic_NormBwdIdeal_NormBwdRefIdeal := by
  pair_intro
  · run_from Cert.NormBwdIdeal.Gen.run_main m g
  · hlo_run
    · rw [final4]
      funext i
      pointwise [rows, onto]
      exact congrArg₂ (· + ·) rfl (chain_rows (a := 8192) (b := 1024) _ _ _ i)
    · rw [final5]
      funext i
      pointwise [rows, onto]
      exact congrArg₂ (· + ·) rfl (chain_rows (a := 8192) (b := 1024) _ _ _ i)
    · rw [final6]
      funext i
      pointwise
      exact gain_chain (a := 8192) (b := 1024) _ _ i

end Cert.NormBwdIdeal.Rows
-- ==== Proof.NormBwdTwoArrays.lean ====
module

public import proofs.«01_k».proof.Proof.NormGradSpec
public import proofs.«01_k».proof.Proof.Gen.NormBwdTwoIdeal.Frame
public import Idealize.ShloMosaic.Lib.Pipeline.ValueKit
/-! # The result arrays of the norm's gradient under two gains -/
@[expose] public section

set_option maxRecDepth 16384
noncomputable section
open Idealize.ShloMosaic Idealize.ShloMosaic.TcCoe Idealize.SL.Sem Cert.Products Cert.Norms
namespace Cert.NormBwdTwoIdeal.Rows
open Cert.NormBwdTwoIdeal Cert.NormBwdTwoIdeal.Gen

variable (m : (ℓ : Loc nD τ sig) → Buf (Elt Ideal) ℓ) (c : Dev nD)

/-- There are eight tiles. -/
theorem lt8 (t : Fin cfg0.N) : t.val < 8 := lt_of_lt_of_eq t.2 N_0

/-- Where each window stands at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

/-- The gradient of the rows through both gains, on top of what came past the layer. -/
abbrev rows : Mat 8192 1024 := onto (onto (m ((c : Thread nD τ).loc main_arg1))
    (gradRows (m ((c : Thread nD τ).loc main_arg0)) (m ((c : Thread nD τ).loc main_arg2)) (m ((c : Thread nD τ).loc main_arg3))))
  (gradRows (m ((c : Thread nD τ).loc main_arg0)) (m ((c : Thread nD τ).loc main_arg4)) (m ((c : Thread nD τ).loc main_arg5)))

/-- The gradients of the two gains. -/
abbrev gain : Mat 1 1024 := gradGain (m ((c : Thread nD τ).loc main_arg0)) (m ((c : Thread nD τ).loc main_arg3))
abbrev gain' : Mat 1 1024 := gradGain (m ((c : Thread nD τ).loc main_arg0)) (m ((c : Thread nD τ).loc main_arg5))

/-- The gradient of the rows after the run. -/
theorem final6 : (dats m 0 c).arrAt 6 cfg0.N = rows m c := by
  refine (dats m 0 c).arrAt_eq_of_covers 6 _ (by decide +kernel) fun t hf y => ?_
  blk_simp; rw [after0_6]
  by_cases h0 : t.val % 8 = 0
  on_goal 1 => rw [outsAt0_A m c t h0 (by have := lt8 t; omega) h0 (by have := lt8 t; omega)]
  on_goal 2 => rw [outsAt0_B m c t h0 (by omega) h0 (by omega)]
  all_goals
    frame_out
    pointwise [k0_pay1, k0_pay2, k0_pay5, k0_pay6, k0_pay7, k0_pay8, k0_pay9, onto, gradRows, backRow, mean]
    blk_point [iblk, V, idx t]

/-- The same in the short format. -/
theorem final7 : (dats m 0 c).arrAt 7 cfg0.N = rows m c := by
  refine (dats m 0 c).arrAt_eq_of_covers 7 _ (by decide +kernel) fun t hf y => ?_
  blk_simp; rw [after0_7]
  by_cases h0 : t.val % 8 = 0
  on_goal 1 => rw [outsAt0_A m c t h0 (by have := lt8 t; omega) h0 (by have := lt8 t; omega)]
  on_goal 2 => rw [outsAt0_B m c t h0 (by omega) h0 (by omega)]
  all_goals
    frame_out
    pointwise [k0_pay1, k0_pay2, k0_pay5, k0_pay6, k0_pay7, k0_pay8, k0_pay9, onto, gradRows, backRow, mean]
    blk_point [iblk, V, idx t]

/-- The share of tile `t` in the gradient of gain 1. -/
def part (t : ℕ) (j : S1x1024.Idx) : EReal :=
  ∑ a : Fin 1024, gainShare (a := 8192) (b := 1024) (m ((c : Thread nD τ).loc main_arg0)) (m ((c : Thread nD τ).loc main_arg3)) (1024 * t + a) (j 1)

/-- What the body sums over the rows of its tile. -/
theorem part_at (t : Fin cfg0.N) (y : S1x1024.Idx) : k0_pay10 (F := Ideal) (iblk m c 0 t) (iblk m c 3 t) y = part m c t.val y := by
  have := lt8 t
  unfold part
  pointwise [k0_pay10, k0_pay8, k0_pay7, k0_pay6]
  refine Fin.sum_fin_congr fun a => ?_
  have ha := a.2
  refine Eq.trans ?_ (dif_pos (by omega)).symm
  unfold scale mean
  blk_point [iblk, V, idx t]

/-- The first tile sets the gradient of gain 1. -/
theorem out8_A (t : Fin cfg0.N) (h0 : t.val % 8 = 0) (h1 : ¬ 1 ≤ t.val) (y : S1x1024.Idx) :
    (outsAt0 m c t.val t.isLt).2.2.1 y = part m c t.val y := by
  rw [outsAt0_A m c t h0 h1 h0 h1]
  frame_out
  exact part_at m c t y

/-- Every further tile adds to it. -/
theorem out8_B (t : Fin cfg0.N) (h0 : ¬ t.val % 8 = 0) (h1 : 1 ≤ t.val) (y : S1x1024.Idx) :
    (outsAt0 m c t.val t.isLt).2.2.1 y = (outsAt0 m c (t.val - 1) (by have := t.2; omega)).2.2.1 y + part m c t.val y := by
  rw [outsAt0_B m c t h0 h1 h0 h1, ← part_at m c t y]
  frame_out
  pointwise [k0_pay11]

/-- The gradient of gain 1 after the run. -/
theorem final8 : (dats m 0 c).arrAt 8 cfg0.N = gain m c := by
  refine (dats m 0 c).arrAt_eq_of_covers 8 _ (by decide +kernel) fun t hf y => ?_
  blk_simp
  rw [after0_8, Pipeline.eq_sum_fin_of_reset_step_apply_of_flush (fun n h => (outsAt0 m c n h).2.2.1) 8 (fun _ => 0)
    (fun p j => part m c p.val j)
    (fun t h j => by rw [out8_A m c t h (by have := lt8 t; omega), zero_add])
    (fun t h j => out8_B m c t h (by omega) j)
    t ((flush0_8 t).mp hf) _, zero_add]
  have ht : t.val / 8 = 0 := by have := lt8 t; omega
  unfold gain gradGain part
  simp only [ht, Nat.zero_mul, Nat.zero_add, Nat.mul_zero]
  refine Fin.sum_mul_add_congr fun s k hl => ?_
  rw [Nat.mul_comm 1024]
  refine congrArg (gainShare _ _ _) (Fin.ext ?_)
  blk_simp
  show (y 1 : ℕ) = _
  have e := congrFun (idx t).2.2.2.2.2.2.2.2.1 1
  simp only [e]
  simp

/-- The share of tile `t` in the gradient of gain 2. -/
def part' (t : ℕ) (j : S1x1024.Idx) : EReal :=
  ∑ a : Fin 1024, gainShare (a := 8192) (b := 1024) (m ((c : Thread nD τ).loc main_arg0)) (m ((c : Thread nD τ).loc main_arg5)) (1024 * t + a) (j 1)

/-- What the body sums over the rows of its tile. -/
theorem part'_at (t : Fin cfg0.N) (y : S1x1024.Idx) : k0_pay3 (F := Ideal) (k0_pay7 (iblk m c 0 t)) (iblk m c 5 t) y = part' m c t.val y := by
  have := lt8 t
  unfold part'
  pointwise [k0_pay3, k0_pay1, k0_pay7, k0_pay6]
  refine Fin.sum_fin_congr fun a => ?_
  have ha := a.2
  refine Eq.trans ?_ (dif_pos (by omega)).symm
  unfold scale mean
  blk_point [iblk, V, idx t]

/-- The first tile sets the gradient of gain 2. -/
theorem out9_A (t : Fin cfg0.N) (h0 : t.val % 8 = 0) (h1 : ¬ 1 ≤ t.val) (y : S1x1024.Idx) :
    (outsAt0 m c t.val t.isLt).2.2.2 y = part' m c t.val y := by
  rw [outsAt0_A m c t h0 h1 h0 h1]
  frame_out
  exact part'_at m c t y

/-- Every further tile adds to it. -/
theorem out9_B (t : Fin cfg0.N) (h0 : ¬ t.val % 8 = 0) (h1 : 1 ≤ t.val) (y : S1x1024.Idx) :
    (outsAt0 m c t.val t.isLt).2.2.2 y = (outsAt0 m c (t.val - 1) (by have := t.2; omega)).2.2.2 y + part' m c t.val y := by
  rw [outsAt0_B m c t h0 h1 h0 h1, ← part'_at m c t y]
  frame_out
  pointwise [k0_pay4]

/-- The gradient of gain 2 after the run. -/
theorem final9 : (dats m 0 c).arrAt 9 cfg0.N = gain' m c := by
  refine (dats m 0 c).arrAt_eq_of_covers 9 _ (by decide +kernel) fun t hf y => ?_
  blk_simp
  rw [after0_9, Pipeline.eq_sum_fin_of_reset_step_apply_of_flush (fun n h => (outsAt0 m c n h).2.2.2) 8 (fun _ => 0)
    (fun p j => part' m c p.val j)
    (fun t h j => by rw [out9_A m c t h (by have := lt8 t; omega), zero_add])
    (fun t h j => out9_B m c t h (by omega) j)
    t ((flush0_9 t).mp hf) _, zero_add]
  have ht : t.val / 8 = 0 := by have := lt8 t; omega
  unfold gain' gradGain part'
  simp only [ht, Nat.zero_mul, Nat.zero_add, Nat.mul_zero]
  refine Fin.sum_mul_add_congr fun s k hl => ?_
  rw [Nat.mul_comm 1024]
  refine congrArg (gainShare _ _ _) (Fin.ext ?_)
  blk_simp
  show (y 1 : ℕ) = _
  have e := congrFun (idx t).2.2.2.2.2.2.2.2.2 1
  simp only [e]
  simp

end Cert.NormBwdTwoIdeal.Rows
-- ==== Proof.NormBwdTwoSame.lean ====
module

public import proofs.«01_k».proof.Defs
public import proofs.«01_k».proof.Proof.NormBwdTwoArrays
public import proofs.«01_k».proof.Proof.Gen.NormBwdTwoRefIdeal.Run
public import Idealize.ShloMosaic.Lib.Claim
/-! # NormBwdTwo: the gradient of a norm whose rows are used under two gains -/
@[expose] public section

set_option maxRecDepth 16384
noncomputable section
open Idealize.ShloMosaic Idealize.ShloMosaic.TcCoe Idealize.SL.Sem Cert.Products Cert.Norms
namespace Cert.NormBwdTwoIdeal.Rows
open Cert.NormBwdTwoIdeal Cert.NormBwdTwoIdeal.Gen

local instance : Cert.NormBwdTwoIdeal.Facts := Cert.NormBwdTwoIdeal.Gen.facts
local instance : Cert.NormBwdTwoRefIdeal.Facts := Cert.NormBwdTwoRefIdeal.Gen.facts

/-- The reference ends, keeps its arguments, and has no counters that could be left standing. -/
theorem frameR : Cert.quiescent_NormBwdTwoRefIdeal := by
  intro m g _
  refine θ_run_mono (Cert.NormBwdTwoRefIdeal.Value.run m g) fun r h => ⟨fun c => (h c).2.2.2.2, ?_⟩
  exact sem_eq_zero_of_no_sems rfl _

/-- Call and reference give the same four arrays. -/
theorem same : Cert.algebraic_NormBwdTwoIdeal_NormBwdTwoRefIdeal := by
  pair_intro
  · run_from Cert.NormBwdTwoIdeal.Gen.run_main m g
  · refine θ_run_mono (Cert.NormBwdTwoRefIdeal.Value.run m' g') fun r h c => ?_
    refine ⟨(h c).1.trans ?_, (h c).2.1.trans ?_, (h c).2.2.1.trans ?_, (h c).2.2.2.1.trans ?_, (h c).2.2.2.2⟩
    · rw [final6]
      funext i
      pointwise [rows, onto, Cert.NormBwdTwoRefIdeal.Value.res_main_v71, (hagree c).1, (hagree c).2.1, (hagree c).2.2.1, (hagree c).2.2.2.1, (hagree c).2.2.2.2.1, (hagree c).2.2.2.2.2]
      exact congrArg₂ (· + ·) (congrArg₂ (· + ·) rfl (chain_rows (a := 8192) (b := 1024) _ _ _ i)) (chain_rows (a := 8192) (b := 1024) _ _ _ i)
    · rw [final7]
      funext i
      pointwise [rows, onto, Cert.NormBwdTwoRefIdeal.Value.res_main_v72, (hagree c).1, (hagree c).2.1, (hagree c).2.2.1, (hagree c).2.2.2.1, (hagree c).2.2.2.2.1, (hagree c).2.2.2.2.2]
      exact congrArg₂ (· + ·) (congrArg₂ (· + ·) rfl (chain_rows (a := 8192) (b := 1024) _ _ _ i)) (chain_rows (a := 8192) (b := 1024) _ _ _ i)
    · rw [final8]
      funext i
      pointwise [(hagree c).1, (hagree c).2.2.2.1]
      exact gain_chain (a := 8192) (b := 1024) _ _ i
    · rw [final9]
      funext i
      pointwise [(hagree c).1, (hagree c).2.2.2.2.2]
      exact gain_chain (a := 8192) (b := 1024) _ _ i

end Cert.NormBwdTwoIdeal.Rows
-- ==== Proof.LossSpec.lean ====
module

public import proofs.«01_k».proof.Proof.NormGradSpec
/-! # The squared error of the normed rows -/
@[expose] public section

set_option maxRecDepth 16384
noncomputable section
open Idealize.ShloMosaic Idealize.ShloMosaic.TcCoe Idealize.SL.Sem Cert.Products
namespace Cert.Norms

/-- One over the number of columns. -/
abbrev share : EReal := Ideal.ofBits FTy.f32 0x3A800000#32

/-- By how much the normed rows miss the target. -/
def miss {a b : ℕ} (x : Mat a b) (g : Mat 1 b) (t : Mat a b) : Mat a b := fun i => x i * scale x (i 0) * g (ix2 0 (i 1)) - t i

/-- What the loss hands back to the normed rows. -/
def pull {a b : ℕ} (x : Mat a b) (g : Mat 1 b) (t : Mat a b) : Mat a b := fun i => miss x g t i * share

/-- The chain rule's factors in front of a miss come to one over the number of columns. -/
theorem pull_chain (e : EReal) :
    Ideal.div (Ideal.ofBits FTy.f32 0x3F000000#32) (Ideal.ofBits FTy.f32 0x44800000#32)
      * (Ideal.ofBits FTy.f32 0x40000000#32 * e) = e * share := by
  have h5 : Ideal.ofBits FTy.f32 0x3F000000#32 = ((1 / 2 : ℝ) : EReal) := by simp [Ideal.ofBits, Ideal.ieee, -EReal.coe_mul]; norm_num
  have h2 : Ideal.ofBits FTy.f32 0x40000000#32 = ((2 : ℝ) : EReal) := by simp [Ideal.ofBits, Ideal.ieee, -EReal.coe_mul]; norm_num
  have hw : Ideal.ofBits FTy.f32 0x44800000#32 = ((1024 : ℝ) : EReal) := by simp [Ideal.ofBits, Ideal.ieee, -EReal.coe_mul]; norm_num
  have hs : share = ((1 / 1024 : ℝ) : EReal) := by unfold share; simp [Ideal.ofBits, Ideal.ieee, -EReal.coe_mul]; norm_num
  rw [h5, h2, hw, hs, Ideal.div_coe (by norm_num), ← EReal.coe_mul, ← mul_assoc, ← EReal.coe_mul, mul_comm]
  norm_num

/-- The squared error of row `n`. -/
def errShare {a b : ℕ} (x : Mat a b) (g : Mat 1 b) (t : Mat a b) (n : ℕ) : EReal :=
  if h : n < a then ∑ k : Fin b, miss x g t (ix2 ⟨n, h⟩ k) * miss x g t (ix2 ⟨n, h⟩ k) else 0

/-- The squared error of all rows. -/
def err {a b : ℕ} (x : Mat a b) (g : Mat 1 b) (t : Mat a b) : EReal := ∑ n : Fin a, errShare x g t n

end Cert.Norms
-- ==== Proof.LossArrays.lean ====
module

public import proofs.«01_k».proof.Proof.LossSpec
public import proofs.«01_k».proof.Proof.Gen.LossIdeal.Frame
public import Idealize.ShloMosaic.Lib.Pipeline.ValueKit
/-! # The result arrays of the loss head -/
@[expose] public section

set_option maxRecDepth 16384
noncomputable section
open Idealize.ShloMosaic Idealize.ShloMosaic.TcCoe Idealize.SL.Sem Cert.Products Cert.Norms
namespace Cert.LossIdeal.Rows
open Cert.LossIdeal Cert.LossIdeal.Gen

variable (m : (ℓ : Loc nD τ sig) → Buf (Elt Ideal) ℓ) (c : Dev nD)

/-- There are eight tiles. -/
theorem lt8 (t : Fin cfg0.N) : t.val < 8 := lt_of_lt_of_eq t.2 N_0

/-- Where each window stands at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

/-- What the loss hands back to the normed rows, and they to the rows and to the gain. -/
abbrev back : Mat 8192 1024 :=
  pull (m ((c : Thread nD τ).loc main_arg0)) (m ((c : Thread nD τ).loc main_arg1)) (m ((c : Thread nD τ).loc main_arg2))
abbrev rows : Mat 8192 1024 := gradRows (m ((c : Thread nD τ).loc main_arg0)) (m ((c : Thread nD τ).loc main_arg1)) (back m c)
abbrev gain : Mat 1 1024 := gradGain (m ((c : Thread nD τ).loc main_arg0)) (back m c)

/-- The squared error, in every lane of a row. -/
abbrev total : Mat 1 128 := fun _ =>
  err (a := 8192) (b := 1024) (m ((c : Thread nD τ).loc main_arg0)) (m ((c : Thread nD τ).loc main_arg1)) (m ((c : Thread nD τ).loc main_arg2))

/-- The gradient of the rows after the run. -/
theorem final3 : (dats m 0 c).arrAt 3 cfg0.N = rows m c := by
  refine (dats m 0 c).arrAt_eq_of_covers 3 _ (by decide +kernel) fun t hf y => ?_
  blk_simp; rw [after0_3]
  by_cases h0 : t.val % 8 = 0
  on_goal 1 => rw [outsAt0_A m c t h0 (by have := lt8 t; omega)]
  on_goal 2 => rw [outsAt0_B m c t h0 (by omega)]
  all_goals
    frame_out
    pointwise [k0_pay11, k0_pay10, k0_pay9, k0_pay7, k0_pay6, k0_pay5, gradRows, backRow, back, pull, miss, scale, mean]
    blk_point [iblk, V, idx t]

/-- The same in the short format. -/
theorem final4 : (dats m 0 c).arrAt 4 cfg0.N = rows m c := by
  refine (dats m 0 c).arrAt_eq_of_covers 4 _ (by decide +kernel) fun t hf y => ?_
  blk_simp; rw [after0_4]
  by_cases h0 : t.val % 8 = 0
  on_goal 1 => rw [outsAt0_A m c t h0 (by have := lt8 t; omega)]
  on_goal 2 => rw [outsAt0_B m c t h0 (by omega)]
  all_goals
    frame_out
    pointwise [k0_pay11, k0_pay10, k0_pay9, k0_pay7, k0_pay6, k0_pay5, gradRows, backRow, back, pull, miss, scale, mean]
    blk_point [iblk, V, idx t]

/-- The share of tile `t` in the gradient of the gain. -/
def part (t : ℕ) (j : S1x1024.Idx) : EReal :=
  ∑ a : Fin 1024, gainShare (a := 8192) (b := 1024) (m ((c : Thread nD τ).loc main_arg0)) (back m c) (1024 * t + a) (j 1)

/-- What the body sums over its tile. -/
theorem part_at (t : Fin cfg0.N) (y : S1x1024.Idx) : k0_pay1 (F := Ideal) (k0_pay12 (iblk m c 0 t) (iblk m c 1 t) (iblk m c 2 t)) y = part m c t.val y := by
  have := lt8 t
  unfold part
  pointwise [k0_pay1, k0_pay12, k0_pay9, k0_pay7, k0_pay6, k0_pay5]
  refine Fin.sum_fin_congr fun a => ?_
  have ha := a.2
  refine Eq.trans ?_ (dif_pos (by omega)).symm
  unfold back pull miss scale mean
  blk_point [iblk, V, idx t]

/-- The first tile sets the gradient of the gain. -/
theorem out5_A (t : Fin cfg0.N) (h0 : t.val % 8 = 0) (h1 : ¬ 1 ≤ t.val) (y : S1x1024.Idx) :
    (outsAt0 m c t.val t.isLt).2.2.1 y = part m c t.val y := by
  rw [outsAt0_A m c t h0 h1]
  frame_out
  exact part_at m c t y

/-- Every further tile adds to it. -/
theorem out5_B (t : Fin cfg0.N) (h0 : ¬ t.val % 8 = 0) (h1 : 1 ≤ t.val) (y : S1x1024.Idx) :
    (outsAt0 m c t.val t.isLt).2.2.1 y = (outsAt0 m c (t.val - 1) (by have := t.2; omega)).2.2.1 y + part m c t.val y := by
  rw [outsAt0_B m c t h0 h1, ← part_at m c t y]
  frame_out
  pointwise [k0_pay3]

/-- The gradient of the gain after the run. -/
theorem final5 : (dats m 0 c).arrAt 5 cfg0.N = gain m c := by
  refine (dats m 0 c).arrAt_eq_of_covers 5 _ (by decide +kernel) fun t hf y => ?_
  blk_simp
  rw [after0_5, Pipeline.eq_sum_fin_of_reset_step_apply_of_flush (fun n h => (outsAt0 m c n h).2.2.1) 8 (fun _ => 0)
    (fun p j => part m c p.val j)
    (fun t h j => by rw [out5_A m c t h (by have := lt8 t; omega), zero_add])
    (fun t h j => out5_B m c t h (by omega) j)
    t ((flush0_5 t).mp hf) _, zero_add]
  have ht : t.val / 8 = 0 := by have := lt8 t; omega
  unfold gain gradGain part
  simp only [ht, Nat.zero_mul, Nat.zero_add, Nat.mul_zero]
  refine Fin.sum_mul_add_congr fun s k hl => ?_
  rw [Nat.mul_comm 1024]
  refine congrArg (gainShare _ _ _) (Fin.ext ?_)
  blk_simp
  show (y 1 : ℕ) = _
  have e := congrFun (idx t).2.2.2.2.2.1 1
  simp only [e]
  simp

/-- The share of tile `t` in the squared error. -/
def tail (t : ℕ) (_j : S1x128.Idx) : EReal :=
  ∑ a : Fin 1024, errShare (a := 8192) (b := 1024) (m ((c : Thread nD τ).loc main_arg0)) (m ((c : Thread nD τ).loc main_arg1)) (m ((c : Thread nD τ).loc main_arg2)) (1024 * t + a)

/-- What the body sums over its tile. -/
theorem tail_at (t : Fin cfg0.N) (y : S1x128.Idx) : k0_pay2 (F := Ideal) (k0_pay8 (iblk m c 0 t) (iblk m c 1 t) (iblk m c 2 t)) y = tail m c t.val y := by
  have := lt8 t
  unfold tail
  pointwise [k0_pay2, k0_pay8, k0_pay7, k0_pay6, k0_pay5]
  refine Fin.sum_fin_congr fun a => ?_
  have ha := a.2
  refine Eq.trans ?_ (dif_pos (by omega)).symm
  unfold miss scale mean
  blk_point [iblk, V, idx t]

/-- The first tile sets the squared error. -/
theorem out6_A (t : Fin cfg0.N) (h0 : t.val % 8 = 0) (h1 : ¬ 1 ≤ t.val) (y : S1x128.Idx) :
    (outsAt0 m c t.val t.isLt).2.2.2 y = tail m c t.val y := by
  rw [outsAt0_A m c t h0 h1]
  frame_out
  exact tail_at m c t y

/-- Every further tile adds to it. -/
theorem out6_B (t : Fin cfg0.N) (h0 : ¬ t.val % 8 = 0) (h1 : 1 ≤ t.val) (y : S1x128.Idx) :
    (outsAt0 m c t.val t.isLt).2.2.2 y = (outsAt0 m c (t.val - 1) (by have := t.2; omega)).2.2.2 y + tail m c t.val y := by
  rw [outsAt0_B m c t h0 h1, ← tail_at m c t y]
  frame_out
  pointwise [k0_pay4, k0_pay2]

/-- The squared error after the run. -/
theorem final6 : (dats m 0 c).arrAt 6 cfg0.N = total m c := by
  refine (dats m 0 c).arrAt_eq_of_covers 6 _ (by decide +kernel) fun t hf y => ?_
  blk_simp
  rw [after0_6, Pipeline.eq_sum_fin_of_reset_step_apply_of_flush (fun n h => (outsAt0 m c n h).2.2.2) 8 (fun _ => 0)
    (fun p j => tail m c p.val j)
    (fun t h j => by rw [out6_A m c t h (by have := lt8 t; omega), zero_add])
    (fun t h j => out6_B m c t h (by omega) j)
    t ((flush0_6 t).mp hf) _, zero_add]
  have ht : t.val / 8 = 0 := by have := lt8 t; omega
  unfold total err tail
  simp only [ht, Nat.zero_mul, Nat.zero_add, Nat.mul_zero]
  refine Fin.sum_mul_add_congr fun s k hl => ?_
  rw [Nat.mul_comm 1024]

end Cert.LossIdeal.Rows
-- ==== Proof.LossSame.lean ====
module

public import proofs.«01_k».proof.Defs
public import proofs.«01_k».proof.Proof.LossArrays
public import proofs.«01_k».proof.Proof.Gen.LossRefIdeal.Run
public import Idealize.ShloMosaic.Lib.Claim
/-! # Loss: the last norm, the squared error and its gradient -/
@[expose] public section

set_option maxRecDepth 16384
noncomputable section
open Idealize.ShloMosaic Idealize.ShloMosaic.TcCoe Idealize.SL.Sem Cert.Products Cert.Norms
namespace Cert.LossIdeal.Rows
open Cert.LossIdeal Cert.LossIdeal.Gen

local instance : Cert.LossIdeal.Facts := Cert.LossIdeal.Gen.facts
local instance : Cert.LossRefIdeal.Facts := Cert.LossRefIdeal.Gen.facts

/-- The reference ends, keeps its arguments, and has no counters that could be left standing. -/
theorem frameR : Cert.quiescent_LossRefIdeal := by
  intro m g _
  refine θ_run_mono (Cert.LossRefIdeal.Value.run m g) fun r h => ⟨fun c => (h c).2.2.2.2, ?_⟩
  exact sem_eq_zero_of_no_sems rfl _

/-- Call and reference give the same four arrays. -/
theorem same : Cert.algebraic_LossIdeal_LossRefIdeal := by
  pair_intro
  · run_from Cert.LossIdeal.Gen.run_main m g
  · refine θ_run_mono (Cert.LossRefIdeal.Value.run m' g') fun r h c => ?_
    refine ⟨(h c).1.trans ?_, (h c).2.1.trans ?_, (h c).2.2.1.trans ?_, (h c).2.2.2.1.trans ?_, (h c).2.2.2.2⟩
    · rw [final3]
      funext i
      pointwise [rows, Cert.LossRefIdeal.Value.res_main_v48, (hagree c).1, (hagree c).2.1, (hagree c).2.2, pull_chain]
      exact chain_rows (a := 8192) (b := 1024) _ _ (back m c) i
    · rw [final4]
      funext i
      pointwise [rows, Cert.LossRefIdeal.Value.res_main_v63, (hagree c).1, (hagree c).2.1, (hagree c).2.2, pull_chain]
      exact chain_rows (a := 8192) (b := 1024) _ _ (back m c) i
    · rw [final5]
      funext i
      pointwise [(hagree c).1, (hagree c).2.1, (hagree c).2.2, pull_chain]
      exact gain_chain (a := 8192) (b := 1024) _ (back m c) i
    · rw [final6]
      funext i
      pointwise [(hagree c).1, (hagree c).2.1, (hagree c).2.2]
      refine Finset.sum_congr rfl fun n _ => ?_
      unfold errShare
      rw [dif_pos n.2]
      rfl

end Cert.LossIdeal.Rows
-- ==== Proof.AdamSpec.lean ====
module

public import Idealize.ShloMosaic.Lib.Pipeline.ValueKit
/-! # One entry of the optimiser's update

The two moments and the step of one weight, from the weight, its gradient and the moments before. -/
@[expose] public section

noncomputable section
open Idealize.ShloMosaic
namespace Cert.Adams

/-- The first moment after the step: nine tenths of the old one, one tenth of the gradient. -/
def mean (g m : EReal) : EReal := Ideal.ofBits FTy.f32 0x3F666666#32 * m + Ideal.ofBits FTy.f32 0x3DCCCCCD#32 * g

/-- The second moment after the step. -/
def square (g v : EReal) : EReal := Ideal.ofBits FTy.f32 0x3F7FBE77#32 * v + Ideal.ofBits FTy.f32 0x3A83126F#32 * (g * g)

/-- What is added to the weight: the corrected first moment over the root of the corrected second, and the decay. -/
def step (w g m v : EReal) : EReal :=
  Ideal.ofBits FTy.f32 0xBA83126F#32 *
    (Ideal.div (Ideal.div (mean g m) (Ideal.ofBits FTy.f32 0x3F26BD02#32))
      (Ideal.sqrt (Ideal.div (square g v) (Ideal.ofBits FTy.f32 0x3C231ACC#32)) + Ideal.ofBits FTy.f32 0x322BCC77#32)
      + Ideal.ofBits FTy.f32 0x3C23D70A#32 * w)

end Cert.Adams
-- ==== Proof.AdamKvSame.lean ====
module

public import proofs.«01_k».proof.Defs
public import proofs.«01_k».proof.Proof.AdamSpec
public import proofs.«01_k».proof.Proof.Gen.AdamKvIdeal.Frame
public import proofs.«01_k».proof.Proof.Gen.AdamKvRefIdeal
public import Idealize.ShloMosaic.Lib.Claim
/-! # AdamKv: the update of the weight of keys and values -/
@[expose] public section

set_option maxRecDepth 16384
noncomputable section
open Idealize.ShloMosaic Idealize.ShloMosaic.TcCoe Idealize.SL.Sem Cert.Adams
namespace Cert.AdamKvIdeal.Rows
open Cert.AdamKvIdeal Cert.AdamKvIdeal.Gen

section
variable (m : (ℓ : Loc nD τ sig) → Buf (Elt Ideal) ℓ) (c : Dev nD)

/-- Where each window stands at a grid point. -/
theorem idx : ∀ t : Fin cfg0.N, win0_0.index t = ![0, t.val, 0]
    ∧ win0_1.index t = ![0, t.val, 0]
    ∧ win0_2.index t = ![0, t.val, 0]
    ∧ win0_3.index t = ![t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The array that holds the gradient, passed on. -/
abbrev target4 : S1x1024x512.Idx → EReal := fun i => (m ((c : Thread nD τ).loc main_arg3)) (ix2 (i 1) (i 2))

theorem final4 : (dats m 0 c).arrAt 4 cfg0.N = target4 m c := by
  refine (dats m 0 c).arrAt_eq_of_covers 4 _ (by decide +kernel) fun t hf y => ?_
  blk_simp; rw [after0_4]; frame_out
  pointwise [target4, k0_pay1, k0_pay2, k0_pay3, k0_pay4, k0_pay5, k0_pay6, k0_pay7]
  blk_point [iblk, V, idx t]

/-- The array that holds the step. -/
abbrev target5 : S1x1024x512.Idx → EReal := fun i => step ((m ((c : Thread nD τ).loc main_arg0)) i) ((m ((c : Thread nD τ).loc main_arg3)) (ix2 (i 1) (i 2))) ((m ((c : Thread nD τ).loc main_arg1)) i) ((m ((c : Thread nD τ).loc main_arg2)) i)

theorem final5 : (dats m 0 c).arrAt 5 cfg0.N = target5 m c := by
  refine (dats m 0 c).arrAt_eq_of_covers 5 _ (by decide +kernel) fun t hf y => ?_
  blk_simp; rw [after0_5]; frame_out
  pointwise [target5, step, mean, square, k0_pay1, k0_pay2, k0_pay3, k0_pay4, k0_pay5, k0_pay6, k0_pay7]
  blk_point [iblk, V, idx t]

/-- The array that holds the first moment. -/
abbrev target6 : S1x1024x512.Idx → EReal := fun i => mean ((m ((c : Thread nD τ).loc main_arg3)) (ix2 (i 1) (i 2))) ((m ((c : Thread nD τ).loc main_arg1)) i)

theorem final6 : (dats m 0 c).arrAt 6 cfg0.N = target6 m c := by
  refine (dats m 0 c).arrAt_eq_of_covers 6 _ (by decide +kernel) fun t hf y => ?_
  blk_simp; rw [after0_6]; frame_out
  pointwise [target6, mean, k0_pay1, k0_pay2, k0_pay3, k0_pay4, k0_pay5, k0_pay6, k0_pay7]
  blk_point [iblk, V, idx t]

/-- The array that holds the second moment. -/
abbrev target7 : S1x1024x512.Idx → EReal := fun i => square ((m ((c : Thread nD τ).loc main_arg3)) (ix2 (i 1) (i 2))) ((m ((c : Thread nD τ).loc main_arg2)) i)

theorem final7 : (dats m 0 c).arrAt 7 cfg0.N = target7 m c := by
  refine (dats m 0 c).arrAt_eq_of_covers 7 _ (by decide +kernel) fun t hf y => ?_
  blk_simp; rw [after0_7]; frame_out
  pointwise [target7, square, k0_pay1, k0_pay2, k0_pay3, k0_pay4, k0_pay5, k0_pay6, k0_pay7]
  blk_point [iblk, V, idx t]

end

local instance : Cert.AdamKvIdeal.Facts := Cert.AdamKvIdeal.Gen.facts
local instance : Cert.AdamKvRefIdeal.Facts := Cert.AdamKvRefIdeal.Gen.facts

/-- The reference ends, keeps its arguments, and has no counters that could be left standing. -/
theorem frameR : Cert.quiescent_AdamKvRefIdeal := by
  intro m g _
  hlo_run
  · exact fun _ => ⟨trivial, trivial, trivial, trivial⟩
  · exact sem_eq_zero_of_no_sems rfl _

/-- Call and reference update alike. -/
theorem same : Cert.algebraic_AdamKvIdeal_AdamKvRefIdeal := by
  pair_intro
  · run_from Cert.AdamKvIdeal.Gen.run_main m g
  · hlo_run
    · rw [final4]; funext i; pointwise [target4]
    · rw [final5]; funext i; pointwise [target5, step, mean, square]
    · rw [final6]; funext i; pointwise [target6, mean]
    · rw [final7]; funext i; pointwise [target7, square]

end Cert.AdamKvIdeal.Rows
-- ==== Proof.AdamSquareSame.lean ====
module

public import proofs.«01_k».proof.Defs
public import proofs.«01_k».proof.Proof.AdamSpec
public import proofs.«01_k».proof.Proof.Gen.AdamSquareIdeal.Frame
public import proofs.«01_k».proof.Proof.Gen.AdamSquareRefIdeal
public import Idealize.ShloMosaic.Lib.Claim
/-! # AdamSquare: the update of a square weight -/
@[expose] public section

set_option maxRecDepth 16384
noncomputable section
open Idealize.ShloMosaic Idealize.ShloMosaic.TcCoe Idealize.SL.Sem Cert.Adams
namespace Cert.AdamSquareIdeal.Rows
open Cert.AdamSquareIdeal Cert.AdamSquareIdeal.Gen

section
variable (m : (ℓ : Loc nD τ sig) → Buf (Elt Ideal) ℓ) (c : Dev nD)

/-- Where each window stands at a grid point. -/
theorem idx : ∀ t : Fin cfg0.N, win0_0.index t = ![0, t.val, 0]
    ∧ win0_1.index t = ![0, t.val, 0]
    ∧ win0_2.index t = ![0, t.val, 0]
    ∧ win0_3.index t = ![t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The array that holds the gradient, passed on. -/
abbrev target4 : S1x256x1024.Idx → EReal := fun i => (m ((c : Thread nD τ).loc main_arg3)) (ix2 (i 1) (i 2))

theorem final4 : (dats m 0 c).arrAt 4 cfg0.N = target4 m c := by
  refine (dats m 0 c).arrAt_eq_of_covers 4 _ (by decide +kernel) fun t hf y => ?_
  blk_simp; rw [after0_4]; frame_out
  pointwise [target4, k0_pay1, k0_pay2, k0_pay3, k0_pay4, k0_pay5, k0_pay6, k0_pay7]
  blk_point [iblk, V, idx t]

/-- The array that holds the step. -/
abbrev target5 : S1x256x1024.Idx → EReal := fun i => step ((m ((c : Thread nD τ).loc main_arg0)) i) ((m ((c : Thread nD τ).loc main_arg3)) (ix2 (i 1) (i 2))) ((m ((c : Thread nD τ).loc main_arg1)) i) ((m ((c : Thread nD τ).loc main_arg2)) i)

theorem final5 : (dats m 0 c).arrAt 5 cfg0.N = target5 m c := by
  refine (dats m 0 c).arrAt_eq_of_covers 5 _ (by decide +kernel) fun t hf y => ?_
  blk_simp; rw [after0_5]; frame_out
  pointwise [target5, step, mean, square, k0_pay1, k0_pay2, k0_pay3, k0_pay4, k0_pay5, k0_pay6, k0_pay7]
  blk_point [iblk, V, idx t]

/-- The array that holds the first moment. -/
abbrev target6 : S1x256x1024.Idx → EReal := fun i => mean ((m ((c : Thread nD τ).loc main_arg3)) (ix2 (i 1) (i 2))) ((m ((c : Thread nD τ).loc main_arg1)) i)

theorem final6 : (dats m 0 c).arrAt 6 cfg0.N = target6 m c := by
  refine (dats m 0 c).arrAt_eq_of_covers 6 _ (by decide +kernel) fun t hf y => ?_
  blk_simp; rw [after0_6]; frame_out
  pointwise [target6, mean, k0_pay1, k0_pay2, k0_pay3, k0_pay4, k0_pay5, k0_pay6, k0_pay7]
  blk_point [iblk, V, idx t]

/-- The array that holds the second moment. -/
abbrev target7 : S1x256x1024.Idx → EReal := fun i => square ((m ((c : Thread nD τ).loc main_arg3)) (ix2 (i 1) (i 2))) ((m ((c : Thread nD τ).loc main_arg2)) i)

theorem final7 : (dats m 0 c).arrAt 7 cfg0.N = target7 m c := by
  refine (dats m 0 c).arrAt_eq_of_covers 7 _ (by decide +kernel) fun t hf y => ?_
  blk_simp; rw [after0_7]; frame_out
  pointwise [target7, square, k0_pay1, k0_pay2, k0_pay3, k0_pay4, k0_pay5, k0_pay6, k0_pay7]
  blk_point [iblk, V, idx t]

end

local instance : Cert.AdamSquareIdeal.Facts := Cert.AdamSquareIdeal.Gen.facts
local instance : Cert.AdamSquareRefIdeal.Facts := Cert.AdamSquareRefIdeal.Gen.facts

/-- The reference ends, keeps its arguments, and has no counters that could be left standing. -/
theorem frameR : Cert.quiescent_AdamSquareRefIdeal := by
  intro m g _
  hlo_run
  · exact fun _ => ⟨trivial, trivial, trivial, trivial⟩
  · exact sem_eq_zero_of_no_sems rfl _

/-- Call and reference update alike. -/
theorem same : Cert.algebraic_AdamSquareIdeal_AdamSquareRefIdeal := by
  pair_intro
  · run_from Cert.AdamSquareIdeal.Gen.run_main m g
  · hlo_run
    · rw [final4]; funext i; pointwise [target4]
    · rw [final5]; funext i; pointwise [target5, step, mean, square]
    · rw [final6]; funext i; pointwise [target6, mean]
    · rw [final7]; funext i; pointwise [target7, square]

end Cert.AdamSquareIdeal.Rows
-- ==== Proof.AdamInSame.lean ====
module

public import proofs.«01_k».proof.Defs
public import proofs.«01_k».proof.Proof.AdamSpec
public import proofs.«01_k».proof.Proof.Gen.AdamInIdeal.Frame
public import proofs.«01_k».proof.Proof.Gen.AdamInRefIdeal
public import Idealize.ShloMosaic.Lib.Claim
/-! # AdamIn: the update of the weight in front of the gated convolution -/
@[expose] public section

set_option maxRecDepth 16384
noncomputable section
open Idealize.ShloMosaic Idealize.ShloMosaic.TcCoe Idealize.SL.Sem Cert.Adams
namespace Cert.AdamInIdeal.Rows
open Cert.AdamInIdeal Cert.AdamInIdeal.Gen

section
variable (m : (ℓ : Loc nD τ sig) → Buf (Elt Ideal) ℓ) (c : Dev nD)

/-- Where each window stands at a grid point. -/
theorem idx : ∀ t : Fin cfg0.N, win0_0.index t = ![0, t.val, 0]
    ∧ win0_1.index t = ![0, t.val, 0]
    ∧ win0_2.index t = ![0, t.val, 0]
    ∧ win0_3.index t = ![t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The array that holds the gradient, passed on. -/
abbrev target4 : S1x1024x768.Idx → EReal := fun i => (m ((c : Thread nD τ).loc main_arg3)) (ix2 (i 1) (i 2))

theorem final4 : (dats m 0 c).arrAt 4 cfg0.N = target4 m c := by
  refine (dats m 0 c).arrAt_eq_of_covers 4 _ (by decide +kernel) fun t hf y => ?_
  blk_simp; rw [after0_4]; frame_out
  pointwise [target4, k0_pay1, k0_pay2, k0_pay3, k0_pay4, k0_pay5, k0_pay6, k0_pay7]
  blk_point [iblk, V, idx t]

/-- The array that holds the step. -/
abbrev target5 : S1x1024x768.Idx → EReal := fun i => step ((m ((c : Thread nD τ).loc main_arg0)) i) ((m ((c : Thread nD τ).loc main_arg3)) (ix2 (i 1) (i 2))) ((m ((c : Thread nD τ).loc main_arg1)) i) ((m ((c : Thread nD τ).loc main_arg2)) i)

theorem final5 : (dats m 0 c).arrAt 5 cfg0.N = target5 m c := by
  refine (dats m 0 c).arrAt_eq_of_covers 5 _ (by decide +kernel) fun t hf y => ?_
  blk_simp; rw [after0_5]; frame_out
  pointwise [target5, step, mean, square, k0_pay1, k0_pay2, k0_pay3, k0_pay4, k0_pay5, k0_pay6, k0_pay7]
  blk_point [iblk, V, idx t]

/-- The array that holds the first moment. -/
abbrev target6 : S1x1024x768.Idx → EReal := fun i => mean ((m ((c : Thread nD τ).loc main_arg3)) (ix2 (i 1) (i 2))) ((m ((c : Thread nD τ).loc main_arg1)) i)

theorem final6 : (dats m 0 c).arrAt 6 cfg0.N = target6 m c := by
  refine (dats m 0 c).arrAt_eq_of_covers 6 _ (by decide +kernel) fun t hf y => ?_
  blk_simp; rw [after0_6]; frame_out
  pointwise [target6, mean, k0_pay1, k0_pay2, k0_pay3, k0_pay4, k0_pay5, k0_pay6, k0_pay7]
  blk_point [iblk, V, idx t]

/-- The array that holds the second moment. -/
abbrev target7 : S1x1024x768.Idx → EReal := fun i => square ((m ((c : Thread nD τ).loc main_arg3)) (ix2 (i 1) (i 2))) ((m ((c : Thread nD τ).loc main_arg2)) i)

theorem final7 : (dats m 0 c).arrAt 7 cfg0.N = target7 m c := by
  refine (dats m 0 c).arrAt_eq_of_covers 7 _ (by decide +kernel) fun t hf y => ?_
  blk_simp; rw [after0_7]; frame_out
  pointwise [target7, square, k0_pay1, k0_pay2, k0_pay3, k0_pay4, k0_pay5, k0_pay6, k0_pay7]
  blk_point [iblk, V, idx t]

end

local instance : Cert.AdamInIdeal.Facts := Cert.AdamInIdeal.Gen.facts
local instance : Cert.AdamInRefIdeal.Facts := Cert.AdamInRefIdeal.Gen.facts

/-- The reference ends, keeps its arguments, and has no counters that could be left standing. -/
theorem frameR : Cert.quiescent_AdamInRefIdeal := by
  intro m g _
  hlo_run
  · exact fun _ => ⟨trivial, trivial, trivial, trivial⟩
  · exact sem_eq_zero_of_no_sems rfl _

/-- Call and reference update alike. -/
theorem same : Cert.algebraic_AdamInIdeal_AdamInRefIdeal := by
  pair_intro
  · run_from Cert.AdamInIdeal.Gen.run_main m g
  · hlo_run
    · rw [final4]; funext i; pointwise [target4]
    · rw [final5]; funext i; pointwise [target5, step, mean, square]
    · rw [final6]; funext i; pointwise [target6, mean]
    · rw [final7]; funext i; pointwise [target7, square]

end Cert.AdamInIdeal.Rows
-- ==== Proof.AdamUpSame.lean ====
module

public import proofs.«01_k».proof.Defs
public import proofs.«01_k».proof.Proof.AdamSpec
public import proofs.«01_k».proof.Proof.Gen.AdamUpIdeal.Frame
public import proofs.«01_k».proof.Proof.Gen.AdamUpRefIdeal
public import Idealize.ShloMosaic.Lib.Claim
/-! # AdamUp: the update of the two upward weights -/
@[expose] public section

set_option maxRecDepth 16384
noncomputable section
open Idealize.ShloMosaic Idealize.ShloMosaic.TcCoe Idealize.SL.Sem Cert.Adams
namespace Cert.AdamUpIdeal.Rows
open Cert.AdamUpIdeal Cert.AdamUpIdeal.Gen

section
variable (m : (ℓ : Loc nD τ sig) → Buf (Elt Ideal) ℓ) (c : Dev nD)

/-- Where each window stands at a grid point: the first half of the grid walks the first layer. -/
theorem idx : ∀ t : Fin cfg0.N, win0_0.index t = ![t.val / 4, t.val % 4, 0]
    ∧ win0_1.index t = ![t.val / 4, t.val % 4, 0]
    ∧ win0_2.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

theorem first : ∀ t : Fin cfg0.N, t.val < 4 → win0_3.index t = ![t.val, 0] :=
  (by decide +kernel : ∀ t : Fin grid0.N, _)

theorem second : ∀ t : Fin cfg0.N, ¬ t.val < 4 → win0_4.index t = ![t.val - 4, 0] :=
  (by decide +kernel : ∀ t : Fin grid0.N, _)

/-- The call's test for the second layer. -/
theorem bit : ∀ t : Fin cfg0.N, Scalar.cmpi .eq (BitVec.ofNat 32 (grid0.coords t 0).val) 1#32 = if t.val < 4 then 0#1 else 1#1 :=
  (by decide +kernel : ∀ t : Fin grid0.N, _)

/-- The gradient a grid point works with: the first layer's in the first half of the grid, else the second's. -/
theorem taken (t : Fin cfg0.N) (x y : Vec Ideal S256x1408 .f32) : k0_pay4 (grid0.coords t) x y = if t.val < 4 then x else y := by
  unfold k0_pay4
  show Scalar.select (Scalar.cmpi .eq (BitVec.ofNat 32 (grid0.coords t 0).val) 1#32) y x = _
  rw [bit t]
  by_cases h : t.val < 4
  · rw [if_pos h, if_pos h]; rfl
  · rw [if_neg h, if_neg h]; rfl

/-- The gradients of the two layers, one on the other. -/
abbrev grads : S2x1024x1408.Idx → EReal := fun i => if (i 0).val = 0 then (m ((c : Thread nD τ).loc main_arg3)) (ix2 (i 1) (i 2)) else (m ((c : Thread nD τ).loc main_arg4)) (ix2 (i 1) (i 2))

/-- The array that holds the gradients, stacked. -/
abbrev target5 : S2x1024x1408.Idx → EReal := fun i => grads m c i

theorem final5 : (dats m 0 c).arrAt 5 cfg0.N = target5 m c := by
  refine (dats m 0 c).arrAt_eq_of_covers 5 _ (by decide +kernel) fun t hf y => ?_
  blk_simp; rw [after0_5]; frame_out
  by_cases h : t.val < 4
  · have e : ((((cfg0.win 5).blk t).view.emb y) 0).val = 0 := by
      blk_simp [idx t]; idx_bounds_all; omega
    pointwise [target5, grads, k0_pay1, k0_pay2, k0_pay3, k0_pay5, k0_pay6, k0_pay7, k0_pay8, k0_pay9, taken, h, e]
    blk_point [iblk, V, idx t, first t h]
  · have e : ¬ ((((cfg0.win 5).blk t).view.emb y) 0).val = 0 := by
      blk_simp [idx t]; idx_bounds_all; omega
    pointwise [target5, grads, k0_pay1, k0_pay2, k0_pay3, k0_pay5, k0_pay6, k0_pay7, k0_pay8, k0_pay9, taken, h, e]
    blk_point [iblk, V, idx t, second t h]

/-- The array that holds the step. -/
abbrev target6 : S2x1024x1408.Idx → EReal := fun i => step ((m ((c : Thread nD τ).loc main_arg0)) i) (grads m c i) ((m ((c : Thread nD τ).loc main_arg1)) i) ((m ((c : Thread nD τ).loc main_arg2)) i)

theorem final6 : (dats m 0 c).arrAt 6 cfg0.N = target6 m c := by
  refine (dats m 0 c).arrAt_eq_of_covers 6 _ (by decide +kernel) fun t hf y => ?_
  blk_simp; rw [after0_6]; frame_out
  by_cases h : t.val < 4
  · have e : ((((cfg0.win 6).blk t).view.emb y) 0).val = 0 := by
      blk_simp [idx t]; idx_bounds_all; omega
    pointwise [target6, grads, step, mean, square, k0_pay1, k0_pay2, k0_pay3, k0_pay5, k0_pay6, k0_pay7, k0_pay8, k0_pay9, taken, h, e]
    blk_point [iblk, V, idx t, first t h]
  · have e : ¬ ((((cfg0.win 6).blk t).view.emb y) 0).val = 0 := by
      blk_simp [idx t]; idx_bounds_all; omega
    pointwise [target6, grads, step, mean, square, k0_pay1, k0_pay2, k0_pay3, k0_pay5, k0_pay6, k0_pay7, k0_pay8, k0_pay9, taken, h, e]
    blk_point [iblk, V, idx t, second t h]

/-- The array that holds the first moment. -/
abbrev target7 : S2x1024x1408.Idx → EReal := fun i => mean (grads m c i) ((m ((c : Thread nD τ).loc main_arg1)) i)

theorem final7 : (dats m 0 c).arrAt 7 cfg0.N = target7 m c := by
  refine (dats m 0 c).arrAt_eq_of_covers 7 _ (by decide +kernel) fun t hf y => ?_
  blk_simp; rw [after0_7]; frame_out
  by_cases h : t.val < 4
  · have e : ((((cfg0.win 7).blk t).view.emb y) 0).val = 0 := by
      blk_simp [idx t]; idx_bounds_all; omega
    pointwise [target7, grads, mean, k0_pay1, k0_pay2, k0_pay3, k0_pay5, k0_pay6, k0_pay7, k0_pay8, k0_pay9, taken, h, e]
    blk_point [iblk, V, idx t, first t h]
  · have e : ¬ ((((cfg0.win 7).blk t).view.emb y) 0).val = 0 := by
      blk_simp [idx t]; idx_bounds_all; omega
    pointwise [target7, grads, mean, k0_pay1, k0_pay2, k0_pay3, k0_pay5, k0_pay6, k0_pay7, k0_pay8, k0_pay9, taken, h, e]
    blk_point [iblk, V, idx t, second t h]

/-- The array that holds the second moment. -/
abbrev target8 : S2x1024x1408.Idx → EReal := fun i => square (grads m c i) ((m ((c : Thread nD τ).loc main_arg2)) i)

theorem final8 : (dats m 0 c).arrAt 8 cfg0.N = target8 m c := by
  refine (dats m 0 c).arrAt_eq_of_covers 8 _ (by decide +kernel) fun t hf y => ?_
  blk_simp; rw [after0_8]; frame_out
  by_cases h : t.val < 4
  · have e : ((((cfg0.win 8).blk t).view.emb y) 0).val = 0 := by
      blk_simp [idx t]; idx_bounds_all; omega
    pointwise [target8, grads, square, k0_pay1, k0_pay2, k0_pay3, k0_pay5, k0_pay6, k0_pay7, k0_pay8, k0_pay9, taken, h, e]
    blk_point [iblk, V, idx t, first t h]
  · have e : ¬ ((((cfg0.win 8).blk t).view.emb y) 0).val = 0 := by
      blk_simp [idx t]; idx_bounds_all; omega
    pointwise [target8, grads, square, k0_pay1, k0_pay2, k0_pay3, k0_pay5, k0_pay6, k0_pay7, k0_pay8, k0_pay9, taken, h, e]
    blk_point [iblk, V, idx t, second t h]

end

local instance : Cert.AdamUpIdeal.Facts := Cert.AdamUpIdeal.Gen.facts
local instance : Cert.AdamUpRefIdeal.Facts := Cert.AdamUpRefIdeal.Gen.facts

/-- The reference ends, keeps its arguments, and has no counters that could be left standing. -/
theorem frameR : Cert.quiescent_AdamUpRefIdeal := by
  intro m g _
  hlo_run
  · exact fun _ => ⟨trivial, trivial, trivial, trivial, trivial⟩
  · exact sem_eq_zero_of_no_sems rfl _

/-- Call and reference update alike. -/
theorem same : Cert.algebraic_AdamUpIdeal_AdamUpRefIdeal := by
  pair_intro
  · run_from Cert.AdamUpIdeal.Gen.run_main m g
  · hlo_run
    · rw [final5]; funext i; by_cases h : (i 0).val < 1
      · have h' := Nat.lt_one_iff.mp h
        pointwise [target5, grads, h, h', (hagree c).2.2.2.1, (hagree c).2.2.2.2]
      · have h' := mt Nat.lt_one_iff.mpr h
        pointwise [target5, grads, h, h', (hagree c).2.2.2.1, (hagree c).2.2.2.2]
    · rw [final6]; funext i; by_cases h : (i 0).val < 1
      · have h' := Nat.lt_one_iff.mp h
        pointwise [target6, grads, step, mean, square, h, h', (hagree c).2.2.2.1, (hagree c).2.2.2.2]
      · have h' := mt Nat.lt_one_iff.mpr h
        pointwise [target6, grads, step, mean, square, h, h', (hagree c).2.2.2.1, (hagree c).2.2.2.2]
    · rw [final7]; funext i; by_cases h : (i 0).val < 1
      · have h' := Nat.lt_one_iff.mp h
        pointwise [target7, grads, mean, h, h', (hagree c).2.2.2.1, (hagree c).2.2.2.2]
      · have h' := mt Nat.lt_one_iff.mpr h
        pointwise [target7, grads, mean, h, h', (hagree c).2.2.2.1, (hagree c).2.2.2.2]
    · rw [final8]; funext i; by_cases h : (i 0).val < 1
      · have h' := Nat.lt_one_iff.mp h
        pointwise [target8, grads, square, h, h', (hagree c).2.2.2.1, (hagree c).2.2.2.2]
      · have h' := mt Nat.lt_one_iff.mpr h
        pointwise [target8, grads, square, h, h', (hagree c).2.2.2.1, (hagree c).2.2.2.2]

end Cert.AdamUpIdeal.Rows
-- ==== Proof.AdamDownSame.lean ====
module

public import proofs.«01_k».proof.Defs
public import proofs.«01_k».proof.Proof.AdamSpec
public import proofs.«01_k».proof.Proof.Gen.AdamDownIdeal.Frame
public import proofs.«01_k».proof.Proof.Gen.AdamDownRefIdeal
public import Idealize.ShloMosaic.Lib.Claim
/-! # AdamDown: the update of the two downward weights -/
@[expose] public section

set_option maxRecDepth 16384
noncomputable section
open Idealize.ShloMosaic Idealize.ShloMosaic.TcCoe Idealize.SL.Sem Cert.Adams
namespace Cert.AdamDownIdeal.Rows
open Cert.AdamDownIdeal Cert.AdamDownIdeal.Gen

section
variable (m : (ℓ : Loc nD τ sig) → Buf (Elt Ideal) ℓ) (c : Dev nD)

/-- Where each window stands at a grid point: the first half of the grid walks the first layer. -/
theorem idx : ∀ t : Fin cfg0.N, win0_0.index t = ![t.val / 11, t.val % 11, 0]
    ∧ win0_1.index t = ![t.val / 11, t.val % 11, 0]
    ∧ win0_2.index t = ![t.val / 11, t.val % 11, 0]
    ∧ win0_5.index t = ![t.val / 11, t.val % 11, 0]
    ∧ win0_6.index t = ![t.val / 11, t.val % 11, 0]
    ∧ win0_7.index t = ![t.val / 11, t.val % 11, 0]
    ∧ win0_8.index t = ![t.val / 11, t.val % 11, 0] :=
  (by decide +kernel : ∀ t : Fin grid0.N, _)

theorem first : ∀ t : Fin cfg0.N, t.val < 11 → win0_3.index t = ![t.val, 0] :=
  (by decide +kernel : ∀ t : Fin grid0.N, _)

theorem second : ∀ t : Fin cfg0.N, ¬ t.val < 11 → win0_4.index t = ![t.val - 11, 0] :=
  (by decide +kernel : ∀ t : Fin grid0.N, _)

/-- The call's test for the second layer. -/
theorem bit : ∀ t : Fin cfg0.N, Scalar.cmpi .eq (BitVec.ofNat 32 (grid0.coords t 0).val) 1#32 = if t.val < 11 then 0#1 else 1#1 :=
  (by decide +kernel : ∀ t : Fin grid0.N, _)

/-- The gradient a grid point works with: the first layer's in the first half of the grid, else the second's. -/
theorem taken (t : Fin cfg0.N) (x y : Vec Ideal S64x1024 .f32) : k0_pay4 (grid0.coords t) x y = if t.val < 11 then x else y := by
  unfold k0_pay4
  show Scalar.select (Scalar.cmpi .eq (BitVec.ofNat 32 (grid0.coords t 0).val) 1#32) y x = _
  rw [bit t]
  by_cases h : t.val < 11
  · rw [if_pos h, if_pos h]; rfl
  · rw [if_neg h, if_neg h]; rfl

/-- The gradients of the two layers, one on the other. -/
abbrev grads : S2x704x1024.Idx → EReal := fun i => if (i 0).val = 0 then (m ((c : Thread nD τ).loc main_arg3)) (ix2 (i 1) (i 2)) else (m ((c : Thread nD τ).loc main_arg4)) (ix2 (i 1) (i 2))

/-- The array that holds the gradients, stacked. -/
abbrev target5 : S2x704x1024.Idx → EReal := fun i => grads m c i

theorem final5 : (dats m 0 c).arrAt 5 cfg0.N = target5 m c := by
  refine (dats m 0 c).arrAt_eq_of_covers 5 _ (by decide +kernel) fun t hf y => ?_
  blk_simp; rw [after0_5]; frame_out
  by_cases h : t.val < 11
  · have e : ((((cfg0.win 5).blk t).view.emb y) 0).val = 0 := by
      blk_simp [idx t]; idx_bounds_all; omega
    pointwise [target5, grads, k0_pay1, k0_pay2, k0_pay3, k0_pay5, k0_pay6, k0_pay7, k0_pay8, k0_pay9, taken, h, e]
    blk_point [iblk, V, idx t, first t h]
  · have e : ¬ ((((cfg0.win 5).blk t).view.emb y) 0).val = 0 := by
      blk_simp [idx t]; idx_bounds_all; omega
    pointwise [target5, grads, k0_pay1, k0_pay2, k0_pay3, k0_pay5, k0_pay6, k0_pay7, k0_pay8, k0_pay9, taken, h, e]
    blk_point [iblk, V, idx t, second t h]

/-- The array that holds the step. -/
abbrev target6 : S2x704x1024.Idx → EReal := fun i => step ((m ((c : Thread nD τ).loc main_arg0)) i) (grads m c i) ((m ((c : Thread nD τ).loc main_arg1)) i) ((m ((c : Thread nD τ).loc main_arg2)) i)

theorem final6 : (dats m 0 c).arrAt 6 cfg0.N = target6 m c := by
  refine (dats m 0 c).arrAt_eq_of_covers 6 _ (by decide +kernel) fun t hf y => ?_
  blk_simp; rw [after0_6]; frame_out
  by_cases h : t.val < 11
  · have e : ((((cfg0.win 6).blk t).view.emb y) 0).val = 0 := by
      blk_simp [idx t]; idx_bounds_all; omega
    pointwise [target6, grads, step, mean, square, k0_pay1, k0_pay2, k0_pay3, k0_pay5, k0_pay6, k0_pay7, k0_pay8, k0_pay9, taken, h, e]
    blk_point [iblk, V, idx t, first t h]
  · have e : ¬ ((((cfg0.win 6).blk t).view.emb y) 0).val = 0 := by
      blk_simp [idx t]; idx_bounds_all; omega
    pointwise [target6, grads, step, mean, square, k0_pay1, k0_pay2, k0_pay3, k0_pay5, k0_pay6, k0_pay7, k0_pay8, k0_pay9, taken, h, e]
    blk_point [iblk, V, idx t, second t h]

/-- The array that holds the first moment. -/
abbrev target7 : S2x704x1024.Idx → EReal := fun i => mean (grads m c i) ((m ((c : Thread nD τ).loc main_arg1)) i)

theorem final7 : (dats m 0 c).arrAt 7 cfg0.N = target7 m c := by
  refine (dats m 0 c).arrAt_eq_of_covers 7 _ (by decide +kernel) fun t hf y => ?_
  blk_simp; rw [after0_7]; frame_out
  by_cases h : t.val < 11
  · have e : ((((cfg0.win 7).blk t).view.emb y) 0).val = 0 := by
      blk_simp [idx t]; idx_bounds_all; omega
    pointwise [target7, grads, mean, k0_pay1, k0_pay2, k0_pay3, k0_pay5, k0_pay6, k0_pay7, k0_pay8, k0_pay9, taken, h, e]
    blk_point [iblk, V, idx t, first t h]
  · have e : ¬ ((((cfg0.win 7).blk t).view.emb y) 0).val = 0 := by
      blk_simp [idx t]; idx_bounds_all; omega
    pointwise [target7, grads, mean, k0_pay1, k0_pay2, k0_pay3, k0_pay5, k0_pay6, k0_pay7, k0_pay8, k0_pay9, taken, h, e]
    blk_point [iblk, V, idx t, second t h]

/-- The array that holds the second moment. -/
abbrev target8 : S2x704x1024.Idx → EReal := fun i => square (grads m c i) ((m ((c : Thread nD τ).loc main_arg2)) i)

theorem final8 : (dats m 0 c).arrAt 8 cfg0.N = target8 m c := by
  refine (dats m 0 c).arrAt_eq_of_covers 8 _ (by decide +kernel) fun t hf y => ?_
  blk_simp; rw [after0_8]; frame_out
  by_cases h : t.val < 11
  · have e : ((((cfg0.win 8).blk t).view.emb y) 0).val = 0 := by
      blk_simp [idx t]; idx_bounds_all; omega
    pointwise [target8, grads, square, k0_pay1, k0_pay2, k0_pay3, k0_pay5, k0_pay6, k0_pay7, k0_pay8, k0_pay9, taken, h, e]
    blk_point [iblk, V, idx t, first t h]
  · have e : ¬ ((((cfg0.win 8).blk t).view.emb y) 0).val = 0 := by
      blk_simp [idx t]; idx_bounds_all; omega
    pointwise [target8, grads, square, k0_pay1, k0_pay2, k0_pay3, k0_pay5, k0_pay6, k0_pay7, k0_pay8, k0_pay9, taken, h, e]
    blk_point [iblk, V, idx t, second t h]

end

local instance : Cert.AdamDownIdeal.Facts := Cert.AdamDownIdeal.Gen.facts
local instance : Cert.AdamDownRefIdeal.Facts := Cert.AdamDownRefIdeal.Gen.facts

/-- The reference ends, keeps its arguments, and has no counters that could be left standing. -/
theorem frameR : Cert.quiescent_AdamDownRefIdeal := by
  intro m g _
  hlo_run
  · exact fun _ => ⟨trivial, trivial, trivial, trivial, trivial⟩
  · exact sem_eq_zero_of_no_sems rfl _

/-- Call and reference update alike. -/
theorem same : Cert.algebraic_AdamDownIdeal_AdamDownRefIdeal := by
  pair_intro
  · run_from Cert.AdamDownIdeal.Gen.run_main m g
  · hlo_run
    · rw [final5]; funext i; by_cases h : (i 0).val < 1
      · have h' := Nat.lt_one_iff.mp h
        pointwise [target5, grads, h, h', (hagree c).2.2.2.1, (hagree c).2.2.2.2]
      · have h' := mt Nat.lt_one_iff.mpr h
        pointwise [target5, grads, h, h', (hagree c).2.2.2.1, (hagree c).2.2.2.2]
    · rw [final6]; funext i; by_cases h : (i 0).val < 1
      · have h' := Nat.lt_one_iff.mp h
        pointwise [target6, grads, step, mean, square, h, h', (hagree c).2.2.2.1, (hagree c).2.2.2.2]
      · have h' := mt Nat.lt_one_iff.mpr h
        pointwise [target6, grads, step, mean, square, h, h', (hagree c).2.2.2.1, (hagree c).2.2.2.2]
    · rw [final7]; funext i; by_cases h : (i 0).val < 1
      · have h' := Nat.lt_one_iff.mp h
        pointwise [target7, grads, mean, h, h', (hagree c).2.2.2.1, (hagree c).2.2.2.2]
      · have h' := mt Nat.lt_one_iff.mpr h
        pointwise [target7, grads, mean, h, h', (hagree c).2.2.2.1, (hagree c).2.2.2.2]
    · rw [final8]; funext i; by_cases h : (i 0).val < 1
      · have h' := Nat.lt_one_iff.mp h
        pointwise [target8, grads, square, h, h', (hagree c).2.2.2.1, (hagree c).2.2.2.2]
      · have h' := mt Nat.lt_one_iff.mpr h
        pointwise [target8, grads, square, h, h', (hagree c).2.2.2.1, (hagree c).2.2.2.2]

end Cert.AdamDownIdeal.Rows
-- ==== Proof.lean ====
module

public import proofs.«01_k».proof.Defs
public import proofs.«01_k».proof.Proof.GateClaim
public import proofs.«01_k».proof.Proof.UpDxSame
public import proofs.«01_k».proof.Proof.UpDwSame
public import proofs.«01_k».proof.Proof.DownDxSame
public import proofs.«01_k».proof.Proof.DownDwSame
public import proofs.«01_k».proof.Proof.InDxSame
public import proofs.«01_k».proof.Proof.InDwSame
public import proofs.«01_k».proof.Proof.OutDxSame
public import proofs.«01_k».proof.Proof.SquareDwSame
public import proofs.«01_k».proof.Proof.ODxSame
public import proofs.«01_k».proof.Proof.QDxSame
public import proofs.«01_k».proof.Proof.KeyDxSame
public import proofs.«01_k».proof.Proof.ValueDxSame
public import proofs.«01_k».proof.Proof.UpSame
public import proofs.«01_k».proof.Proof.DownSame
public import proofs.«01_k».proof.Proof.InSame
public import proofs.«01_k».proof.Proof.OutSame
public import proofs.«01_k».proof.Proof.KvSame
public import proofs.«01_k».proof.Proof.QSame
public import proofs.«01_k».proof.Proof.DownDxTopSame
public import proofs.«01_k».proof.Proof.SiluBwdSame
public import proofs.«01_k».proof.Proof.SiluSame
public import proofs.«01_k».proof.Proof.GateFwdSame
public import proofs.«01_k».proof.Proof.NormSame
public import proofs.«01_k».proof.Proof.NormFirstSame
public import proofs.«01_k».proof.Proof.NormTwoSame
public import proofs.«01_k».proof.Proof.NormBwdSame
public import proofs.«01_k».proof.Proof.NormBwdTwoSame
public import proofs.«01_k».proof.Proof.LossSame
public import proofs.«01_k».proof.Proof.AdamKvSame
public import proofs.«01_k».proof.Proof.AdamSquareSame
public import proofs.«01_k».proof.Proof.AdamInSame
public import proofs.«01_k».proof.Proof.AdamUpSame
public import proofs.«01_k».proof.Proof.AdamDownSame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxRefIdeal
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwRefIdeal
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxRefIdeal
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwRefIdeal
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwRefIdeal
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxRefIdeal
public import proofs.«01_k».proof.Proof.Gen.SquareDw
public import proofs.«01_k».proof.Proof.Gen.SquareDw.Skeleton
public import proofs.«01_k».proof.Proof.Gen.SquareDw.Launch
public import proofs.«01_k».proof.Proof.Gen.SquareDw.Points
public import proofs.«01_k».proof.Proof.Gen.SquareDw.Frame
public import proofs.«01_k».proof.Proof.Gen.SquareDwIdeal
public import proofs.«01_k».proof.Proof.Gen.SquareDwIdeal.Skeleton
public import proofs.«01_k».proof.Proof.Gen.SquareDwIdeal.Launch
public import proofs.«01_k».proof.Proof.Gen.SquareDwIdeal.Points
public import proofs.«01_k».proof.Proof.Gen.SquareDwIdeal.Frame
public import proofs.«01_k».proof.Proof.Gen.SquareDwRefIdeal
public import proofs.«01_k».proof.Proof.Gen.ODx
public import proofs.«01_k».proof.Proof.Gen.ODx.Skeleton
public import proofs.«01_k».proof.Proof.Gen.ODx.Launch
public import proofs.«01_k».proof.Proof.Gen.ODx.Points
public import proofs.«01_k».proof.Proof.Gen.ODx.Frame
public import proofs.«01_k».proof.Proof.Gen.ODxIdeal
public import proofs.«01_k».proof.Proof.Gen.ODxIdeal.Skeleton
public import proofs.«01_k».proof.Proof.Gen.ODxIdeal.Launch
public import proofs.«01_k».proof.Proof.Gen.ODxIdeal.Points
public import proofs.«01_k».proof.Proof.Gen.ODxIdeal.Frame
public import proofs.«01_k».proof.Proof.Gen.ODxRefIdeal
public import proofs.«01_k».proof.Proof.Gen.QDx
public import proofs.«01_k».proof.Proof.Gen.QDx.Skeleton
public import proofs.«01_k».proof.Proof.Gen.QDx.Launch
public import proofs.«01_k».proof.Proof.Gen.QDx.Points
public import proofs.«01_k».proof.Proof.Gen.QDx.Frame
public import proofs.«01_k».proof.Proof.Gen.QDxIdeal
public import proofs.«01_k».proof.Proof.Gen.QDxIdeal.Skeleton
public import proofs.«01_k».proof.Proof.Gen.QDxIdeal.Launch
public import proofs.«01_k».proof.Proof.Gen.QDxIdeal.Points
public import proofs.«01_k».proof.Proof.Gen.QDxIdeal.Frame
public import proofs.«01_k».proof.Proof.Gen.QDxRefIdeal
public import proofs.«01_k».proof.Proof.Gen.KeyDx
public import proofs.«01_k».proof.Proof.Gen.KeyDx.Skeleton
public import proofs.«01_k».proof.Proof.Gen.KeyDx.Launch
public import proofs.«01_k».proof.Proof.Gen.KeyDx.Points
public import proofs.«01_k».proof.Proof.Gen.KeyDx.Frame
public import proofs.«01_k».proof.Proof.Gen.KeyDxIdeal
public import proofs.«01_k».proof.Proof.Gen.KeyDxIdeal.Skeleton
public import proofs.«01_k».proof.Proof.Gen.KeyDxIdeal.Launch
public import proofs.«01_k».proof.Proof.Gen.KeyDxIdeal.Points
public import proofs.«01_k».proof.Proof.Gen.KeyDxIdeal.Frame
public import proofs.«01_k».proof.Proof.Gen.KeyDxRefIdeal
public import proofs.«01_k».proof.Proof.Gen.ValueDx
public import proofs.«01_k».proof.Proof.Gen.ValueDx.Skeleton
public import proofs.«01_k».proof.Proof.Gen.ValueDx.Launch
public import proofs.«01_k».proof.Proof.Gen.ValueDx.Points
public import proofs.«01_k».proof.Proof.Gen.ValueDx.Frame
public import proofs.«01_k».proof.Proof.Gen.ValueDxIdeal
public import proofs.«01_k».proof.Proof.Gen.ValueDxIdeal.Skeleton
public import proofs.«01_k».proof.Proof.Gen.ValueDxIdeal.Launch
public import proofs.«01_k».proof.Proof.Gen.ValueDxIdeal.Points
public import proofs.«01_k».proof.Proof.Gen.ValueDxIdeal.Frame
public import proofs.«01_k».proof.Proof.Gen.ValueDxRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.Q
public import proofs.«01_k».proof.Proof.Gen.Q.Skeleton
public import proofs.«01_k».proof.Proof.Gen.Q.Launch
public import proofs.«01_k».proof.Proof.Gen.Q.Points
public import proofs.«01_k».proof.Proof.Gen.Q.Frame
public import proofs.«01_k».proof.Proof.Gen.QIdeal
public import proofs.«01_k».proof.Proof.Gen.QIdeal.Skeleton
public import proofs.«01_k».proof.Proof.Gen.QIdeal.Launch
public import proofs.«01_k».proof.Proof.Gen.QIdeal.Points
public import proofs.«01_k».proof.Proof.Gen.QIdeal.Frame
public import proofs.«01_k».proof.Proof.Gen.QRefIdeal
public import proofs.«01_k».proof.Proof.Gen.DownDxTop
public import proofs.«01_k».proof.Proof.Gen.DownDxTop.Skeleton
public import proofs.«01_k».proof.Proof.Gen.DownDxTop.Launch
public import proofs.«01_k».proof.Proof.Gen.DownDxTop.Points
public import proofs.«01_k».proof.Proof.Gen.DownDxTop.Frame
public import proofs.«01_k».proof.Proof.Gen.DownDxTopIdeal
public import proofs.«01_k».proof.Proof.Gen.DownDxTopIdeal.Skeleton
public import proofs.«01_k».proof.Proof.Gen.DownDxTopIdeal.Launch
public import proofs.«01_k».proof.Proof.Gen.DownDxTopIdeal.Points
public import proofs.«01_k».proof.Proof.Gen.DownDxTopIdeal.Frame
public import proofs.«01_k».proof.Proof.Gen.DownDxTopRefIdeal
public import proofs.«01_k».proof.Proof.Gen.SiluBwd
public import proofs.«01_k».proof.Proof.Gen.SiluBwd.Skeleton
public import proofs.«01_k».proof.Proof.Gen.SiluBwd.Launch
public import proofs.«01_k».proof.Proof.Gen.SiluBwd.Points
public import proofs.«01_k».proof.Proof.Gen.SiluBwd.Frame
public import proofs.«01_k».proof.Proof.Gen.SiluBwdIdeal
public import proofs.«01_k».proof.Proof.Gen.SiluBwdIdeal.Skeleton
public import proofs.«01_k».proof.Proof.Gen.SiluBwdIdeal.Launch
public import proofs.«01_k».proof.Proof.Gen.SiluBwdIdeal.Points
public import proofs.«01_k».proof.Proof.Gen.SiluBwdIdeal.Frame
public import proofs.«01_k».proof.Proof.Gen.SiluBwdRefIdeal
public import proofs.«01_k».proof.Proof.Gen.Silu
public import proofs.«01_k».proof.Proof.Gen.Silu.Skeleton
public import proofs.«01_k».proof.Proof.Gen.Silu.Launch
public import proofs.«01_k».proof.Proof.Gen.Silu.Points
public import proofs.«01_k».proof.Proof.Gen.Silu.Frame
public import proofs.«01_k».proof.Proof.Gen.SiluIdeal
public import proofs.«01_k».proof.Proof.Gen.SiluIdeal.Skeleton
public import proofs.«01_k».proof.Proof.Gen.SiluIdeal.Launch
public import proofs.«01_k».proof.Proof.Gen.SiluIdeal.Points
public import proofs.«01_k».proof.Proof.Gen.SiluIdeal.Frame
public import proofs.«01_k».proof.Proof.Gen.SiluRefIdeal
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormFirst
public import proofs.«01_k».proof.Proof.Gen.NormFirst.Skeleton
public import proofs.«01_k».proof.Proof.Gen.NormFirst.Launch
public import proofs.«01_k».proof.Proof.Gen.NormFirst.Points
public import proofs.«01_k».proof.Proof.Gen.NormFirst.Frame
public import proofs.«01_k».proof.Proof.Gen.NormFirstIdeal
public import proofs.«01_k».proof.Proof.Gen.NormFirstIdeal.Skeleton
public import proofs.«01_k».proof.Proof.Gen.NormFirstIdeal.Launch
public import proofs.«01_k».proof.Proof.Gen.NormFirstIdeal.Points
public import proofs.«01_k».proof.Proof.Gen.NormFirstIdeal.Frame
public import proofs.«01_k».proof.Proof.Gen.NormFirstRefIdeal
public import proofs.«01_k».proof.Proof.Gen.NormTwo
public import proofs.«01_k».proof.Proof.Gen.NormTwo.Skeleton
public import proofs.«01_k».proof.Proof.Gen.NormTwo.Launch
public import proofs.«01_k».proof.Proof.Gen.NormTwo.Points
public import proofs.«01_k».proof.Proof.Gen.NormTwo.Frame
public import proofs.«01_k».proof.Proof.Gen.NormTwoIdeal
public import proofs.«01_k».proof.Proof.Gen.NormTwoIdeal.Skeleton
public import proofs.«01_k».proof.Proof.Gen.NormTwoIdeal.Launch
public import proofs.«01_k».proof.Proof.Gen.NormTwoIdeal.Points
public import proofs.«01_k».proof.Proof.Gen.NormTwoIdeal.Frame
public import proofs.«01_k».proof.Proof.Gen.NormTwoRefIdeal
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdRefIdeal
public import proofs.«01_k».proof.Proof.Gen.NormBwdTwo
public import proofs.«01_k».proof.Proof.Gen.NormBwdTwo.Skeleton
public import proofs.«01_k».proof.Proof.Gen.NormBwdTwo.Launch
public import proofs.«01_k».proof.Proof.Gen.NormBwdTwo.Points
public import proofs.«01_k».proof.Proof.Gen.NormBwdTwo.Frame
public import proofs.«01_k».proof.Proof.Gen.NormBwdTwoIdeal
public import proofs.«01_k».proof.Proof.Gen.NormBwdTwoIdeal.Skeleton
public import proofs.«01_k».proof.Proof.Gen.NormBwdTwoIdeal.Launch
public import proofs.«01_k».proof.Proof.Gen.NormBwdTwoIdeal.Points
public import proofs.«01_k».proof.Proof.Gen.NormBwdTwoIdeal.Frame
public import proofs.«01_k».proof.Proof.Gen.NormBwdTwoRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvRefIdeal
public import proofs.«01_k».proof.Proof.Gen.AdamSquare
public import proofs.«01_k».proof.Proof.Gen.AdamSquare.Skeleton
public import proofs.«01_k».proof.Proof.Gen.AdamSquare.Launch
public import proofs.«01_k».proof.Proof.Gen.AdamSquare.Points
public import proofs.«01_k».proof.Proof.Gen.AdamSquare.Frame
public import proofs.«01_k».proof.Proof.Gen.AdamSquareIdeal
public import proofs.«01_k».proof.Proof.Gen.AdamSquareIdeal.Skeleton
public import proofs.«01_k».proof.Proof.Gen.AdamSquareIdeal.Launch
public import proofs.«01_k».proof.Proof.Gen.AdamSquareIdeal.Points
public import proofs.«01_k».proof.Proof.Gen.AdamSquareIdeal.Frame
public import proofs.«01_k».proof.Proof.Gen.AdamSquareRefIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.UpDx.Gen.facts, Cert.UpDxIdeal.Gen.facts, Cert.UpDxRefIdeal.Gen.facts, Cert.UpDw.Gen.facts, Cert.UpDwIdeal.Gen.facts, Cert.UpDwRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.InDx.Gen.facts, Cert.InDxIdeal.Gen.facts, Cert.InDxRefIdeal.Gen.facts, Cert.InDw.Gen.facts, Cert.InDwIdeal.Gen.facts, Cert.InDwRefIdeal.Gen.facts, Cert.OutDx.Gen.facts, Cert.OutDxIdeal.Gen.facts, Cert.OutDxRefIdeal.Gen.facts, Cert.SquareDw.Gen.facts, Cert.SquareDwIdeal.Gen.facts, Cert.SquareDwRefIdeal.Gen.facts, Cert.ODx.Gen.facts, Cert.ODxIdeal.Gen.facts, Cert.ODxRefIdeal.Gen.facts, Cert.QDx.Gen.facts, Cert.QDxIdeal.Gen.facts, Cert.QDxRefIdeal.Gen.facts, Cert.KeyDx.Gen.facts, Cert.KeyDxIdeal.Gen.facts, Cert.KeyDxRefIdeal.Gen.facts, Cert.ValueDx.Gen.facts, Cert.ValueDxIdeal.Gen.facts, Cert.ValueDxRefIdeal.Gen.facts, Cert.Up.Gen.facts, Cert.UpIdeal.Gen.facts, Cert.UpRefIdeal.Gen.facts, Cert.Down.Gen.facts, Cert.DownIdeal.Gen.facts, Cert.DownRefIdeal.Gen.facts, Cert.In.Gen.facts, Cert.InIdeal.Gen.facts, Cert.InRefIdeal.Gen.facts, Cert.Out.Gen.facts, Cert.OutIdeal.Gen.facts, Cert.OutRefIdeal.Gen.facts, Cert.Kv.Gen.facts, Cert.KvIdeal.Gen.facts, Cert.KvRefIdeal.Gen.facts, Cert.Q.Gen.facts, Cert.QIdeal.Gen.facts, Cert.QRefIdeal.Gen.facts, Cert.DownDxTop.Gen.facts, Cert.DownDxTopIdeal.Gen.facts, Cert.DownDxTopRefIdeal.Gen.facts, Cert.SiluBwd.Gen.facts, Cert.SiluBwdIdeal.Gen.facts, Cert.SiluBwdRefIdeal.Gen.facts, Cert.Silu.Gen.facts, Cert.SiluIdeal.Gen.facts, Cert.SiluRefIdeal.Gen.facts, Cert.GateFwd.Gen.facts, Cert.GateFwdIdeal.Gen.facts, Cert.GateFwdRefIdeal.Gen.facts, Cert.Norm.Gen.facts, Cert.NormIdeal.Gen.facts, Cert.NormRefIdeal.Gen.facts, Cert.NormFirst.Gen.facts, Cert.NormFirstIdeal.Gen.facts, Cert.NormFirstRefIdeal.Gen.facts, Cert.NormTwo.Gen.facts, Cert.NormTwoIdeal.Gen.facts, Cert.NormTwoRefIdeal.Gen.facts, Cert.NormBwd.Gen.facts, Cert.NormBwdIdeal.Gen.facts, Cert.NormBwdRefIdeal.Gen.facts, Cert.NormBwdTwo.Gen.facts, Cert.NormBwdTwoIdeal.Gen.facts, Cert.NormBwdTwoRefIdeal.Gen.facts, Cert.Loss.Gen.facts, Cert.LossIdeal.Gen.facts, Cert.LossRefIdeal.Gen.facts, Cert.AdamKv.Gen.facts, Cert.AdamKvIdeal.Gen.facts, Cert.AdamKvRefIdeal.Gen.facts, Cert.AdamSquare.Gen.facts, Cert.AdamSquareIdeal.Gen.facts, Cert.AdamSquareRefIdeal.Gen.facts, Cert.AdamIn.Gen.facts, Cert.AdamInIdeal.Gen.facts, Cert.AdamInRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.Pre_finite.Gen.facts,
  fun m ρ _ => Cert.Kernel.Gen.frame m ρ, fun m ρ _ => Cert.KernelIdeal.Gen.frame m ρ, Cert.Gate.frameR,
  fun m ρ _ => Cert.UpDx.Gen.frame m ρ, fun m ρ _ => Cert.UpDxIdeal.Gen.frame m ρ, Cert.UpDxIdeal.Products.frameR,
  fun m ρ _ => Cert.UpDw.Gen.frame m ρ, fun m ρ _ => Cert.UpDwIdeal.Gen.frame m ρ, Cert.UpDwIdeal.Products.frameR,
  fun m ρ _ => Cert.DownDx.Gen.frame m ρ, fun m ρ _ => Cert.DownDxIdeal.Gen.frame m ρ, Cert.DownDxIdeal.Products.frameR,
  fun m ρ _ => Cert.DownDw.Gen.frame m ρ, fun m ρ _ => Cert.DownDwIdeal.Gen.frame m ρ, Cert.DownDwIdeal.Products.frameR,
  fun m ρ _ => Cert.InDx.Gen.frame m ρ, fun m ρ _ => Cert.InDxIdeal.Gen.frame m ρ, Cert.InDxIdeal.Products.frameR,
  fun m ρ _ => Cert.InDw.Gen.frame m ρ, fun m ρ _ => Cert.InDwIdeal.Gen.frame m ρ, Cert.InDwIdeal.Products.frameR,
  fun m ρ _ => Cert.OutDx.Gen.frame m ρ, fun m ρ _ => Cert.OutDxIdeal.Gen.frame m ρ, Cert.OutDxIdeal.Products.frameR,
  fun m ρ _ => Cert.SquareDw.Gen.frame m ρ, fun m ρ _ => Cert.SquareDwIdeal.Gen.frame m ρ, Cert.SquareDwIdeal.Products.frameR,
  fun m ρ _ => Cert.ODx.Gen.frame m ρ, fun m ρ _ => Cert.ODxIdeal.Gen.frame m ρ, Cert.ODxIdeal.Products.frameR,
  fun m ρ _ => Cert.QDx.Gen.frame m ρ, fun m ρ _ => Cert.QDxIdeal.Gen.frame m ρ, Cert.QDxIdeal.Products.frameR,
  fun m ρ _ => Cert.KeyDx.Gen.frame m ρ, fun m ρ _ => Cert.KeyDxIdeal.Gen.frame m ρ, Cert.KeyDxIdeal.Products.frameR,
  fun m ρ _ => Cert.ValueDx.Gen.frame m ρ, fun m ρ _ => Cert.ValueDxIdeal.Gen.frame m ρ, Cert.ValueDxIdeal.Products.frameR,
  fun m ρ _ => Cert.Up.Gen.frame m ρ, fun m ρ _ => Cert.UpIdeal.Gen.frame m ρ, Cert.UpIdeal.Products.frameR,
  fun m ρ _ => Cert.Down.Gen.frame m ρ, fun m ρ _ => Cert.DownIdeal.Gen.frame m ρ, Cert.DownIdeal.Products.frameR,
  fun m ρ _ => Cert.In.Gen.frame m ρ, fun m ρ _ => Cert.InIdeal.Gen.frame m ρ, Cert.InIdeal.Products.frameR,
  fun m ρ _ => Cert.Out.Gen.frame m ρ, fun m ρ _ => Cert.OutIdeal.Gen.frame m ρ, Cert.OutIdeal.Products.frameR,
  fun m ρ _ => Cert.Kv.Gen.frame m ρ, fun m ρ _ => Cert.KvIdeal.Gen.frame m ρ, Cert.KvIdeal.Products.frameR,
  fun m ρ _ => Cert.Q.Gen.frame m ρ, fun m ρ _ => Cert.QIdeal.Gen.frame m ρ, Cert.QIdeal.Products.frameR,
  fun m ρ _ => Cert.DownDxTop.Gen.frame m ρ, fun m ρ _ => Cert.DownDxTopIdeal.Gen.frame m ρ, Cert.DownDxTopIdeal.Products.frameR,
  fun m ρ _ => Cert.SiluBwd.Gen.frame m ρ, fun m ρ _ => Cert.SiluBwdIdeal.Gen.frame m ρ, fun m ρ _ => Cert.SiluBwdIdeal.Gen.frame m ρ,
  Cert.SiluBwdIdeal.Rows.frameR, fun m ρ _ => Cert.SiluBwdIdeal.Rows.frameR m ρ trivial,
  fun m ρ _ => Cert.Silu.Gen.frame m ρ, fun m ρ _ => Cert.SiluIdeal.Gen.frame m ρ, Cert.SiluIdeal.Rows.frameR,
  fun m ρ _ => Cert.GateFwd.Gen.frame m ρ, fun m ρ _ => Cert.GateFwdIdeal.Gen.frame m ρ, Cert.GateFwdIdeal.Rows.frameR,
  fun m ρ _ => Cert.Norm.Gen.frame m ρ, fun m ρ _ => Cert.NormIdeal.Gen.frame m ρ, Cert.NormIdeal.Rows.frameR,
  fun m ρ _ => Cert.NormFirst.Gen.frame m ρ, fun m ρ _ => Cert.NormFirstIdeal.Gen.frame m ρ, Cert.NormFirstIdeal.Rows.frameR,
  fun m ρ _ => Cert.NormTwo.Gen.frame m ρ, fun m ρ _ => Cert.NormTwoIdeal.Gen.frame m ρ, Cert.NormTwoIdeal.Rows.frameR,
  fun m ρ _ => Cert.NormBwd.Gen.frame m ρ, fun m ρ _ => Cert.NormBwdIdeal.Gen.frame m ρ, Cert.NormBwdIdeal.Rows.frameR,
  fun m ρ _ => Cert.NormBwdTwo.Gen.frame m ρ, fun m ρ _ => Cert.NormBwdTwoIdeal.Gen.frame m ρ, Cert.NormBwdTwoIdeal.Rows.frameR,
  fun m ρ _ => Cert.Loss.Gen.frame m ρ, fun m ρ _ => Cert.LossIdeal.Gen.frame m ρ, Cert.LossIdeal.Rows.frameR,
  fun m ρ _ => Cert.AdamKv.Gen.frame m ρ, fun m ρ _ => Cert.AdamKvIdeal.Gen.frame m ρ, Cert.AdamKvIdeal.Rows.frameR,
  fun m ρ _ => Cert.AdamSquare.Gen.frame m ρ, fun m ρ _ => Cert.AdamSquareIdeal.Gen.frame m ρ, Cert.AdamSquareIdeal.Rows.frameR,
  fun m ρ _ => Cert.AdamIn.Gen.frame m ρ, fun m ρ _ => Cert.AdamInIdeal.Gen.frame m ρ, Cert.AdamInIdeal.Rows.frameR,
  fun m ρ _ => Cert.AdamUp.Gen.frame m ρ, fun m ρ _ => Cert.AdamUpIdeal.Gen.frame m ρ, Cert.AdamUpIdeal.Rows.frameR,
  fun m ρ _ => Cert.AdamDown.Gen.frame m ρ, fun m ρ _ => Cert.AdamDownIdeal.Gen.frame m ρ, Cert.AdamDownIdeal.Rows.frameR,
  trivial, Cert.Gate.same,
  trivial, Cert.UpDxIdeal.Products.same,
  trivial, Cert.UpDwIdeal.Products.same,
  trivial, Cert.DownDxIdeal.Products.same,
  trivial, Cert.DownDwIdeal.Products.same,
  trivial, Cert.InDxIdeal.Products.same,
  trivial, Cert.InDwIdeal.Products.same,
  trivial, Cert.OutDxIdeal.Products.same,
  trivial, Cert.SquareDwIdeal.Products.same,
  trivial, Cert.ODxIdeal.Products.same,
  trivial, Cert.QDxIdeal.Products.same,
  trivial, Cert.KeyDxIdeal.Products.same,
  trivial, Cert.ValueDxIdeal.Products.same,
  trivial, Cert.UpIdeal.Products.same,
  trivial, Cert.DownIdeal.Products.same,
  trivial, Cert.InIdeal.Products.same,
  trivial, Cert.OutIdeal.Products.same,
  trivial, Cert.KvIdeal.Products.same,
  trivial, Cert.QIdeal.Products.same,
  trivial, Cert.DownDxTopIdeal.Products.same,
  trivial, Cert.SiluBwdIdeal.Rows.same,
  trivial, Cert.SiluIdeal.Rows.same,
  trivial, Cert.GateFwdIdeal.Rows.same,
  trivial, Cert.NormIdeal.Rows.same,
  trivial, Cert.NormFirstIdeal.Rows.same,
  trivial, Cert.NormTwoIdeal.Rows.same,
  trivial, Cert.NormBwdIdeal.Rows.same,
  trivial, Cert.NormBwdTwoIdeal.Rows.same,
  trivial, Cert.LossIdeal.Rows.same,
  trivial, Cert.AdamKvIdeal.Rows.same,
  trivial, Cert.AdamSquareIdeal.Rows.same,
  trivial, Cert.AdamInIdeal.Rows.same,
  trivial, Cert.AdamUpIdeal.Rows.same,
  trivial, Cert.AdamDownIdeal.Rows.same⟩

end Cert.Proof

end
